-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S2x1024x8192 : Shape := ⟨3, ![2, 1024, 8192]⟩
abbrev S8192 : Shape := ⟨1, ![8192]⟩
abbrev S2048x8192 : Shape := ⟨2, ![2048, 8192]⟩
abbrev S32x1x256 : Shape := ⟨3, ![32, 1, 256]⟩
abbrev S2048x4096 : Shape := ⟨2, ![2048, 4096]⟩
abbrev S2x64x1024 : Shape := ⟨3, ![2, 64, 1024]⟩
abbrev S256x2048 : Shape := ⟨2, ![256, 2048]⟩
abbrev S256x1024 : Shape := ⟨2, ![256, 1024]⟩
abbrev S1x64x256 : Shape := ⟨3, ![1, 64, 256]⟩
abbrev S32x256x256 : Shape := ⟨3, ![32, 256, 256]⟩
abbrev S4x16x256 : Shape := ⟨3, ![4, 16, 256]⟩
abbrev S2x2x72x128 : Shape := ⟨4, ![2, 2, 72, 128]⟩
abbrev S2x8x256 : Shape := ⟨3, ![2, 8, 256]⟩
abbrev S256x256 : Shape := ⟨2, ![256, 256]⟩
abbrev S1x1x256 : Shape := ⟨3, ![1, 1, 256]⟩
abbrev S1x256 : Shape := ⟨2, ![1, 256]⟩
abbrev S1x256x256 : Shape := ⟨3, ![1, 256, 256]⟩
abbrev S128x256 : Shape := ⟨2, ![128, 256]⟩
abbrev S16x8x256 : Shape := ⟨3, ![16, 8, 256]⟩
abbrev S8x256 : Shape := ⟨2, ![8, 256]⟩
abbrev S8x128 : Shape := ⟨2, ![8, 128]⟩
abbrev S1x1x8x128 : Shape := ⟨4, ![1, 1, 8, 128]⟩
abbrev S1x8x128 : Shape := ⟨3, ![1, 8, 128]⟩
abbrev S64x256 : Shape := ⟨2, ![64, 256]⟩
abbrev S256x128 : Shape := ⟨2, ![256, 128]⟩
abbrev S512x128 : Shape := ⟨2, ![512, 128]⟩
abbrev S2x1024x4096 : Shape := ⟨3, ![2, 1024, 4096]⟩
abbrev S2x1024x64 : Shape := ⟨3, ![2, 1024, 64]⟩

abbrev nBuf : Space → Nat
  | .hbm => 8
  | .vmem => 11
  | .smem => 0
  | _ => 0

abbrev bufTy : (tb : Table) → Fin (tcTables nBuf tb) → BufTy
  | .hbm, ⟨0, _⟩ => ⟨S2x1024x8192, .bf16⟩
  | .hbm, ⟨1, _⟩ => ⟨S8192, .f32⟩
  | .hbm, ⟨2, _⟩ => ⟨S2048x8192, .bf16⟩
  | .hbm, ⟨3, _⟩ => ⟨S32x1x256, .f32⟩
  | .hbm, ⟨4, _⟩ => ⟨S2048x4096, .i8⟩
  | .hbm, ⟨5, _⟩ => ⟨S2x64x1024, .f32⟩
  | .hbm, ⟨6, _⟩ => ⟨S2x1024x4096, .i8⟩
  | .hbm, ⟨7, _⟩ => ⟨S2x1024x64, .f32⟩
  | .local _ .vmem, ⟨0, _⟩ => ⟨S256x2048, .bf16⟩
  | .local _ .vmem, ⟨1, _⟩ => ⟨S256x2048, .bf16⟩
  | .local _ .vmem, ⟨2, _⟩ => ⟨S32x1x256, .f32⟩
  | .local _ .vmem, ⟨3, _⟩ => ⟨S256x1024, .i8⟩
  | .local _ .vmem, ⟨4, _⟩ => ⟨S256x1024, .i8⟩
  | .local _ .vmem, ⟨5, _⟩ => ⟨S1x64x256, .f32⟩
  | .local _ .vmem, ⟨6, _⟩ => ⟨S1x64x256, .f32⟩
  | .local _ .vmem, ⟨7, _⟩ => ⟨S32x256x256, .bf16⟩
  | .local _ .vmem, ⟨8, _⟩ => ⟨S4x16x256, .f32⟩
  | .local _ .vmem, ⟨9, _⟩ => ⟨S2x2x72x128, .f32⟩
  | .local _ .vmem, ⟨10, _⟩ => ⟨S2x8x256, .f32⟩
  | _, _ => ⟨S2x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_507 : BitVec 32 := 0#32
  let c32_i32 : BitVec 32 := 32#32
  let v937 : BitVec 32 := Scalar.addi c0_i32_507 c32_i32
  let c1_i32_508 : BitVec 32 := 1#32
  ⟨c0_i32_507, v937, c1_i32_508⟩
def k0_off1 (k0_t1 : Fin k0_t1_loop.trips) : Fin 3 → Nat :=
  let c0_i32_507 : BitVec 32 := 0#32
  let c1_i32_508 : BitVec 32 := 1#32
  let arg10 : BitVec 32 := Scf.iv c0_i32_507 c1_i32_508 k0_t1
  let v938 : Index := Scalar.indexCast arg10
  let c0_510 : Index := 0#32
  let c0_511 : Index := 0#32
  ![v938.toNat, 0, 0]
def k0_off2 (k0_t1 : Fin k0_t1_loop.trips) : Fin 3 → Nat :=
  let c0_i32_507 : BitVec 32 := 0#32
  let c1_i32_508 : BitVec 32 := 1#32
  let arg10 : BitVec 32 := Scf.iv c0_i32_507 c1_i32_508 k0_t1
  let v944 : Index := Scalar.indexCast arg10
  let c0_512 : Index := 0#32
  let c0_513 : Index := 0#32
  ![v944.toNat, 0, 0]
def k0_off3 (i : grid0.Coords) (c0_i32_3 : BitVec 32) : Fin 3 → Nat :=
  let arg1 : BitVec 32 := BitVec.ofNat 32 (i 1).val
  let c8_i32 : BitVec 32 := 8#32
  let v7 : BitVec 32 := Scalar.muli arg1 c8_i32
  let v8 : BitVec 32 := Scalar.addi v7 c0_i32_3
  let v9 : Index := Scalar.indexCast v8
  let c0_4 : Index := 0#32
  let c0_5 : Index := 0#32
  ![v9.toNat, 0, 0]
def k0_off4 (i : grid0.Coords) : Fin 3 → Nat :=
  let arg1 : BitVec 32 := BitVec.ofNat 32 (i 1).val
  let v164 : Index := Scalar.indexCast arg1
  let c0_115 : Index := 0#32
  let c0_116 : Index := 0#32
  ![v164.toNat, 0, 0]
def k0_off5 (i : grid0.Coords) : Fin 3 → Nat :=
  let arg1 : BitVec 32 := BitVec.ofNat 32 (i 1).val
  let v204 : Index := Scalar.indexCast arg1
  let c0_157 : Index := 0#32
  let c128 : Index := 128#32
  ![v204.toNat, 0, 128]
def k0_off6 (i : grid0.Coords) : Fin 3 → Nat :=
  let arg1 : BitVec 32 := BitVec.ofNat 32 (i 1).val
  let v556 : Index := Scalar.indexCast arg1
  let c8 : Index := 8#32
  let c0_351 : Index := 0#32
  ![v556.toNat, 8, 0]
def k0_off7 (i : grid0.Coords) : Fin 3 → Nat :=
  let arg1 : BitVec 32 := BitVec.ofNat 32 (i 1).val
  let v596 : Index := Scalar.indexCast arg1
  let c8_392 : Index := 8#32
  let c128_393 : Index := 128#32
  ![v596.toNat, 8, 128]
def k0_cond2 (i : grid0.Coords) : BitVec 1 :=
  let arg1 : BitVec 32 := BitVec.ofNat 32 (i 1).val
  let c3_i32_460 : BitVec 32 := 3#32
  let v789 : BitVec 1 := Scalar.cmpi .eq arg1 c3_i32_460
  let v790 : BitVec 32 := Scalar.extui v789
  let c0_i32_461 : BitVec 32 := 0#32
  let v791 : BitVec 1 := Scalar.cmpi .ne v790 c0_i32_461
  v791

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference.lean ====
abbrev S2x1024x8192 : Shape := ⟨3, ![2, 1024, 8192]⟩
abbrev S8192 : Shape := ⟨1, ![8192]⟩
abbrev S1x1x8192 : Shape := ⟨3, ![1, 1, 8192]⟩
abbrev S2x1024x4096x2x1 : Shape := ⟨5, ![2, 1024, 4096, 2, 1]⟩
abbrev S2x1024x4096x1x1 : Shape := ⟨5, ![2, 1024, 4096, 1, 1]⟩
abbrev S2x1024x4096x1 : Shape := ⟨4, ![2, 1024, 4096, 1]⟩
abbrev S2x1024x2048x2x2 : Shape := ⟨5, ![2, 1024, 2048, 2, 2]⟩
abbrev S2x1024x2048x1x2 : Shape := ⟨5, ![2, 1024, 2048, 1, 2]⟩
abbrev S2x1024x2048x2 : Shape := ⟨4, ![2, 1024, 2048, 2]⟩
abbrev S2x1024x1024x2x4 : Shape := ⟨5, ![2, 1024, 1024, 2, 4]⟩
abbrev S2x1024x1024x1x4 : Shape := ⟨5, ![2, 1024, 1024, 1, 4]⟩
abbrev S2x1024x1024x4 : Shape := ⟨4, ![2, 1024, 1024, 4]⟩
abbrev S2x1024x512x2x8 : Shape := ⟨5, ![2, 1024, 512, 2, 8]⟩
abbrev S2x1024x512x1x8 : Shape := ⟨5, ![2, 1024, 512, 1, 8]⟩
abbrev S2x1024x512x8 : Shape := ⟨4, ![2, 1024, 512, 8]⟩
abbrev S2x1024x256x2x16 : Shape := ⟨5, ![2, 1024, 256, 2, 16]⟩
abbrev S2x1024x256x1x16 : Shape := ⟨5, ![2, 1024, 256, 1, 16]⟩
abbrev S2x1024x256x16 : Shape := ⟨4, ![2, 1024, 256, 16]⟩
abbrev S2x1024x128x2x32 : Shape := ⟨5, ![2, 1024, 128, 2, 32]⟩
abbrev S2x1024x128x1x32 : Shape := ⟨5, ![2, 1024, 128, 1, 32]⟩
abbrev S2x1024x128x32 : Shape := ⟨4, ![2, 1024, 128, 32]⟩
abbrev S2x1024x64x2x64 : Shape := ⟨5, ![2, 1024, 64, 2, 64]⟩
abbrev S2x1024x64x1x64 : Shape := ⟨5, ![2, 1024, 64, 1, 64]⟩
abbrev S2x1024x64x64 : Shape := ⟨4, ![2, 1024, 64, 64]⟩
abbrev S_ : Shape := ⟨0, ![]⟩
abbrev S2x1024x64x128 : Shape := ⟨4, ![2, 1024, 64, 128]⟩
abbrev S2x1024x64 : Shape := ⟨3, ![2, 1024, 64]⟩
abbrev S2x1024x64x1 : Shape := ⟨4, ![2, 1024, 64, 1]⟩
abbrev S2x1024x4096x2 : Shape := ⟨4, ![2, 1024, 4096, 2]⟩
abbrev S2x1024x4096 : Shape := ⟨3, ![2, 1024, 4096]⟩

abbrev nBuf : Space → Nat
  | .hbm => 128
  | .vmem => 0
  | .smem => 0
  | _ => 0

abbrev bufTy : (tb : Table) → Fin (tcTables nBuf tb) → BufTy
  | .hbm, ⟨0, _⟩ => ⟨S2x1024x8192, .bf16⟩
  | .hbm, ⟨1, _⟩ => ⟨S8192, .f32⟩
  | .hbm, ⟨2, _⟩ => ⟨S2x1024x8192, .f32⟩
  | .hbm, ⟨3, _⟩ => ⟨S1x1x8192, .f32⟩
  | .hbm, ⟨4, _⟩ => ⟨S2x1024x8192, .f32⟩
  | .hbm, ⟨5, _⟩ => ⟨S2x1024x8192, .f32⟩
  | .hbm, ⟨6, _⟩ => ⟨S2x1024x4096x2x1, .f32⟩
  | .hbm, ⟨7, _⟩ => ⟨S2x1024x4096x1x1, .f32⟩
  | .hbm, ⟨8, _⟩ => ⟨S2x1024x4096x1, .f32⟩
  | .hbm, ⟨9, _⟩ => ⟨S2x1024x4096x1x1, .f32⟩
  | .hbm, ⟨10, _⟩ => ⟨S2x1024x4096x1, .f32⟩
  | .hbm, ⟨11, _⟩ => ⟨S2x1024x4096x1, .f32⟩
  | .hbm, ⟨12, _⟩ => ⟨S2x1024x4096x1, .f32⟩
  | .hbm, ⟨13, _⟩ => ⟨S2x1024x4096x1x1, .f32⟩
  | .hbm, ⟨14, _⟩ => ⟨S2x1024x4096x1x1, .f32⟩
  | .hbm, ⟨15, _⟩ => ⟨S2x1024x4096x2x1, .f32⟩
  | .hbm, ⟨16, _⟩ => ⟨S2x1024x8192, .f32⟩
  | .hbm, ⟨17, _⟩ => ⟨S2x1024x2048x2x2, .f32⟩
  | .hbm, ⟨18, _⟩ => ⟨S2x1024x2048x1x2, .f32⟩
  | .hbm, ⟨19, _⟩ => ⟨S2x1024x2048x2, .f32⟩
  | .hbm, ⟨20, _⟩ => ⟨S2x1024x2048x1x2, .f32⟩
  | .hbm, ⟨21, _⟩ => ⟨S2x1024x2048x2, .f32⟩
  | .hbm, ⟨22, _⟩ => ⟨S2x1024x2048x2, .f32⟩
  | .hbm, ⟨23, _⟩ => ⟨S2x1024x2048x2, .f32⟩
  | .hbm, ⟨24, _⟩ => ⟨S2x1024x2048x1x2, .f32⟩
  | .hbm, ⟨25, _⟩ => ⟨S2x1024x2048x1x2, .f32⟩
  | .hbm, ⟨26, _⟩ => ⟨S2x1024x2048x2x2, .f32⟩
  | .hbm, ⟨27, _⟩ => ⟨S2x1024x8192, .f32⟩
  | .hbm, ⟨28, _⟩ => ⟨S2x1024x1024x2x4, .f32⟩
  | .hbm, ⟨29, _⟩ => ⟨S2x1024x1024x1x4, .f32⟩
  | .hbm, ⟨30, _⟩ => ⟨S2x1024x1024x4, .f32⟩
  | .hbm, ⟨31, _⟩ => ⟨S2x1024x1024x1x4, .f32⟩
  | .hbm, ⟨32, _⟩ => ⟨S2x1024x1024x4, .f32⟩
  | .hbm, ⟨33, _⟩ => ⟨S2x1024x1024x4, .f32⟩
  | .hbm, ⟨34, _⟩ => ⟨S2x1024x1024x4, .f32⟩
  | .hbm, ⟨35, _⟩ => ⟨S2x1024x1024x1x4, .f32⟩
  | .hbm, ⟨36, _⟩ => ⟨S2x1024x1024x1x4, .f32⟩
  | .hbm, ⟨37, _⟩ => ⟨S2x1024x1024x2x4, .f32⟩
  | .hbm, ⟨38, _⟩ => ⟨S2x1024x8192, .f32⟩
  | .hbm, ⟨39, _⟩ => ⟨S2x1024x512x2x8, .f32⟩
  | .hbm, ⟨40, _⟩ => ⟨S2x1024x512x1x8, .f32⟩
  | .hbm, ⟨41, _⟩ => ⟨S2x1024x512x8, .f32⟩
  | .hbm, ⟨42, _⟩ => ⟨S2x1024x512x1x8, .f32⟩
  | .hbm, ⟨43, _⟩ => ⟨S2x1024x512x8, .f32⟩
  | .hbm, ⟨44, _⟩ => ⟨S2x1024x512x8, .f32⟩
  | .hbm, ⟨45, _⟩ => ⟨S2x1024x512x8, .f32⟩
  | .hbm, ⟨46, _⟩ => ⟨S2x1024x512x1x8, .f32⟩
  | .hbm, ⟨47, _⟩ => ⟨S2x1024x512x1x8, .f32⟩
  | .hbm, ⟨48, _⟩ => ⟨S2x1024x512x2x8, .f32⟩
  | .hbm, ⟨49, _⟩ => ⟨S2x1024x8192, .f32⟩
  | .hbm, ⟨50, _⟩ => ⟨S2x1024x256x2x16, .f32⟩
  | .hbm, ⟨51, _⟩ => ⟨S2x1024x256x1x16, .f32⟩
  | .hbm, ⟨52, _⟩ => ⟨S2x1024x256x16, .f32⟩
  | .hbm, ⟨53, _⟩ => ⟨S2x1024x256x1x16, .f32⟩
  | .hbm, ⟨54, _⟩ => ⟨S2x1024x256x16, .f32⟩
  | .hbm, ⟨55, _⟩ => ⟨S2x1024x256x16, .f32⟩
  | .hbm, ⟨56, _⟩ => ⟨S2x1024x256x16, .f32⟩
  | .hbm, ⟨57, _⟩ => ⟨S2x1024x256x1x16, .f32⟩
  | .hbm, ⟨58, _⟩ => ⟨S2x1024x256x1x16, .f32⟩
  | .hbm, ⟨59, _⟩ => ⟨S2x1024x256x2x16, .f32⟩
  | .hbm, ⟨60, _⟩ => ⟨S2x1024x8192, .f32⟩
  | .hbm, ⟨61, _⟩ => ⟨S2x1024x128x2x32, .f32⟩
  | .hbm, ⟨62, _⟩ => ⟨S2x1024x128x1x32, .f32⟩
  | .hbm, ⟨63, _⟩ => ⟨S2x1024x128x32, .f32⟩
  | .hbm, ⟨64, _⟩ => ⟨S2x1024x128x1x32, .f32⟩
  | .hbm, ⟨65, _⟩ => ⟨S2x1024x128x32, .f32⟩
  | .hbm, ⟨66, _⟩ => ⟨S2x1024x128x32, .f32⟩
  | .hbm, ⟨67, _⟩ => ⟨S2x1024x128x32, .f32⟩
  | .hbm, ⟨68, _⟩ => ⟨S2x1024x128x1x32, .f32⟩
  | .hbm, ⟨69, _⟩ => ⟨S2x1024x128x1x32, .f32⟩
  | .hbm, ⟨70, _⟩ => ⟨S2x1024x128x2x32, .f32⟩
  | .hbm, ⟨71, _⟩ => ⟨S2x1024x8192, .f32⟩
  | .hbm, ⟨72, _⟩ => ⟨S2x1024x64x2x64, .f32⟩
  | .hbm, ⟨73, _⟩ => ⟨S2x1024x64x1x64, .f32⟩
  | .hbm, ⟨74, _⟩ => ⟨S2x1024x64x64, .f32⟩
  | .hbm, ⟨75, _⟩ => ⟨S2x1024x64x1x64, .f32⟩
  | .hbm, ⟨76, _⟩ => ⟨S2x1024x64x64, .f32⟩
  | .hbm, ⟨77, _⟩ => ⟨S2x1024x64x64, .f32⟩
  | .hbm, ⟨78, _⟩ => ⟨S2x1024x64x64, .f32⟩
  | .hbm, ⟨79, _⟩ => ⟨S2x1024x64x1x64, .f32⟩
  | .hbm, ⟨80, _⟩ => ⟨S2x1024x64x1x64, .f32⟩
  | .hbm, ⟨81, _⟩ => ⟨S2x1024x64x2x64, .f32⟩
  | .hbm, ⟨82, _⟩ => ⟨S2x1024x8192, .f32⟩
  | .hbm, ⟨83, _⟩ => ⟨S_, .f32⟩
  | .hbm, ⟨84, _⟩ => ⟨S2x1024x8192, .f32⟩
  | .hbm, ⟨85, _⟩ => ⟨S2x1024x8192, .f32⟩
  | .hbm, ⟨86, _⟩ => ⟨S2x1024x64x128, .f32⟩
  | .hbm, ⟨87, _⟩ => ⟨S2x1024x64x128, .f32⟩
  | .hbm, ⟨88, _⟩ => ⟨S_, .f32⟩
  | .hbm, ⟨89, _⟩ => ⟨S2x1024x64, .f32⟩
  | .hbm, ⟨90, _⟩ => ⟨S_, .f32⟩
  | .hbm, ⟨91, _⟩ => ⟨S2x1024x64, .f32⟩
  | .hbm, ⟨92, _⟩ => ⟨S2x1024x64, .i1⟩
  | .hbm, ⟨93, _⟩ => ⟨S_, .f32⟩
  | .hbm, ⟨94, _⟩ => ⟨S2x1024x64, .f32⟩
  | .hbm, ⟨95, _⟩ => ⟨S2x1024x64, .f32⟩
  | .hbm, ⟨96, _⟩ => ⟨S_, .f32⟩
  | .hbm, ⟨97, _⟩ => ⟨S2x1024x64, .f32⟩
  | .hbm, ⟨98, _⟩ => ⟨S2x1024x64, .f32⟩
  | .hbm, ⟨99, _⟩ => ⟨S2x1024x64x1, .f32⟩
  | .hbm, ⟨100, _⟩ => ⟨S2x1024x64x128, .f32⟩
  | .hbm, ⟨101, _⟩ => ⟨S2x1024x64x128, .f32⟩
  | .hbm, ⟨102, _⟩ => ⟨S2x1024x64x128, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S2x1024x64x128, .f32⟩
  | .hbm, ⟨107, _⟩ => ⟨S2x1024x64x128, .f32⟩
  | .hbm, ⟨108, _⟩ => ⟨S_, .f32⟩
  | .hbm, ⟨109, _⟩ => ⟨S2x1024x64x128, .f32⟩
  | .hbm, ⟨110, _⟩ => ⟨S2x1024x64x128, .f32⟩
  | .hbm, ⟨111, _⟩ => ⟨S2x1024x64x128, .i32⟩
  | .hbm, ⟨112, _⟩ => ⟨S2x1024x64x128, .i8⟩
  | .hbm, ⟨113, _⟩ => ⟨S2x1024x8192, .i8⟩
  | .hbm, ⟨114, _⟩ => ⟨S2x1024x8192, .i32⟩
  | .hbm, ⟨115, _⟩ => ⟨S_, .i32⟩
  | .hbm, ⟨116, _⟩ => ⟨S2x1024x8192, .i32⟩
  | .hbm, ⟨117, _⟩ => ⟨S2x1024x8192, .i32⟩
  | .hbm, ⟨118, _⟩ => ⟨S2x1024x4096x2, .i32⟩
  | .hbm, ⟨119, _⟩ => ⟨S2x1024x4096x1, .i32⟩
  | .hbm, ⟨120, _⟩ => ⟨S2x1024x4096, .i32⟩
  | .hbm, ⟨121, _⟩ => ⟨S2x1024x4096x1, .i32⟩
  | .hbm, ⟨122, _⟩ => ⟨S2x1024x4096, .i32⟩
  | .hbm, ⟨123, _⟩ => ⟨S_, .i32⟩
  | .hbm, ⟨124, _⟩ => ⟨S2x1024x4096, .i32⟩
  | .hbm, ⟨125, _⟩ => ⟨S2x1024x4096, .i32⟩
  | .hbm, ⟨126, _⟩ => ⟨S2x1024x4096, .i32⟩
  | .hbm, ⟨127, _⟩ => ⟨S2x1024x4096, .i8⟩
  | _, _ => ⟨S2x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_cst : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_cst_0 : Ref sig .tc := ⟨.hbm, 88, rfl⟩
abbrev main_v85 : Ref sig .tc := ⟨.hbm, 89, rfl⟩
abbrev main_cst_1 : Ref sig .tc := ⟨.hbm, 90, rfl⟩
abbrev main_v86 : Ref sig .tc := ⟨.hbm, 91, rfl⟩
abbrev main_v87 : Ref sig .tc := ⟨.hbm, 92, rfl⟩
abbrev main_cst_2 : Ref sig .tc := ⟨.hbm, 93, rfl⟩
abbrev main_v88 : Ref sig .tc := ⟨.hbm, 94, rfl⟩
abbrev main_v89 : Ref sig .tc := ⟨.hbm, 95, rfl⟩
abbrev main_cst_3 : Ref sig .tc := ⟨.hbm, 96, rfl⟩
abbrev main_call0_v0 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_cst_4 : Ref sig .tc := ⟨.hbm, 103, rfl⟩
abbrev main_cst_5 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_c : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_c_6 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩

abbrev nD : Nat := 1
abbrev τ : Topo := Topo.v7x

variable {F : FTy → Type} [FloatOps F]
-- ==== Proof.Hand.Runs.lean ====
/- What the runs of the kernel's body are stated over: the body's two branch conditions in closed form over the grid points,
   the staging and scratch memrefs at a point, and the carried scratch as part of the frame kit's invariant. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S32x256x256 .bf16 := Memref.whole cc0_scratch0
abbrev scM0_1 : Memref sig .tc .vmem S4x16x256 .f32 := Memref.whole cc0_scratch1
abbrev scM0_2 : Memref sig .tc .vmem S2x2x72x128 .f32 := Memref.whole cc0_scratch2
abbrev scM0_3 : Memref sig .tc .vmem S2x8x256 .f32 := Memref.whole cc0_scratch3
/-- The scratch `arg6` the kernel carries between points, as a view: what it holds is stated through it. -/
abbrev VS0_0 : View sig .tc .vmem S32x256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Hand.Spec.lean ====
/- What one point of the grid computes, as functions of the block of weights and of the Hadamard matrices. -/
module

public import proofs.«01_k».proof.Proof.Hand.Runs
public import Idealize.ShloMosaic.Lib.WholeRead
public import Idealize.ShloMosaic.Lib.Writes
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Pair `p`'s 256 columns of the block of weights. -/
def wS (x0 : Vec F S256x2048 .bf16) (p : ℕ) : Vec F S256x256 .bf16 :=
  fun z => x0 (ix2 (z 0) ⟨(256 * p + (z 1).val) % 2048, Nat.mod_lt _ (by decide)⟩)

/-- Pair `p`'s Hadamard matrix at point `i`. -/
def hS (i : grid0.Coords) (hs : Vec F S32x256x256 .bf16) (p : ℕ) : Vec F S1x256x256 .bf16 :=
  fun z => hs (ix3 ⟨(8 * (i 1).val + p) % 32, Nat.mod_lt _ (by decide)⟩ (z 1) (z 2))

/-- The transformed pair `p`: channels by rows. -/
def Yv (i : grid0.Coords) (x0 : Vec F S256x2048 .bf16) (hs : Vec F S32x256x256 .bf16) (p : ℕ) : FVec F S256x256 .f32 :=
  k0_pay14 (wS x0 p) (hS i hs p)

/-- The partial maxima of one group of a pair. -/
def Mx (w : Vec F S256x256 .bf16) (h : Vec F S1x256x256 .bf16) : ℕ → FVec F S8x256 .f32
  | 0 => k0_pay15 w h
  | _ => k0_pay18 w h

/-- Lane half `l` of the partial maxima. -/
def cellP (l : Fin 2) (M : FVec F S8x256 .f32) : FVec F S1x1x8x128 .f32 :=
  fun x => M (ix2 (x 2) ⟨128 * l.val + (x 3).val, by have h3 : (x 3).val < 128 := (x 3).isLt; have := l.isLt; omega⟩)

/-- The partial maxima as the slab holds them: row `9 t + s` is partial maximum `t` of group `s`. -/
def slabV (i : grid0.Coords) (x0 : Vec F S256x2048 .bf16) (hs : Vec F S32x256x256 .bf16) : Vec F S2x2x72x128 .f32 :=
  fun y => cellP (y 1) (Mx (wS x0 (4 * (y 0).val + ((y 2).val % 9) / 2)) (hS i hs (4 * (y 0).val + ((y 2).val % 9) / 2)) (((y 2).val % 9) % 2))
    (ix4 0 0 ⟨(y 2).val / 9, by have h2 : (y 2).val < 72 := (y 2).isLt; omega⟩ (y 3))

theorem slabRect_inb (a : Fin 2 × Fin 2 × Fin 8) : ∀ b, S1x1x8x128.size b = 0 ∨
    (![a.1.val, a.2.1.val, a.2.2.val, 0] : Fin 4 → ℕ) b + (![1, 1, 9, 1] : Fin 4 → ℕ) b * (S1x1x8x128.size b - 1) < S2x2x72x128.size b := by
  revert a; decide

/-- Where a group's partial maxima lie in the slab. -/
def slabRect (a : Fin 2 × Fin 2 × Fin 8) : Rect S2x2x72x128 :=
  ⟨⟨![a.1.val, a.2.1.val, a.2.2.val, 0], S1x1x8x128.size, ![1, 1, 9, 1], slabRect_inb a⟩, spos_1_1_9_1⟩

/-- A group's partial maxima stored in the slab. -/
def slabPiece (i : grid0.Coords) (x0 : Vec F S256x2048 .bf16) (hs : Vec F S32x256x256 .bf16) (a : Fin 2 × Fin 2 × Fin 8) :
    View.Piece (Elt F) S2x2x72x128 .f32 :=
  ⟨slabRect a, cellP a.2.1 (Mx (wS x0 (4 * a.1.val + a.2.2.val / 2)) (hS i hs (4 * a.1.val + a.2.2.val / 2)) (a.2.2.val % 2))⟩

theorem slabRect_emb (a : Fin 2 × Fin 2 × Fin 8) (x : (slabRect a).shape.Idx) (b : Fin 4) :
    ((slabRect a).emb x b).val = (![a.1.val, a.2.1.val, a.2.2.val, 0] : Fin 4 → ℕ) b + (![1, 1, 9, 1] : Fin 4 → ℕ) b * (x b).val := rfl

theorem slabPiece_val (i : grid0.Coords) (x0 : Vec F S256x2048 .bf16) (hs : Vec F S32x256x256 .bf16) (a : Fin 2 × Fin 2 × Fin 8)
    (x : (slabRect a).shape.Idx) : (slabPiece i x0 hs a).2 x = slabV i x0 hs ((slabRect a).emb x) := by
  have e0 : ((slabRect a).emb x 0).val = a.1.val + 1 * (x 0).val := rfl
  have e1 : ((slabRect a).emb x 1).val = a.2.1.val + 1 * (x 1).val := rfl
  have e2 : ((slabRect a).emb x 2).val = a.2.2.val + 9 * (x 2).val := rfl
  have e3 : ((slabRect a).emb x 3).val = 0 + 1 * (x 3).val := rfl
  have h0 : (x 0).val < 1 := (x 0).isLt
  have h1 : (x 1).val < 1 := (x 1).isLt
  have h2 : (x 2).val < 8 := (x 2).isLt
  have hs8 := a.2.2.isLt
  have m9 : ((slabRect a).emb x 2).val % 9 = a.2.2.val := by omega
  have d9 : ((slabRect a).emb x 2).val / 9 = (x 2).val := by omega
  have q0 : ((slabRect a).emb x 0).val = a.1.val := by omega
  have l1 : (slabRect a).emb x 1 = a.2.1 := Fin.ext (by omega)
  have l3 : ((slabRect a).emb x 3) = (⟨(x 3).val, (x 3).isLt⟩ : Fin 128) := Fin.ext (by show ((slabRect a).emb x 3).val = (x 3).val; omega)
  unfold slabV slabPiece cellP
  simp only [m9, q0, l1, l3, ix4_2, ix4_3, d9]
  rfl

/-- Tile `t` of a slab. -/
def tileV (i : grid0.Coords) (x0 : Vec F S256x2048 .bf16) (hs : Vec F S32x256x256 .bf16) (q l : Fin 2) (t : Fin 8) : Vec F S1x1x8x128 .f32 :=
  fun z => slabV i x0 hs (ix4 q l ⟨9 * t.val + (z 2).val, by have h2 : (z 2).val < 8 := (z 2).isLt; have := t.isLt; omega⟩ (z 3))

theorem tile_read (i : grid0.Coords) (x0 : Vec F S256x2048 .bf16) (hs : Vec F S32x256x256 .bf16) (arg8 : Memref sig .tc .vmem S2x2x72x128 .f32)
    (A : List (Fin 2 × Fin 2 × Fin 8)) (q l : Fin 2) (t : Fin 8) (hA : ∀ s : Fin 8, (q, l, s) ∈ A) {o : Fin 4 → ℕ} (ho : o = ![q.val, l.val, 9 * t.val, 0]) (inb) :
    arg8.view.readCov (A.map (slabPiece i x0 hs)) (Rect.unit (s := S2x2x72x128) o S1x1x8x128.size inb).toLoadRect = tileV i x0 hs q l t := by
  subst ho
  rw [View.readCov_eq_canon']
  funext z
  have h0 : (z 0).val < 1 := (z 0).isLt
  have h1 : (z 1).val < 1 := (z 1).isLt
  have h2 : (z 2).val < 8 := (z 2).isLt
  have hz : (Rect.unit (s := S2x2x72x128) ![q.val, l.val, 9 * t.val, 0] S1x1x8x128.size inb).toLoadRect.idx z
      = ix4 q l ⟨9 * t.val + (z 2).val, by have := t.isLt; omega⟩ (z 3) := by
    funext b
    apply Fin.ext
    fin_cases b
    · show q.val + 1 * (z 0).val = q.val
      omega
    · show l.val + 1 * (z 1).val = l.val
      omega
    · show 9 * t.val + 1 * (z 2).val = 9 * t.val + (z 2).val
      omega
    · show 0 + 1 * (z 3).val = (z 3).val
      omega
  rw [View.canon_apply_of_pieces (slabV i x0 hs) (A.map (slabPiece i x0 hs)) ?_ _ ?_, hz]
  · rfl
  · intro p hp x
    obtain ⟨a, _, rfl⟩ := List.mem_map.1 hp
    exact slabPiece_val i x0 hs a x
  · refine ⟨_, List.mem_map_of_mem (hA ⟨(z 2).val, h2⟩), ?_⟩
    show _ ∈ (slabRect (q, l, ⟨(z 2).val, h2⟩)).set
    rw [← Rect.map_emb_univ, Finset.mem_map]
    refine ⟨ix4 0 0 t (z 3), Finset.mem_univ _, ?_⟩
    rw [hz]
    funext b
    apply Fin.ext
    fin_cases b
    · show q.val + 1 * 0 = q.val
      omega
    · show l.val + 1 * 0 = l.val
      omega
    · show (z 2).val + 9 * t.val = 9 * t.val + (z 2).val
      omega
    · show 0 + 1 * (z 3).val = (z 3).val
      omega

/-- The group scales out of the eight tiles of a slab. -/
def sclOf (T : Fin 8 → Vec F S1x1x8x128 .f32) : FVec F S8x128 .f32 := k0_pay47 (k0_pay46 (T 0) (T 1) (T 2) (T 3) (T 4) (T 5)) (T 6) (T 7)

/-- The scales of eight groups and half of the rows. -/
def sclV (i : grid0.Coords) (x0 : Vec F S256x2048 .bf16) (hs : Vec F S32x256x256 .bf16) (q l : Fin 2) : FVec F S8x128 .f32 := sclOf (tileV i x0 hs q l)

/-- The factors the transformed values are multiplied by. -/
def rcpV (i : grid0.Coords) (x0 : Vec F S256x2048 .bf16) (hs : Vec F S32x256x256 .bf16) (q l : Fin 2) : FVec F S8x128 .f32 :=
  divf (broadcast S8x128 (Scalar.ofBits .f32 0x3DB504F3#32)) (sclV i x0 hs q l)

/-- A matrix stored as a plane. -/
def cell3 (M : FVec F S8x128 .f32) : FVec F S1x8x128 .f32 := fun x => M (ix2 (x 1) (x 2))

/-- All the factors: groups by rows, four pairs a plane. -/
def rV (i : grid0.Coords) (x0 : Vec F S256x2048 .bf16) (hs : Vec F S32x256x256 .bf16) : Vec F S2x8x256 .f32 :=
  fun y => rcpV i x0 hs (y 0) ⟨(y 2).val / 128, by have h2 : (y 2).val < 256 := (y 2).isLt; omega⟩ (ix2 (y 1) ⟨(y 2).val % 128, Nat.mod_lt _ (by decide)⟩)

/-- The shape of a point's scales. -/
abbrev SSt : Shape := ⟨2, ![16, 256]⟩

/-- All the scales of a point: 16 groups by 256 rows. -/
def stV (i : grid0.Coords) (x0 : Vec F S256x2048 .bf16) (hs : Vec F S32x256x256 .bf16) : FVec F SSt .f32 :=
  fun y => sclV i x0 hs ⟨(y 0).val / 8, by have h0 : (y 0).val < 16 := (y 0).isLt; omega⟩ ⟨(y 1).val / 128, by have h2 : (y 1).val < 256 := (y 1).isLt; omega⟩
    (ix2 ⟨(y 0).val % 8, Nat.mod_lt _ (by decide)⟩ ⟨(y 1).val % 128, Nat.mod_lt _ (by decide)⟩)

/-- The scales gathered so far with this point's put in. -/
def stUpd (i : grid0.Coords) (S : FVec F SSt .f32) (s : Vec F S4x16x256 .f32) : Vec F S4x16x256 .f32 :=
  fun y => if (y 0).val = (i 1).val then S (ix2 (y 1) (y 2)) else s y

/-- One group's factors. -/
def rRow (i : grid0.Coords) (x0 : Vec F S256x2048 .bf16) (hs : Vec F S32x256x256 .bf16) (q : Fin 2) (s : Fin 8) : Vec F S1x1x256 .f32 :=
  fun z => rV i x0 hs (ix3 q s (z 2))

/-- The packed codes of a pair. -/
def cod (Y : FVec F S256x256 .f32) (ra rb : Vec F S1x1x256 .f32) : IVec S256x128 8 := k0_pay58 (k0_pay56 Y ra rb) (k0_pay57 Y ra rb)

/-- The packed codes of pair `p`. -/
def codP (i : grid0.Coords) (x0 : Vec F S256x2048 .bf16) (hs : Vec F S32x256x256 .bf16) (p : Fin 8) : IVec S256x128 8 :=
  cod (Yv i x0 hs p.val) (rRow i x0 hs ⟨p.val / 4, by have := p.isLt; omega⟩ ⟨2 * (p.val % 4), by omega⟩)
    (rRow i x0 hs ⟨p.val / 4, by have := p.isLt; omega⟩ ⟨2 * (p.val % 4) + 1, by omega⟩)

/-- The packed codes of a block. -/
def codesV (i : grid0.Coords) (x0 : Vec F S256x2048 .bf16) (hs : Vec F S32x256x256 .bf16) : Vec F S256x1024 .i8 :=
  fun y => codP i x0 hs ⟨(y 1).val / 128, by have h2 : (y 1).val < 1024 := (y 1).isLt; omega⟩ (ix2 (y 0) ⟨(y 1).val % 128, Nat.mod_lt _ (by decide)⟩)

/-! ## What the body's loads read -/

theorem w_read (arg2 : Memref sig .tc .vmem S256x2048 .bf16) (harg2 : arg2.IsWhole) (x0 : Vec F S256x2048 .bf16) (p : Fin 8) {o : Fin 2 → ℕ}
    (ho : o = ![0, 256 * p.val]) (inb) :
    View.readAt (Elt F) arg2.view (Rect.unit (s := S256x2048) o S256x256.size inb).toLoadRect (harg2.unread x0) = wS x0 p.val := by
  subst ho
  funext z
  rw [Memref.IsWhole.readAt_unread]
  unfold wS
  congr 1
  have h1 : (z 1).val < 256 := (z 1).isLt
  have hp := p.isLt
  funext b
  apply Fin.ext
  fin_cases b
  · show 0 + 1 * (z 0).val = (z 0).val
    omega
  · show 256 * p.val + 1 * (z 1).val = (256 * p.val + (z 1).val) % 2048
    omega

theorem h_read (arg6 : Memref sig .tc .vmem S32x256x256 .bf16) (harg6 : arg6.IsWhole) (hs : Vec F S32x256x256 .bf16) (i : grid0.Coords) (p : Fin 8) {b : BitVec 32}
    (hb : b = BitVec.ofNat 32 p.val) (inb) :
    View.readAt (Elt F) arg6.view (Rect.unit (s := S32x256x256) (k0_off3 i b) S1x256x256.size inb).toLoadRect (harg6.unread hs) = hS i hs p.val := by
  subst hb
  funext z
  rw [Memref.IsWhole.readAt_unread]
  unfold hS
  congr 1
  have h0 : (z 0).val < 1 := (z 0).isLt
  have hp := p.isLt
  have hi : (i 1).val < 4 := (i 1).isLt
  have f0 := congrFun (k0_off3_eq i p) 0
  have f1 := congrFun (k0_off3_eq i p) 1
  have f2 := congrFun (k0_off3_eq i p) 2
  simp at f0 f1 f2
  funext b
  apply Fin.ext
  fin_cases b
  · show k0_off3 i (BitVec.ofNat 32 p.val) 0 + 1 * (z 0).val = (8 * (i 1).val + p.val) % 32
    rw [f0]; omega
  · show k0_off3 i (BitVec.ofNat 32 p.val) 1 + 1 * (z 1).val = (z 1).val
    rw [f1]; omega
  · show k0_off3 i (BitVec.ofNat 32 p.val) 2 + 1 * (z 2).val = (z 2).val
    rw [f2]; omega

theorem cell_00 (w : Vec F S256x256 .bf16) (h : Vec F S1x256x256 .bf16) : k0_pay16 w h = cellP 0 (Mx w h 0) := by
  funext x
  unfold cellP Mx k0_pay16
  pointwise
theorem cell_10 (w : Vec F S256x256 .bf16) (h : Vec F S1x256x256 .bf16) : k0_pay17 w h = cellP 1 (Mx w h 0) := by
  funext x
  unfold cellP Mx k0_pay17
  pointwise
theorem cell_01 (w : Vec F S256x256 .bf16) (h : Vec F S1x256x256 .bf16) : k0_pay20 (k0_pay19 w h) = cellP 0 (Mx w h 1) := by
  funext x
  unfold cellP Mx k0_pay20 k0_pay19
  pointwise
theorem cell_11 (w : Vec F S256x256 .bf16) (h : Vec F S1x256x256 .bf16) : k0_pay21 (k0_pay18 w h) = cellP 1 (Mx w h 1) := by
  funext x
  unfold cellP Mx k0_pay21
  pointwise
theorem cell_3 (M : FVec F S8x128 .f32) : (shapeCast S1x8x128 M shapeCasts_S8x128_S1x8x128 : FVec F S1x8x128 .f32) = cell3 M := by
  funext x
  unfold cell3
  pointwise

end Cert.KernelIdeal.Hand

end
-- ==== Proof.Hand.Hs.lean ====
/- The Hadamard matrices the kernel builds once: what the loop leaves in their buffer. -/
module

public import proofs.«01_k».proof.Proof.Hand.Runs
public import Idealize.ShloMosaic.Lib.WholeRead
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The signs of pair `p` as the loop reads them. -/
def sgnRow (x1 : Vec F S32x1x256 .f32) (p : Fin 32) : Vec F S1x1x256 .f32 := fun z => x1 (ix3 p 0 (z 2))

/-- The matrices over the loop's integer words. -/
def hsOf (v880 : IVec S256x256 32) (v904 : IVec S256x256 32) (v906 : IVec S256x256 32) (v925 : IVec S256x256 1) (v927 : IVec S256x256 32) (x1 : Vec F S32x1x256 .f32) : Vec F S32x256x256 .bf16 :=
  fun y => k0_pay13 v880 v904 v906 v925 v927 (sgnRow x1 (y 0)) (ix3 0 (y 1) (y 2))

theorem trips_eq : k0_t1_loop.trips = 32 := by decide +kernel

theorem row_read (arg3 : Memref sig .tc .vmem S32x1x256 .f32) (harg3 : arg3.IsWhole) (x1 : Vec F S32x1x256 .f32) (k : Fin k0_t1_loop.trips) (inb) :
    View.readAt (Elt F) arg3.view (Rect.unit (s := S32x1x256) (k0_off1 k) S1x1x256.size inb).toLoadRect (harg3.unread x1)
      = sgnRow x1 (Fin.cast trips_eq k) := by
  funext z
  rw [Memref.IsWhole.readAt_unread]
  unfold sgnRow
  congr 1
  funext a
  apply Fin.ext
  have h0 : (z 0).val < 1 := (z 0).isLt
  have h1 : (z 1).val < 1 := (z 1).isLt
  have e0 := congrFun (k0_off1_eq k) 0
  have e1 := congrFun (k0_off1_eq k) 1
  have e2 := congrFun (k0_off1_eq k) 2
  fin_cases a
  · show k0_off1 k 0 + 1 * (z 0).val = k.val
    simp at e0; omega
  · show k0_off1 k 1 + 1 * (z 1).val = 0
    simp at e1; omega
  · show k0_off1 k 2 + 1 * (z 2).val = (z 2).val
    simp at e2; omega

theorem trip_piece (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) (k : Fin k0_t1_loop.trips) :
    tripL_k0_t1 (F := F) 𝒱 c bd i arg2 harg2 arg3 harg3 arg4 harg4 arg5 harg5 arg6 harg6 arg7 harg7 arg8 harg8 arg9 harg9 k0_h1 v880 v904 v906 v925 v927 (harg3.unread x1) k
      = [⟨Rect.unit (s := S32x256x256) (k0_off2 k) S1x256x256.size (k0_off2_inb i k k0_h1), k0_pay13 v880 v904 v906 v925 v927 (sgnRow x1 (Fin.cast trips_eq k))⟩] := by
  rw [← row_read arg3 harg3 x1 k (k0_off1_inb i k k0_h1)]
  unfold tripL_k0_t1 trip_k0_t1
  rfl

theorem pb_mem (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) :
    ∀ n, n ≤ 32 → (∀ p ∈ pb_k0_t1 (F := F) 𝒱 c bd i arg2 harg2 arg3 harg3 arg4 harg4 arg5 harg5 arg6 harg6 arg7 harg7 arg8 harg8 arg9 harg9 k0_h1 v880 v904 v906 v925 v927 (harg3.unread x1) n, ∀ x, p.2 x = hsOf v880 v904 v906 v925 v927 x1 (p.1.emb x))
      ∧ ∀ y : S32x256x256.Idx, (y 0).val < n → ∃ p ∈ pb_k0_t1 (F := F) 𝒱 c bd i arg2 harg2 arg3 harg3 arg4 harg4 arg5 harg5 arg6 harg6 arg7 harg7 arg8 harg8 arg9 harg9 k0_h1 v880 v904 v906 v925 v927 (harg3.unread x1) n, y ∈ p.1.set := by
  intro n
  induction n with
  | zero => intro _; exact ⟨fun p hp => absurd hp (by rw [pb_k0_t1.eq_1]; exact List.not_mem_nil), fun y hy => absurd hy (Nat.not_lt_zero _)⟩
  | succ n ih =>
    intro hn
    obtain ⟨ih1, ih2⟩ := ih (by omega)
    have hk : n < k0_t1_loop.trips := by rw [trips_eq]; omega
    have e := pb_k0_t1_succ (F := F) 𝒱 c bd i arg2 harg2 arg3 harg3 arg4 harg4 arg5 harg5 arg6 harg6 arg7 harg7 arg8 harg8 arg9 harg9 k0_h1 v880 v904 v906 v925 v927 (harg3.unread x1) ⟨n, hk⟩
    rw [trip_piece] at e
    have e' : pb_k0_t1 (F := F) 𝒱 c bd i arg2 harg2 arg3 harg3 arg4 harg4 arg5 harg5 arg6 harg6 arg7 harg7 arg8 harg8 arg9 harg9 k0_h1 v880 v904 v906 v925 v927 (harg3.unread x1) (n + 1) = _ := e
    rw [e']
    have f0 := congrFun (k0_off2_eq ⟨n, hk⟩) 0
    have f1 := congrFun (k0_off2_eq ⟨n, hk⟩) 1
    have f2 := congrFun (k0_off2_eq ⟨n, hk⟩) 2
    simp at f0 f1 f2
    constructor
    · intro p hp
      rcases List.mem_append.1 hp with hp | hp
      · rw [List.mem_singleton] at hp
        subst hp
        intro x
        have h0 : (x 0).val < 1 := (x 0).isLt
        have e1 : Fin.cast trips_eq ⟨n, hk⟩ = (Rect.unit (s := S32x256x256) (k0_off2 ⟨n, hk⟩) S1x256x256.size (k0_off2_inb i ⟨n, hk⟩ k0_h1)).emb x 0 := by
          apply Fin.ext
          show n = k0_off2 ⟨n, hk⟩ 0 + 1 * (x 0).val
          omega
        have e2 : x = ix3 0 ((Rect.unit (s := S32x256x256) (k0_off2 ⟨n, hk⟩) S1x256x256.size (k0_off2_inb i ⟨n, hk⟩ k0_h1)).emb x 1) ((Rect.unit (s := S32x256x256) (k0_off2 ⟨n, hk⟩) S1x256x256.size (k0_off2_inb i ⟨n, hk⟩ k0_h1)).emb x 2) := by
          funext a
          apply Fin.ext
          fin_cases a
          · show (x 0).val = 0
            omega
          · show (x 1).val = k0_off2 ⟨n, hk⟩ 1 + 1 * (x 1).val
            omega
          · show (x 2).val = k0_off2 ⟨n, hk⟩ 2 + 1 * (x 2).val
            omega
        exact congr (congrArg (k0_pay13 v880 v904 v906 v925 v927) (congrArg (sgnRow x1) e1)) e2
      · exact ih1 p hp
    · intro y hy
      by_cases hlt : (y 0).val < n
      · obtain ⟨p, hp, hm⟩ := ih2 y hlt
        exact ⟨p, List.mem_append_right _ hp, hm⟩
      · refine ⟨_, List.mem_append_left _ (List.mem_singleton.2 rfl), ?_⟩
        rw [Rect.mem_set_unit]
        have h1 : (y 1).val < 256 := (y 1).isLt
        have h2 : (y 2).val < 256 := (y 2).isLt
        intro a
        fin_cases a
        · show k0_off2 ⟨n, hk⟩ 0 ≤ (y 0).val ∧ (y 0).val < k0_off2 ⟨n, hk⟩ 0 + 1
          omega
        · show k0_off2 ⟨n, hk⟩ 1 ≤ (y 1).val ∧ (y 1).val < k0_off2 ⟨n, hk⟩ 1 + 256
          omega
        · show k0_off2 ⟨n, hk⟩ 2 ≤ (y 2).val ∧ (y 2).val < k0_off2 ⟨n, hk⟩ 2 + 256
          omega

/-- After its last trip the loop has left the matrices. -/
theorem pb_done (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) (f : BufTy.Contents (Elt F) arg6.view.ty) :
    arg6.view.writes (Elt F) f (pb_k0_t1 (F := F) 𝒱 c bd i arg2 harg2 arg3 harg3 arg4 harg4 arg5 harg5 arg6 harg6 arg7 harg7 arg8 harg8 arg9 harg9 k0_h1 v880 v904 v906 v925 v927 (harg3.unread x1) (Scf.trips k0_t1_loop.lb k0_t1_loop.ub k0_t1_loop.st))
      = harg6.unread (hsOf v880 v904 v906 v925 v927 x1) := by
  have hn : Scf.trips k0_t1_loop.lb k0_t1_loop.ub k0_t1_loop.st = 32 := trips_eq
  rw [hn]
  obtain ⟨h1, h2⟩ := pb_mem (F := F) 𝒱 c bd i arg2 harg2 arg3 harg3 arg4 harg4 arg5 harg5 arg6 harg6 arg7 harg7 arg8 harg8 arg9 harg9 k0_h1 v880 v904 v906 v925 v927 x1 32 le_rfl
  have h2' : ∀ y : S32x256x256.Idx, _ := fun y => h2 y (y 0).isLt
  apply harg6.eq_unread
  funext y
  rw [View.read_writes_apply_eq_canon _ _ _ _ (h2' y), View.canon_apply_of_pieces _ _ h1 y (h2' y)]

/-- The Hadamard matrices: entry (r, k) of pair `p` is the ±1 of row `r` and column `k` times the sign of column `k`. -/
def HSv (x1 : Vec F S32x1x256 .f32) : Vec F S32x256x256 .bf16 :=
  hsOf (k0_pay8 (iota .tc S256x256 32 [1] iota_S256x256_d1_w32) k0_pay3 k0_pay4 64#32 k0_pay5 k0_pay6 k0_pay7)
    (k0_pay9 (iota .tc S256x256 32 [0] iota_S256x256_d0_w32) 128#32) (k0_pay10 (iota .tc S256x256 32 [1] iota_S256x256_d1_w32))
    (k0_pay11 (iota .tc S256x256 32 [1] iota_S256x256_d1_w32)) (k0_pay12 (iota .tc S256x256 32 [1] iota_S256x256_d1_w32)) x1

theorem pb_done_eq (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) (f : BufTy.Contents (Elt F) arg6.view.ty) (X : Vec F S32x256x256 .bf16)
    (h : hsOf v880 v904 v906 v925 v927 x1 = X) :
    arg6.view.writes (Elt F) f (pb_k0_t1 (F := F) 𝒱 c bd i arg2 harg2 arg3 harg3 arg4 harg4 arg5 harg5 arg6 harg6 arg7 harg7 arg8 harg8 arg9 harg9 k0_h1 v880 v904 v906 v925 v927 (harg3.unread x1) (Scf.trips k0_t1_loop.lb k0_t1_loop.ub k0_t1_loop.st))
      = harg6.unread X := by
  rw [pb_done, h]

end Cert.KernelIdeal.Hand

end
-- ==== Proof.Hand.RunA.lean ====
/- The run of the kernel's body at the first point, which builds the Hadamard matrices. -/
module

public import proofs.«01_k».proof.Proof.Hand.Hs

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.stridedRows true in
/-- At the first point the body leaves the pieces `L.1` in the codes' buffer, writes the pieces `L.2` over the scales
    it has gathered so far and leaves the Hadamard matrices in their buffer; the scales' buffer stays. -/
noncomputable def runA (c : Dev nD) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (hc0 : cond0_0 i) (hc1 : ¬cond0_1 i)
    (x0 : Vec F S256x2048 .bf16) (x1 : Vec F S32x1x256 .f32) (x3 : Vec F S1x64x256 .f32) (xs1 : Vec F S4x16x256 .f32) :
    { L : List (View.Piece (Elt F) S256x1024 .i8) × List (View.Piece (Elt F) S4x16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3 ∗ (∃ d, owns (c : Thread nD τ) arg6 fullShare d) ∗ owns (c : Thread nD τ) arg7 fullShare xs1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L.1) ∗ owns (c : Thread nD τ) arg5 fullShare x3 ∗ owns (c : Thread nD τ) arg6 fullShare (HSv x1) ∗ (arg7.view.loc (c : Thread nD τ) ↦[arg7.view.set]{fullShare} arg7.view.writes (Elt F) (harg7.unread xs1) L.2) ∗ (∃ d, owns (c : Thread nD τ) arg8 fullShare d) ∗ (∃ d, owns (c : Thread nD τ) arg9 fullShare d)) -∗ K ⟨⟩))
          ⊢ wp frame (wpE (defs₀ (F := F)) Variants.none c none) E (cc0_hadamard_int4_fold i arg2 harg2 arg3 harg3 arg4 harg4 arg5 harg5 arg6 harg6 arg7 harg7 arg8 harg8 arg9 harg9) K } := by
  refine ⟨⟨?_, ?_⟩, fun E K => ?run⟩
  case run =>
    simp only [cc0_hadamard_int4_fold_eq_skeleton]; unfold cc0_hadamard_int4_fold_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%f3, %hf3, H3⟩, ⟨%ds0, %fs0, -, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg5.eq_unread hf3; obtain rfl := harg7.eq_unread hfs1
    set_option sl_exec.maxSteps 9 in sl_exec (disch := first | sl_exact hc0 | sl_exact hc1)
    rw [pb_done_eq (X := HSv x1)]
    swap
    · rfl
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS0]
    · iexists _; isplitr; · ipureintro; exact harg6.read_unread _
      iexact HS0
    isplitl [HS1]
    · iexact HS1
    isplitl [HS2]
    · iexists _, _; isplitr; swap; · iexact HS2
      ipureintro; rfl
    iexists _, _; isplitr; swap; · iexact HS3
    ipureintro; rfl

end Cert.KernelIdeal.Hand

end
-- ==== Proof.Hand.RunB.lean ====
/- The run of the kernel's body at a point that neither builds the Hadamard matrices nor writes the scales out. -/
module

public import proofs.«01_k».proof.Proof.Hand.Runs

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.stridedRows true in
/-- At a point where neither branch is taken the body leaves the pieces `L.1` in the codes' buffer and writes the pieces
    `L.2` over the scales it has gathered so far; the scales' own buffer and the Hadamard matrices stay as they were. -/
noncomputable def runB (c : Dev nD) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (hc0 : ¬cond0_0 i) (hc1 : ¬cond0_1 i)
    (x0 : Vec F S256x2048 .bf16) (x1 : Vec F S32x1x256 .f32) (x3 : Vec F S1x64x256 .f32) (xs0 : Vec F S32x256x256 .bf16) (xs1 : Vec F S4x16x256 .f32) :
    { L : List (View.Piece (Elt F) S256x1024 .i8) × List (View.Piece (Elt F) S4x16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3 ∗ owns (c : Thread nD τ) arg6 fullShare xs0 ∗ owns (c : Thread nD τ) arg7 fullShare xs1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L.1) ∗ owns (c : Thread nD τ) arg5 fullShare x3 ∗ owns (c : Thread nD τ) arg6 fullShare xs0 ∗ (arg7.view.loc (c : Thread nD τ) ↦[arg7.view.set]{fullShare} arg7.view.writes (Elt F) (harg7.unread xs1) L.2) ∗ (∃ d, owns (c : Thread nD τ) arg8 fullShare d) ∗ (∃ d, owns (c : Thread nD τ) arg9 fullShare d)) -∗ K ⟨⟩))
          ⊢ wp frame (wpE (defs₀ (F := F)) Variants.none c none) E (cc0_hadamard_int4_fold i arg2 harg2 arg3 harg3 arg4 harg4 arg5 harg5 arg6 harg6 arg7 harg7 arg8 harg8 arg9 harg9) K } := by
  refine ⟨⟨?_, ?_⟩, fun E K => ?run⟩
  case run =>
    simp only [cc0_hadamard_int4_fold_eq_skeleton]; unfold cc0_hadamard_int4_fold_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg6.eq_unread hfs0; obtain rfl := harg5.eq_unread hf3; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS0]
    · iexists _; isplitr; · ipureintro; exact harg6.read_unread _
      iexact HS0
    isplitl [HS1]
    · iexact HS1
    isplitl [HS2]
    · iexists _, _; isplitr; swap; · iexact HS2
      ipureintro; rfl
    iexists _, _; isplitr; swap; · iexact HS3
    ipureintro; rfl

end Cert.KernelIdeal.Hand

end
-- ==== Proof.Hand.RunC.lean ====
/- The run of the kernel's body at a point that writes the scales out. -/
module

public import proofs.«01_k».proof.Proof.Hand.Runs

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.stridedRows true in
/-- At a point that ends a row block the body leaves the pieces `L.1.1` in the codes' buffer, writes the pieces `L.1.2` over
    the scales it has gathered so far and leaves the pieces `L.2` in the scales' buffer; the Hadamard matrices stay. -/
noncomputable def runC (c : Dev nD) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (hc0 : ¬cond0_0 i) (hc1 : cond0_1 i)
    (x0 : Vec F S256x2048 .bf16) (x1 : Vec F S32x1x256 .f32) (xs0 : Vec F S32x256x256 .bf16) (xs1 : Vec F S4x16x256 .f32) :
    { L : (List (View.Piece (Elt F) S256x1024 .i8) × List (View.Piece (Elt F) S4x16x256 .f32)) × List (View.Piece (Elt F) S1x64x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L.1.1) ∗ (∃ f, arg5.view.loc (c : Thread nD τ) ↦[arg5.view.set]{fullShare} arg5.view.writes (Elt F) f L.2) ∗ owns (c : Thread nD τ) arg6 fullShare xs0 ∗ (arg7.view.loc (c : Thread nD τ) ↦[arg7.view.set]{fullShare} arg7.view.writes (Elt F) (harg7.unread xs1) L.1.2) ∗ (∃ d, owns (c : Thread nD τ) arg8 fullShare d) ∗ (∃ d, owns (c : Thread nD τ) arg9 fullShare d)) -∗ K ⟨⟩))
          ⊢ wp frame (wpE (defs₀ (F := F)) Variants.none c none) E (cc0_hadamard_int4_fold i arg2 harg2 arg3 harg3 arg4 harg4 arg5 harg5 arg6 harg6 arg7 harg7 arg8 harg8 arg9 harg9) K } := by
  refine ⟨⟨⟨?_, ?_⟩, ?_⟩, fun E K => ?run⟩
  case run =>
    simp only [cc0_hadamard_int4_fold_eq_skeleton]; unfold cc0_hadamard_int4_fold_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg6.eq_unread hfs0; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; isplitr; · ipureintro; exact harg6.read_unread _
      iexact HS0
    isplitl [HS1]
    · iexact HS1
    isplitl [HS2]
    · iexists _, _; isplitr; swap; · iexact HS2
      ipureintro; rfl
    iexists _, _; isplitr; swap; · iexact HS3
    ipureintro; rfl

end Cert.KernelIdeal.Hand

end
-- ==== Proof.Hand.Unwind.lean ====
/- What the pieces written by one run of the body are: the partial maxima, the scales, the factors and the packed codes. -/
module

public import proofs.«01_k».proof.Proof.Hand.Spec
public import proofs.«01_k».proof.Proof.Hand.RunA
public import proofs.«01_k».proof.Proof.Hand.RunB
public import proofs.«01_k».proof.Proof.Hand.RunC
public import proofs.«01_k».proof.Proof.Hand.Hs

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (i : grid0.Coords) (x0 : Vec F S256x2048 .bf16) (hs : Vec F S32x256x256 .bf16)

theorem piece_eq (a : Fin 2 × Fin 2 × Fin 8) (f : FVec F S1x1x8x128 .f32)
    (h : f = cellP a.2.1 (Mx (wS x0 (4 * a.1.val + a.2.2.val / 2)) (hS i hs (4 * a.1.val + a.2.2.val / 2)) (a.2.2.val % 2))) :
    (⟨slabRect a, f⟩ : View.Piece (Elt F) S2x2x72x128 .f32) = slabPiece i x0 hs a := congrArg (Sigma.mk (slabRect a)) h

theorem rRect_inb (a : Fin 2 × Fin 2) : ∀ b, (![a.1.val, 0, 128 * a.2.val] : Fin 3 → ℕ) b + S1x8x128.size b ≤ S2x8x256.size b := by
  revert a; decide

/-- Where a half of four pairs' factors lies. -/
def rRect (a : Fin 2 × Fin 2) : Rect S2x8x256 := Rect.unit ![a.1.val, 0, 128 * a.2.val] S1x8x128.size (rRect_inb a)

/-- A half of four pairs' factors as stored. -/
def rPiece (a : Fin 2 × Fin 2) : View.Piece (Elt F) S2x8x256 .f32 := ⟨rRect a, cell3 (rcpV i x0 hs a.1 a.2)⟩

theorem rPiece_eq (a : Fin 2 × Fin 2) (f : FVec F S1x8x128 .f32) (h : f = cell3 (rcpV i x0 hs a.1 a.2)) :
    (⟨rRect a, f⟩ : View.Piece (Elt F) S2x8x256 .f32) = rPiece i x0 hs a := congrArg (Sigma.mk (rRect a)) h

theorem rPiece_val (a : Fin 2 × Fin 2) (x : (rRect a).shape.Idx) : (rPiece i x0 hs a).2 x = rV i x0 hs ((rRect a).emb x) := by
  have e0 : ((rRect a).emb x 0).val = a.1.val + 1 * (x 0).val := rfl
  have e1 : ((rRect a).emb x 1).val = 0 + 1 * (x 1).val := rfl
  have e2 : ((rRect a).emb x 2).val = 128 * a.2.val + 1 * (x 2).val := rfl
  have h0 : (x 0).val < 1 := (x 0).isLt
  have h1 : (x 1).val < 8 := (x 1).isLt
  have h2 : (x 2).val < 128 := (x 2).isLt
  have l0 : (rRect a).emb x 0 = a.1 := Fin.ext (by omega)
  have l1 : (rRect a).emb x 1 = (⟨(x 1).val, h1⟩ : Fin 8) := Fin.ext (by show ((rRect a).emb x 1).val = (x 1).val; omega)
  have l2 : (⟨((rRect a).emb x 2).val / 128, by rw [e2]; have := a.2.isLt; omega⟩ : Fin 2) = a.2 := Fin.ext (by show ((rRect a).emb x 2).val / 128 = _; omega)
  have l3 : (⟨((rRect a).emb x 2).val % 128, Nat.mod_lt _ (by decide)⟩ : Fin 128) = ⟨(x 2).val, h2⟩ := Fin.ext (by show ((rRect a).emb x 2).val % 128 = (x 2).val; omega)
  unfold rV rPiece cell3
  simp only [l0, l2, l3, l1]
  rfl

theorem rRow_read (arg9 : Memref sig .tc .vmem S2x8x256 .f32) (A : List (Fin 2 × Fin 2)) (q : Fin 2) (s : Fin 8)
    (hA : ∀ l : Fin 2, (q, l) ∈ A) {o : Fin 3 → ℕ} (ho : o = ![q.val, s.val, 0]) (inb) :
    arg9.view.readCov (A.map (rPiece i x0 hs)) (Rect.unit (s := S2x8x256) o S1x1x256.size inb).toLoadRect = rRow i x0 hs q s := by
  subst ho
  rw [View.readCov_eq_canon']
  funext z
  have h0 : (z 0).val < 1 := (z 0).isLt
  have h1 : (z 1).val < 1 := (z 1).isLt
  have h2 : (z 2).val < 256 := (z 2).isLt
  have hz : (Rect.unit (s := S2x8x256) ![q.val, s.val, 0] S1x1x256.size inb).toLoadRect.idx z = ix3 q s (z 2) := by
    funext b
    apply Fin.ext
    fin_cases b
    · show q.val + 1 * (z 0).val = q.val
      omega
    · show s.val + 1 * (z 1).val = s.val
      omega
    · show 0 + 1 * (z 2).val = (z 2).val
      omega
  rw [View.canon_apply_of_pieces (rV i x0 hs) (A.map (rPiece i x0 hs)) ?_ _ ?_, hz]
  · rfl
  · intro p hp x
    obtain ⟨a, _, rfl⟩ := List.mem_map.1 hp
    exact rPiece_val i x0 hs a x
  · refine ⟨_, List.mem_map_of_mem (hA ⟨(z 2).val / 128, by omega⟩), ?_⟩
    show _ ∈ (rRect (q, ⟨(z 2).val / 128, by omega⟩)).set
    rw [← Rect.map_emb_univ, Finset.mem_map]
    refine ⟨ix3 0 s (⟨(z 2).val % 128, Nat.mod_lt _ (by decide)⟩ : Fin 128), Finset.mem_univ _, ?_⟩
    rw [hz]
    funext b
    apply Fin.ext
    fin_cases b
    · show q.val + 1 * 0 = q.val
      omega
    · show 0 + 1 * s.val = s.val
      omega
    · show 128 * ((z 2).val / 128) + 1 * ((z 2).val % 128) = (z 2).val
      omega

theorem stRect_inb (a : Fin 2 × Fin 2) : ∀ b, (![(i 1).val, 8 * a.1.val, 128 * a.2.val] : Fin 3 → ℕ) b + S1x8x128.size b ≤ S4x16x256.size b := by
  have h : ∀ (k : Fin 4) (a : Fin 2 × Fin 2), ∀ b, (![k.val, 8 * a.1.val, 128 * a.2.val] : Fin 3 → ℕ) b + S1x8x128.size b ≤ S4x16x256.size b := by decide
  exact h (i 1) a

/-- Where a half of four pairs' scales lies. -/
def stRect (a : Fin 2 × Fin 2) : Rect S4x16x256 := Rect.unit ![(i 1).val, 8 * a.1.val, 128 * a.2.val] S1x8x128.size (stRect_inb i a)

/-- A half of four pairs' scales as stored. -/
def stPiece (a : Fin 2 × Fin 2) : View.Piece (Elt F) S4x16x256 .f32 := ⟨stRect i a, cell3 (sclV i x0 hs a.1 a.2)⟩

theorem stPiece_eq (a : Fin 2 × Fin 2) {o : Fin 3 → ℕ} (ho : o = ![(i 1).val, 8 * a.1.val, 128 * a.2.val]) (inb) (f : FVec F S1x8x128 .f32)
    (h : f = cell3 (sclV i x0 hs a.1 a.2)) : (⟨Rect.unit (s := S4x16x256) o S1x8x128.size inb, f⟩ : View.Piece (Elt F) S4x16x256 .f32) = stPiece i x0 hs a := by
  subst ho; exact congrArg (Sigma.mk (stRect i a)) h

theorem stPiece_val (s : Vec F S4x16x256 .f32) (a : Fin 2 × Fin 2) (x : (stRect i a).shape.Idx) :
    (stPiece i x0 hs a).2 x = stUpd i (stV i x0 hs) s ((stRect i a).emb x) := by
  have e0 : ((stRect i a).emb x 0).val = (i 1).val + 1 * (x 0).val := rfl
  have e1 : ((stRect i a).emb x 1).val = 8 * a.1.val + 1 * (x 1).val := rfl
  have e2 : ((stRect i a).emb x 2).val = 128 * a.2.val + 1 * (x 2).val := rfl
  have h0 : (x 0).val < 1 := (x 0).isLt
  have h1 : (x 1).val < 8 := (x 1).isLt
  have h2 : (x 2).val < 128 := (x 2).isLt
  have l0 : ((stRect i a).emb x 0).val = (i 1).val := by omega
  have k0 : (⟨((stRect i a).emb x 1).val / 8, by rw [e1]; have := a.1.isLt; omega⟩ : Fin 2) = a.1 := Fin.ext (by show ((stRect i a).emb x 1).val / 8 = _; omega)
  have k1 : (⟨((stRect i a).emb x 1).val % 8, Nat.mod_lt _ (by decide)⟩ : Fin 8) = ⟨(x 1).val, h1⟩ := Fin.ext (by show ((stRect i a).emb x 1).val % 8 = (x 1).val; omega)
  have l2 : (⟨((stRect i a).emb x 2).val / 128, by rw [e2]; have := a.2.isLt; omega⟩ : Fin 2) = a.2 := Fin.ext (by show ((stRect i a).emb x 2).val / 128 = _; omega)
  have l3 : (⟨((stRect i a).emb x 2).val % 128, Nat.mod_lt _ (by decide)⟩ : Fin 128) = ⟨(x 2).val, h2⟩ := Fin.ext (by show ((stRect i a).emb x 2).val % 128 = (x 2).val; omega)
  unfold stUpd
  rw [if_pos l0]
  show sclV i x0 hs a.1 a.2 (ix2 (⟨(x 1).val, h1⟩ : Fin 8) (⟨(x 2).val, h2⟩ : Fin 128)) = sclV i x0 hs ⟨((stRect i a).emb x 1).val / 8, _⟩ ⟨((stRect i a).emb x 2).val / 128, _⟩
    (ix2 (⟨((stRect i a).emb x 1).val % 8, _⟩ : Fin 8) (⟨((stRect i a).emb x 2).val % 128, _⟩ : Fin 128))
  rw [k0, k1, l2, l3]

/-- What the scales gathered so far read once a point's four pieces are written over them. -/
theorem st_read (arg7 : Memref sig .tc .vmem S4x16x256 .f32) (harg7 : arg7.IsWhole) (s : Vec F S4x16x256 .f32)
    (A : List (Fin 2 × Fin 2)) (hA : ∀ a, a ∈ A) :
    arg7.view.read (Elt F) (arg7.view.writes (Elt F) (harg7.unread s) (A.map (stPiece i x0 hs))) = stUpd i (stV i x0 hs) s := by
  funext y
  have hy1 : (y 1).val < 16 := (y 1).isLt
  have hy2 : (y 2).val < 256 := (y 2).isLt
  by_cases hy : (y 0).val = (i 1).val
  · refine View.read_writes_apply_of_pieces _ _ (stUpd i (stV i x0 hs) s) _ ?_ y ?_
    · intro p hp x
      obtain ⟨a, _, rfl⟩ := List.mem_map.1 hp
      exact stPiece_val i x0 hs s a x
    · refine ⟨_, List.mem_map_of_mem (hA (⟨(y 1).val / 8, by omega⟩, ⟨(y 2).val / 128, by omega⟩)), ?_⟩
      show y ∈ (stRect i (⟨(y 1).val / 8, by omega⟩, ⟨(y 2).val / 128, by omega⟩)).set
      refine Rect.mem_set_unit.2 fun b => ?_
      fin_cases b
      · show (i 1).val ≤ (y 0).val ∧ (y 0).val < (i 1).val + 1
        omega
      · show 8 * ((y 1).val / 8) ≤ (y 1).val ∧ (y 1).val < 8 * ((y 1).val / 8) + 8
        omega
      · show 128 * ((y 2).val / 128) ≤ (y 2).val ∧ (y 2).val < 128 * ((y 2).val / 128) + 128
        omega
  · rw [View.read_writes_apply_of_forall_not_mem _ _ y _ ?_, harg7.read_unread]
    · unfold stUpd
      rw [if_neg hy]
    · intro p hp hm
      obtain ⟨a, _, rfl⟩ := List.mem_map.1 hp
      have h0 : (i 1).val ≤ (y 0).val ∧ (y 0).val < (i 1).val + 1 :=
        (Rect.mem_set_unit (inb := stRect_inb i a)).1 hm 0
      omega

theorem coRect_inb (p : Fin 8) : ∀ b, (![0, 128 * p.val] : Fin 2 → ℕ) b + S256x128.size b ≤ S256x1024.size b := by
  revert p; decide

/-- Where a pair's codes lie. -/
def coRect (p : Fin 8) : Rect S256x1024 := Rect.unit ![0, 128 * p.val] S256x128.size (coRect_inb p)

/-- A pair's codes as stored. -/
def coPiece (p : Fin 8) : View.Piece (Elt F) S256x1024 .i8 := ⟨coRect p, codP i x0 hs p⟩

theorem coPiece_eq (p : Fin 8) (f : IVec S256x128 8) (h : f = codP i x0 hs p) :
    (⟨coRect p, f⟩ : View.Piece (Elt F) S256x1024 .i8) = coPiece i x0 hs p := congrArg (Sigma.mk (coRect p)) h

theorem codes_read (arg4 : Memref sig .tc .vmem S256x1024 .i8) (f) (A : List (Fin 8)) (hA : ∀ p, p ∈ A) :
    arg4.view.read (Elt F) (arg4.view.writes (Elt F) f (A.map (coPiece i x0 hs))) = codesV i x0 hs := by
  funext y
  have hy0 : (y 0).val < 256 := (y 0).isLt
  have hy1 : (y 1).val < 1024 := (y 1).isLt
  refine View.read_writes_apply_of_pieces _ _ (codesV i x0 hs) _ ?_ y ?_
  · intro p hp x
    obtain ⟨a, _, rfl⟩ := List.mem_map.1 hp
    have e0 : ((coRect a).emb x 0).val = 0 + 1 * (x 0).val := rfl
    have e1 : ((coRect a).emb x 1).val = 128 * a.val + 1 * (x 1).val := rfl
    have h0 : (x 0).val < 256 := (x 0).isLt
    have h1 : (x 1).val < 128 := (x 1).isLt
    have k0 : (coRect a).emb x 0 = (⟨(x 0).val, h0⟩ : Fin 256) := Fin.ext (by show ((coRect a).emb x 0).val = (x 0).val; omega)
    have k1 : (⟨((coRect a).emb x 1).val / 128, by rw [e1]; have := a.isLt; omega⟩ : Fin 8) = a := Fin.ext (by show ((coRect a).emb x 1).val / 128 = _; omega)
    have k2 : (⟨((coRect a).emb x 1).val % 128, Nat.mod_lt _ (by decide)⟩ : Fin 128) = ⟨(x 1).val, h1⟩ := Fin.ext (by show ((coRect a).emb x 1).val % 128 = (x 1).val; omega)
    show (coPiece i x0 hs a).2 x = codesV i x0 hs ((coRect a).emb x)
    unfold codesV coPiece
    simp only [k0, k1, k2]
    exact congrArg (codP i x0 hs a) (ix2_eta (n0 := 256) (n1 := 128) x).symm
  · refine ⟨_, List.mem_map_of_mem (hA ⟨(y 1).val / 128, by omega⟩), ?_⟩
    show y ∈ (coRect ⟨(y 1).val / 128, by omega⟩).set
    refine Rect.mem_set_unit.2 fun b => ?_
    fin_cases b
    · show 0 ≤ (y 0).val ∧ (y 0).val < 0 + 256
      omega
    · show 128 * ((y 1).val / 128) ≤ (y 1).val ∧ (y 1).val < 128 * ((y 1).val / 128) + 128
      omega

/-! ## The scales and factors under their several names -/

variable (T : Fin 8 → Vec F S1x1x8x128 .f32)

theorem pay48_eq : k0_pay48 (k0_pay46 (T 0) (T 1) (T 2) (T 3) (T 4) (T 5)) (T 6) (T 7) = cell3 (sclOf T) := cell_3 _
theorem pay52_eq : k0_pay52 (k0_pay50 (T 0) (T 1) (T 2)) (T 3) (T 4) (T 5) (T 6) (T 7) = cell3 (sclOf T) := cell_3 _
theorem pay103_eq : k0_pay103 (k0_pay101 (T 0) (T 1) (T 2) (T 3) (T 4) (T 5)) (T 6) (T 7) = cell3 (sclOf T) := cell_3 _
theorem pay107_eq : k0_pay107 (k0_pay105 (T 0) (T 1)) (T 2) (T 3) (T 4) (T 5) (T 6) (T 7) = cell3 (sclOf T) := cell_3 _
theorem pay49_eq : k0_pay49 (k0_pay46 (T 0) (T 1) (T 2) (T 3) (T 4) (T 5)) (T 6) (T 7) = cell3 (divf (broadcast S8x128 (Scalar.ofBits .f32 0x3DB504F3#32)) (sclOf T)) := cell_3 _
theorem pay54_eq : k0_pay54 (k0_pay53 (k0_pay50 (T 0) (T 1) (T 2)) (T 3) (T 4) (T 5) (T 6) (T 7)) = cell3 (divf (broadcast S8x128 (Scalar.ofBits .f32 0x3DB504F3#32)) (sclOf T)) := cell_3 _
theorem pay104_eq : k0_pay104 (k0_pay101 (T 0) (T 1) (T 2) (T 3) (T 4) (T 5)) (T 6) (T 7) = cell3 (divf (broadcast S8x128 (Scalar.ofBits .f32 0x3DB504F3#32)) (sclOf T)) := cell_3 _
theorem pay109_eq : k0_pay109 (k0_pay108 (k0_pay105 (T 0) (T 1)) (T 2) (T 3) (T 4) (T 5) (T 6) (T 7)) = cell3 (divf (broadcast S8x128 (Scalar.ofBits .f32 0x3DB504F3#32)) (sclOf T)) := cell_3 _

/-! ## The pieces of the run -/

variable (c : Dev nD) (arg2 : Memref sig .tc .vmem S256x2048 .bf16) (harg2 : arg2.IsWhole) (arg6 : Memref sig .tc .vmem S32x256x256 .bf16) (harg6 : arg6.IsWhole)
  (arg8 : Memref sig .tc .vmem S2x2x72x128 .f32) (arg9 : Memref sig .tc .vmem S2x8x256 .f32)

theorem it_017 (w : Vec F S256x256 .bf16) (h : Vec F S1x256x256 .bf16) : k0_pay45 (k0_pay42 w h) = cellP 1 (Mx w h 1) := cell_11 w h
theorem it_007 (w : Vec F S256x256 .bf16) (h : Vec F S1x256x256 .bf16) : k0_pay44 (k0_pay43 w h) = cellP 0 (Mx w h 1) := cell_01 w h
theorem it_016 (w : Vec F S256x256 .bf16) (h : Vec F S1x256x256 .bf16) : k0_pay41 w h = cellP 1 (Mx w h 0) := cell_10 w h
theorem it_006 (w : Vec F S256x256 .bf16) (h : Vec F S1x256x256 .bf16) : k0_pay40 w h = cellP 0 (Mx w h 0) := cell_00 w h
theorem it_015 (w : Vec F S256x256 .bf16) (h : Vec F S1x256x256 .bf16) : k0_pay37 (k0_pay34 w h) = cellP 1 (Mx w h 1) := cell_11 w h
theorem it_005 (w : Vec F S256x256 .bf16) (h : Vec F S1x256x256 .bf16) : k0_pay36 (k0_pay35 w h) = cellP 0 (Mx w h 1) := cell_01 w h
theorem it_014 (w : Vec F S256x256 .bf16) (h : Vec F S1x256x256 .bf16) : k0_pay33 w h = cellP 1 (Mx w h 0) := cell_10 w h
theorem it_004 (w : Vec F S256x256 .bf16) (h : Vec F S1x256x256 .bf16) : k0_pay32 w h = cellP 0 (Mx w h 0) := cell_00 w h
theorem it_013 (w : Vec F S256x256 .bf16) (h : Vec F S1x256x256 .bf16) : k0_pay29 (k0_pay26 w h) = cellP 1 (Mx w h 1) := cell_11 w h
theorem it_003 (w : Vec F S256x256 .bf16) (h : Vec F S1x256x256 .bf16) : k0_pay28 (k0_pay27 w h) = cellP 0 (Mx w h 1) := cell_01 w h
theorem it_012 (w : Vec F S256x256 .bf16) (h : Vec F S1x256x256 .bf16) : k0_pay25 w h = cellP 1 (Mx w h 0) := cell_10 w h
theorem it_002 (w : Vec F S256x256 .bf16) (h : Vec F S1x256x256 .bf16) : k0_pay24 w h = cellP 0 (Mx w h 0) := cell_00 w h
theorem it_011 (w : Vec F S256x256 .bf16) (h : Vec F S1x256x256 .bf16) : k0_pay21 (k0_pay18 w h) = cellP 1 (Mx w h 1) := cell_11 w h
theorem it_001 (w : Vec F S256x256 .bf16) (h : Vec F S1x256x256 .bf16) : k0_pay20 (k0_pay19 w h) = cellP 0 (Mx w h 1) := cell_01 w h
theorem it_010 (w : Vec F S256x256 .bf16) (h : Vec F S1x256x256 .bf16) : k0_pay17 w h = cellP 1 (Mx w h 0) := cell_10 w h
theorem it_000 (w : Vec F S256x256 .bf16) (h : Vec F S1x256x256 .bf16) : k0_pay16 w h = cellP 0 (Mx w h 0) := cell_00 w h
theorem it_117 (w : Vec F S256x256 .bf16) (h : Vec F S1x256x256 .bf16) : k0_pay100 (k0_pay97 w h) = cellP 1 (Mx w h 1) := cell_11 w h
theorem it_107 (w : Vec F S256x256 .bf16) (h : Vec F S1x256x256 .bf16) : k0_pay99 (k0_pay97 w h) = cellP 0 (Mx w h 1) := cell_01 w h
theorem it_116 (w : Vec F S256x256 .bf16) (h : Vec F S1x256x256 .bf16) : k0_pay96 w h = cellP 1 (Mx w h 0) := cell_10 w h
theorem it_106 (w : Vec F S256x256 .bf16) (h : Vec F S1x256x256 .bf16) : k0_pay95 w h = cellP 0 (Mx w h 0) := cell_00 w h
theorem it_115 (w : Vec F S256x256 .bf16) (h : Vec F S1x256x256 .bf16) : k0_pay92 (k0_pay90 w h) = cellP 1 (Mx w h 1) := cell_11 w h
theorem it_105 (w : Vec F S256x256 .bf16) (h : Vec F S1x256x256 .bf16) : k0_pay91 (k0_pay90 w h) = cellP 0 (Mx w h 1) := cell_01 w h
theorem it_114 (w : Vec F S256x256 .bf16) (h : Vec F S1x256x256 .bf16) : k0_pay89 w h = cellP 1 (Mx w h 0) := cell_10 w h
theorem it_104 (w : Vec F S256x256 .bf16) (h : Vec F S1x256x256 .bf16) : k0_pay88 w h = cellP 0 (Mx w h 0) := cell_00 w h
theorem it_113 (w : Vec F S256x256 .bf16) (h : Vec F S1x256x256 .bf16) : k0_pay85 (k0_pay82 w h) = cellP 1 (Mx w h 1) := cell_11 w h
theorem it_103 (w : Vec F S256x256 .bf16) (h : Vec F S1x256x256 .bf16) : k0_pay84 (k0_pay83 w h) = cellP 0 (Mx w h 1) := cell_01 w h
theorem it_112 (w : Vec F S256x256 .bf16) (h : Vec F S1x256x256 .bf16) : k0_pay81 w h = cellP 1 (Mx w h 0) := cell_10 w h
theorem it_102 (w : Vec F S256x256 .bf16) (h : Vec F S1x256x256 .bf16) : k0_pay80 w h = cellP 0 (Mx w h 0) := cell_00 w h
theorem it_111 (w : Vec F S256x256 .bf16) (h : Vec F S1x256x256 .bf16) : k0_pay77 (k0_pay74 w h) = cellP 1 (Mx w h 1) := cell_11 w h
theorem it_101 (w : Vec F S256x256 .bf16) (h : Vec F S1x256x256 .bf16) : k0_pay76 (k0_pay75 w h) = cellP 0 (Mx w h 1) := cell_01 w h
theorem it_110 (w : Vec F S256x256 .bf16) (h : Vec F S1x256x256 .bf16) : k0_pay73 w h = cellP 1 (Mx w h 0) := cell_10 w h
theorem it_100 (w : Vec F S256x256 .bf16) (h : Vec F S1x256x256 .bf16) : k0_pay72 w h = cellP 0 (Mx w h 0) := cell_00 w h
/-- The pieces of the slab after the first four pairs. -/
def L16 : List (Fin 2 × Fin 2 × Fin 8) := [(0, 1, 7), (0, 0, 7), (0, 1, 6), (0, 0, 6), (0, 1, 5), (0, 0, 5), (0, 1, 4), (0, 0, 4), (0, 1, 3), (0, 0, 3), (0, 1, 2), (0, 0, 2), (0, 1, 1), (0, 0, 1), (0, 1, 0), (0, 0, 0)]

/-- The pieces of the slab after all the pairs. -/
def L32 : List (Fin 2 × Fin 2 × Fin 8) := (1, 1, 7) :: (1, 0, 7) :: (1, 1, 6) :: (1, 0, 6) :: (1, 1, 5) :: (1, 0, 5) :: (1, 1, 4) :: (1, 0, 4) :: (1, 1, 3) :: (1, 0, 3) :: (1, 1, 2) :: (1, 0, 2) :: (1, 1, 1) :: (1, 0, 1) :: (1, 1, 0) :: (1, 0, 0) :: L16

set_option maxHeartbeats 1600000 in
theorem HS2_16_eq : runB.sl.HS2_16 c i arg2 harg2 arg6 harg6 x0 hs = L16.map (slabPiece i x0 hs) :=
    (congrArg₂ List.cons (piece_eq i x0 hs (0, 1, 7) _ ((congrArg₂ (fun w h => k0_pay45 (k0_pay42 w h)) (w_read arg2 harg2 x0 3 rfl _) (h_read arg6 harg6 hs i 3 rfl _)).trans (it_017 _ _)))
    (congrArg₂ List.cons (piece_eq i x0 hs (0, 0, 7) _ ((congrArg₂ (fun w h => k0_pay44 (k0_pay43 w h)) (w_read arg2 harg2 x0 3 rfl _) (h_read arg6 harg6 hs i 3 rfl _)).trans (it_007 _ _)))
    (congrArg₂ List.cons (piece_eq i x0 hs (0, 1, 6) _ ((congrArg₂ (fun w h => k0_pay41 w h) (w_read arg2 harg2 x0 3 rfl _) (h_read arg6 harg6 hs i 3 rfl _)).trans (it_016 _ _)))
    (congrArg₂ List.cons (piece_eq i x0 hs (0, 0, 6) _ ((congrArg₂ (fun w h => k0_pay40 w h) (w_read arg2 harg2 x0 3 rfl _) (h_read arg6 harg6 hs i 3 rfl _)).trans (it_006 _ _)))
    (congrArg₂ List.cons (piece_eq i x0 hs (0, 1, 5) _ ((congrArg₂ (fun w h => k0_pay37 (k0_pay34 w h)) (w_read arg2 harg2 x0 2 rfl _) (h_read arg6 harg6 hs i 2 rfl _)).trans (it_015 _ _)))
    (congrArg₂ List.cons (piece_eq i x0 hs (0, 0, 5) _ ((congrArg₂ (fun w h => k0_pay36 (k0_pay35 w h)) (w_read arg2 harg2 x0 2 rfl _) (h_read arg6 harg6 hs i 2 rfl _)).trans (it_005 _ _)))
    (congrArg₂ List.cons (piece_eq i x0 hs (0, 1, 4) _ ((congrArg₂ (fun w h => k0_pay33 w h) (w_read arg2 harg2 x0 2 rfl _) (h_read arg6 harg6 hs i 2 rfl _)).trans (it_014 _ _)))
    (congrArg₂ List.cons (piece_eq i x0 hs (0, 0, 4) _ ((congrArg₂ (fun w h => k0_pay32 w h) (w_read arg2 harg2 x0 2 rfl _) (h_read arg6 harg6 hs i 2 rfl _)).trans (it_004 _ _)))
    (congrArg₂ List.cons (piece_eq i x0 hs (0, 1, 3) _ ((congrArg₂ (fun w h => k0_pay29 (k0_pay26 w h)) (w_read arg2 harg2 x0 1 rfl _) (h_read arg6 harg6 hs i 1 rfl _)).trans (it_013 _ _)))
    (congrArg₂ List.cons (piece_eq i x0 hs (0, 0, 3) _ ((congrArg₂ (fun w h => k0_pay28 (k0_pay27 w h)) (w_read arg2 harg2 x0 1 rfl _) (h_read arg6 harg6 hs i 1 rfl _)).trans (it_003 _ _)))
    (congrArg₂ List.cons (piece_eq i x0 hs (0, 1, 2) _ ((congrArg₂ (fun w h => k0_pay25 w h) (w_read arg2 harg2 x0 1 rfl _) (h_read arg6 harg6 hs i 1 rfl _)).trans (it_012 _ _)))
    (congrArg₂ List.cons (piece_eq i x0 hs (0, 0, 2) _ ((congrArg₂ (fun w h => k0_pay24 w h) (w_read arg2 harg2 x0 1 rfl _) (h_read arg6 harg6 hs i 1 rfl _)).trans (it_002 _ _)))
    (congrArg₂ List.cons (piece_eq i x0 hs (0, 1, 1) _ ((congrArg₂ (fun w h => k0_pay21 (k0_pay18 w h)) (w_read arg2 harg2 x0 0 rfl _) (h_read arg6 harg6 hs i 0 rfl _)).trans (it_011 _ _)))
    (congrArg₂ List.cons (piece_eq i x0 hs (0, 0, 1) _ ((congrArg₂ (fun w h => k0_pay20 (k0_pay19 w h)) (w_read arg2 harg2 x0 0 rfl _) (h_read arg6 harg6 hs i 0 rfl _)).trans (it_001 _ _)))
    (congrArg₂ List.cons (piece_eq i x0 hs (0, 1, 0) _ ((congrArg₂ (fun w h => k0_pay17 w h) (w_read arg2 harg2 x0 0 rfl _) (h_read arg6 harg6 hs i 0 rfl _)).trans (it_010 _ _)))
    (congrArg₂ List.cons (piece_eq i x0 hs (0, 0, 0) _ ((congrArg₂ (fun w h => k0_pay16 w h) (w_read arg2 harg2 x0 0 rfl _) (h_read arg6 harg6 hs i 0 rfl _)).trans (it_000 _ _))) rfl))))))))))))))))

set_option maxHeartbeats 1600000 in
theorem HS2_32_eq : runB.sl.HS2_32 c i arg2 harg2 arg6 harg6 x0 hs = L32.map (slabPiece i x0 hs) :=
    (congrArg₂ List.cons (piece_eq i x0 hs (1, 1, 7) _ ((congrArg₂ (fun w h => k0_pay100 (k0_pay97 w h)) (w_read arg2 harg2 x0 7 rfl _) (h_read arg6 harg6 hs i 7 rfl _)).trans (it_117 _ _)))
    (congrArg₂ List.cons (piece_eq i x0 hs (1, 0, 7) _ ((congrArg₂ (fun w h => k0_pay99 (k0_pay97 w h)) (w_read arg2 harg2 x0 7 rfl _) (h_read arg6 harg6 hs i 7 rfl _)).trans (it_107 _ _)))
    (congrArg₂ List.cons (piece_eq i x0 hs (1, 1, 6) _ ((congrArg₂ (fun w h => k0_pay96 w h) (w_read arg2 harg2 x0 7 rfl _) (h_read arg6 harg6 hs i 7 rfl _)).trans (it_116 _ _)))
    (congrArg₂ List.cons (piece_eq i x0 hs (1, 0, 6) _ ((congrArg₂ (fun w h => k0_pay95 w h) (w_read arg2 harg2 x0 7 rfl _) (h_read arg6 harg6 hs i 7 rfl _)).trans (it_106 _ _)))
    (congrArg₂ List.cons (piece_eq i x0 hs (1, 1, 5) _ ((congrArg₂ (fun w h => k0_pay92 (k0_pay90 w h)) (w_read arg2 harg2 x0 6 rfl _) (h_read arg6 harg6 hs i 6 rfl _)).trans (it_115 _ _)))
    (congrArg₂ List.cons (piece_eq i x0 hs (1, 0, 5) _ ((congrArg₂ (fun w h => k0_pay91 (k0_pay90 w h)) (w_read arg2 harg2 x0 6 rfl _) (h_read arg6 harg6 hs i 6 rfl _)).trans (it_105 _ _)))
    (congrArg₂ List.cons (piece_eq i x0 hs (1, 1, 4) _ ((congrArg₂ (fun w h => k0_pay89 w h) (w_read arg2 harg2 x0 6 rfl _) (h_read arg6 harg6 hs i 6 rfl _)).trans (it_114 _ _)))
    (congrArg₂ List.cons (piece_eq i x0 hs (1, 0, 4) _ ((congrArg₂ (fun w h => k0_pay88 w h) (w_read arg2 harg2 x0 6 rfl _) (h_read arg6 harg6 hs i 6 rfl _)).trans (it_104 _ _)))
    (congrArg₂ List.cons (piece_eq i x0 hs (1, 1, 3) _ ((congrArg₂ (fun w h => k0_pay85 (k0_pay82 w h)) (w_read arg2 harg2 x0 5 rfl _) (h_read arg6 harg6 hs i 5 rfl _)).trans (it_113 _ _)))
    (congrArg₂ List.cons (piece_eq i x0 hs (1, 0, 3) _ ((congrArg₂ (fun w h => k0_pay84 (k0_pay83 w h)) (w_read arg2 harg2 x0 5 rfl _) (h_read arg6 harg6 hs i 5 rfl _)).trans (it_103 _ _)))
    (congrArg₂ List.cons (piece_eq i x0 hs (1, 1, 2) _ ((congrArg₂ (fun w h => k0_pay81 w h) (w_read arg2 harg2 x0 5 rfl _) (h_read arg6 harg6 hs i 5 rfl _)).trans (it_112 _ _)))
    (congrArg₂ List.cons (piece_eq i x0 hs (1, 0, 2) _ ((congrArg₂ (fun w h => k0_pay80 w h) (w_read arg2 harg2 x0 5 rfl _) (h_read arg6 harg6 hs i 5 rfl _)).trans (it_102 _ _)))
    (congrArg₂ List.cons (piece_eq i x0 hs (1, 1, 1) _ ((congrArg₂ (fun w h => k0_pay77 (k0_pay74 w h)) (w_read arg2 harg2 x0 4 rfl _) (h_read arg6 harg6 hs i 4 rfl _)).trans (it_111 _ _)))
    (congrArg₂ List.cons (piece_eq i x0 hs (1, 0, 1) _ ((congrArg₂ (fun w h => k0_pay76 (k0_pay75 w h)) (w_read arg2 harg2 x0 4 rfl _) (h_read arg6 harg6 hs i 4 rfl _)).trans (it_101 _ _)))
    (congrArg₂ List.cons (piece_eq i x0 hs (1, 1, 0) _ ((congrArg₂ (fun w h => k0_pay73 w h) (w_read arg2 harg2 x0 4 rfl _) (h_read arg6 harg6 hs i 4 rfl _)).trans (it_110 _ _)))
    (congrArg₂ List.cons (piece_eq i x0 hs (1, 0, 0) _ ((congrArg₂ (fun w h => k0_pay72 w h) (w_read arg2 harg2 x0 4 rfl _) (h_read arg6 harg6 hs i 4 rfl _)).trans (it_100 _ _))) (HS2_16_eq i x0 hs c arg2 harg2 arg6 harg6)))))))))))))))))

theorem v133_eq : runB.sl.v133 c i arg2 harg2 arg6 harg6 arg8 x0 hs = tileV i x0 hs 0 0 0 :=
  (congrArg (fun L => arg8.view.readCov L _) (HS2_16_eq i x0 hs c arg2 harg2 arg6 harg6)).trans (tile_read i x0 hs arg8 L16 0 0 0 (by decide) rfl _)
theorem v135_eq : runB.sl.v135 c i arg2 harg2 arg6 harg6 arg8 x0 hs = tileV i x0 hs 0 0 1 :=
  (congrArg (fun L => arg8.view.readCov L _) (HS2_16_eq i x0 hs c arg2 harg2 arg6 harg6)).trans (tile_read i x0 hs arg8 L16 0 0 1 (by decide) rfl _)
theorem v138_eq : runB.sl.v138 c i arg2 harg2 arg6 harg6 arg8 x0 hs = tileV i x0 hs 0 0 2 :=
  (congrArg (fun L => arg8.view.readCov L _) (HS2_16_eq i x0 hs c arg2 harg2 arg6 harg6)).trans (tile_read i x0 hs arg8 L16 0 0 2 (by decide) rfl _)
theorem v141_eq : runB.sl.v141 c i arg2 harg2 arg6 harg6 arg8 x0 hs = tileV i x0 hs 0 0 3 :=
  (congrArg (fun L => arg8.view.readCov L _) (HS2_16_eq i x0 hs c arg2 harg2 arg6 harg6)).trans (tile_read i x0 hs arg8 L16 0 0 3 (by decide) rfl _)
theorem v144_eq : runB.sl.v144 c i arg2 harg2 arg6 harg6 arg8 x0 hs = tileV i x0 hs 0 0 4 :=
  (congrArg (fun L => arg8.view.readCov L _) (HS2_16_eq i x0 hs c arg2 harg2 arg6 harg6)).trans (tile_read i x0 hs arg8 L16 0 0 4 (by decide) rfl _)
theorem v147_eq : runB.sl.v147 c i arg2 harg2 arg6 harg6 arg8 x0 hs = tileV i x0 hs 0 0 5 :=
  (congrArg (fun L => arg8.view.readCov L _) (HS2_16_eq i x0 hs c arg2 harg2 arg6 harg6)).trans (tile_read i x0 hs arg8 L16 0 0 5 (by decide) rfl _)
theorem v150_eq : runB.sl.v150 c i arg2 harg2 arg6 harg6 arg8 x0 hs = tileV i x0 hs 0 0 6 :=
  (congrArg (fun L => arg8.view.readCov L _) (HS2_16_eq i x0 hs c arg2 harg2 arg6 harg6)).trans (tile_read i x0 hs arg8 L16 0 0 6 (by decide) rfl _)
theorem v153_eq : runB.sl.v153 c i arg2 harg2 arg6 harg6 arg8 x0 hs = tileV i x0 hs 0 0 7 :=
  (congrArg (fun L => arg8.view.readCov L _) (HS2_16_eq i x0 hs c arg2 harg2 arg6 harg6)).trans (tile_read i x0 hs arg8 L16 0 0 7 (by decide) rfl _)
theorem v173_eq : runB.sl.v173 c i arg2 harg2 arg6 harg6 arg8 x0 hs = tileV i x0 hs 0 1 0 :=
  (congrArg (fun L => arg8.view.readCov L _) (HS2_16_eq i x0 hs c arg2 harg2 arg6 harg6)).trans (tile_read i x0 hs arg8 L16 0 1 0 (by decide) rfl _)
theorem v175_eq : runB.sl.v175 c i arg2 harg2 arg6 harg6 arg8 x0 hs = tileV i x0 hs 0 1 1 :=
  (congrArg (fun L => arg8.view.readCov L _) (HS2_16_eq i x0 hs c arg2 harg2 arg6 harg6)).trans (tile_read i x0 hs arg8 L16 0 1 1 (by decide) rfl _)
theorem v178_eq : runB.sl.v178 c i arg2 harg2 arg6 harg6 arg8 x0 hs = tileV i x0 hs 0 1 2 :=
  (congrArg (fun L => arg8.view.readCov L _) (HS2_16_eq i x0 hs c arg2 harg2 arg6 harg6)).trans (tile_read i x0 hs arg8 L16 0 1 2 (by decide) rfl _)
theorem v181_eq : runB.sl.v181 c i arg2 harg2 arg6 harg6 arg8 x0 hs = tileV i x0 hs 0 1 3 :=
  (congrArg (fun L => arg8.view.readCov L _) (HS2_16_eq i x0 hs c arg2 harg2 arg6 harg6)).trans (tile_read i x0 hs arg8 L16 0 1 3 (by decide) rfl _)
theorem v184_eq : runB.sl.v184 c i arg2 harg2 arg6 harg6 arg8 x0 hs = tileV i x0 hs 0 1 4 :=
  (congrArg (fun L => arg8.view.readCov L _) (HS2_16_eq i x0 hs c arg2 harg2 arg6 harg6)).trans (tile_read i x0 hs arg8 L16 0 1 4 (by decide) rfl _)
theorem v187_eq : runB.sl.v187 c i arg2 harg2 arg6 harg6 arg8 x0 hs = tileV i x0 hs 0 1 5 :=
  (congrArg (fun L => arg8.view.readCov L _) (HS2_16_eq i x0 hs c arg2 harg2 arg6 harg6)).trans (tile_read i x0 hs arg8 L16 0 1 5 (by decide) rfl _)
theorem v190_eq : runB.sl.v190 c i arg2 harg2 arg6 harg6 arg8 x0 hs = tileV i x0 hs 0 1 6 :=
  (congrArg (fun L => arg8.view.readCov L _) (HS2_16_eq i x0 hs c arg2 harg2 arg6 harg6)).trans (tile_read i x0 hs arg8 L16 0 1 6 (by decide) rfl _)
theorem v193_eq : runB.sl.v193 c i arg2 harg2 arg6 harg6 arg8 x0 hs = tileV i x0 hs 0 1 7 :=
  (congrArg (fun L => arg8.view.readCov L _) (HS2_16_eq i x0 hs c arg2 harg2 arg6 harg6)).trans (tile_read i x0 hs arg8 L16 0 1 7 (by decide) rfl _)
theorem v525_eq : runB.sl.v525 c i arg2 harg2 arg6 harg6 arg8 x0 hs = tileV i x0 hs 1 0 0 :=
  (congrArg (fun L => arg8.view.readCov L _) (HS2_32_eq i x0 hs c arg2 harg2 arg6 harg6)).trans (tile_read i x0 hs arg8 L32 1 0 0 (by decide) rfl _)
theorem v527_eq : runB.sl.v527 c i arg2 harg2 arg6 harg6 arg8 x0 hs = tileV i x0 hs 1 0 1 :=
  (congrArg (fun L => arg8.view.readCov L _) (HS2_32_eq i x0 hs c arg2 harg2 arg6 harg6)).trans (tile_read i x0 hs arg8 L32 1 0 1 (by decide) rfl _)
theorem v530_eq : runB.sl.v530 c i arg2 harg2 arg6 harg6 arg8 x0 hs = tileV i x0 hs 1 0 2 :=
  (congrArg (fun L => arg8.view.readCov L _) (HS2_32_eq i x0 hs c arg2 harg2 arg6 harg6)).trans (tile_read i x0 hs arg8 L32 1 0 2 (by decide) rfl _)
theorem v533_eq : runB.sl.v533 c i arg2 harg2 arg6 harg6 arg8 x0 hs = tileV i x0 hs 1 0 3 :=
  (congrArg (fun L => arg8.view.readCov L _) (HS2_32_eq i x0 hs c arg2 harg2 arg6 harg6)).trans (tile_read i x0 hs arg8 L32 1 0 3 (by decide) rfl _)
theorem v536_eq : runB.sl.v536 c i arg2 harg2 arg6 harg6 arg8 x0 hs = tileV i x0 hs 1 0 4 :=
  (congrArg (fun L => arg8.view.readCov L _) (HS2_32_eq i x0 hs c arg2 harg2 arg6 harg6)).trans (tile_read i x0 hs arg8 L32 1 0 4 (by decide) rfl _)
theorem v539_eq : runB.sl.v539 c i arg2 harg2 arg6 harg6 arg8 x0 hs = tileV i x0 hs 1 0 5 :=
  (congrArg (fun L => arg8.view.readCov L _) (HS2_32_eq i x0 hs c arg2 harg2 arg6 harg6)).trans (tile_read i x0 hs arg8 L32 1 0 5 (by decide) rfl _)
theorem v542_eq : runB.sl.v542 c i arg2 harg2 arg6 harg6 arg8 x0 hs = tileV i x0 hs 1 0 6 :=
  (congrArg (fun L => arg8.view.readCov L _) (HS2_32_eq i x0 hs c arg2 harg2 arg6 harg6)).trans (tile_read i x0 hs arg8 L32 1 0 6 (by decide) rfl _)
theorem v545_eq : runB.sl.v545 c i arg2 harg2 arg6 harg6 arg8 x0 hs = tileV i x0 hs 1 0 7 :=
  (congrArg (fun L => arg8.view.readCov L _) (HS2_32_eq i x0 hs c arg2 harg2 arg6 harg6)).trans (tile_read i x0 hs arg8 L32 1 0 7 (by decide) rfl _)
theorem v565_eq : runB.sl.v565 c i arg2 harg2 arg6 harg6 arg8 x0 hs = tileV i x0 hs 1 1 0 :=
  (congrArg (fun L => arg8.view.readCov L _) (HS2_32_eq i x0 hs c arg2 harg2 arg6 harg6)).trans (tile_read i x0 hs arg8 L32 1 1 0 (by decide) rfl _)
theorem v567_eq : runB.sl.v567 c i arg2 harg2 arg6 harg6 arg8 x0 hs = tileV i x0 hs 1 1 1 :=
  (congrArg (fun L => arg8.view.readCov L _) (HS2_32_eq i x0 hs c arg2 harg2 arg6 harg6)).trans (tile_read i x0 hs arg8 L32 1 1 1 (by decide) rfl _)
theorem v570_eq : runB.sl.v570 c i arg2 harg2 arg6 harg6 arg8 x0 hs = tileV i x0 hs 1 1 2 :=
  (congrArg (fun L => arg8.view.readCov L _) (HS2_32_eq i x0 hs c arg2 harg2 arg6 harg6)).trans (tile_read i x0 hs arg8 L32 1 1 2 (by decide) rfl _)
theorem v573_eq : runB.sl.v573 c i arg2 harg2 arg6 harg6 arg8 x0 hs = tileV i x0 hs 1 1 3 :=
  (congrArg (fun L => arg8.view.readCov L _) (HS2_32_eq i x0 hs c arg2 harg2 arg6 harg6)).trans (tile_read i x0 hs arg8 L32 1 1 3 (by decide) rfl _)
theorem v576_eq : runB.sl.v576 c i arg2 harg2 arg6 harg6 arg8 x0 hs = tileV i x0 hs 1 1 4 :=
  (congrArg (fun L => arg8.view.readCov L _) (HS2_32_eq i x0 hs c arg2 harg2 arg6 harg6)).trans (tile_read i x0 hs arg8 L32 1 1 4 (by decide) rfl _)
theorem v579_eq : runB.sl.v579 c i arg2 harg2 arg6 harg6 arg8 x0 hs = tileV i x0 hs 1 1 5 :=
  (congrArg (fun L => arg8.view.readCov L _) (HS2_32_eq i x0 hs c arg2 harg2 arg6 harg6)).trans (tile_read i x0 hs arg8 L32 1 1 5 (by decide) rfl _)
theorem v582_eq : runB.sl.v582 c i arg2 harg2 arg6 harg6 arg8 x0 hs = tileV i x0 hs 1 1 6 :=
  (congrArg (fun L => arg8.view.readCov L _) (HS2_32_eq i x0 hs c arg2 harg2 arg6 harg6)).trans (tile_read i x0 hs arg8 L32 1 1 6 (by decide) rfl _)
theorem v585_eq : runB.sl.v585 c i arg2 harg2 arg6 harg6 arg8 x0 hs = tileV i x0 hs 1 1 7 :=
  (congrArg (fun L => arg8.view.readCov L _) (HS2_32_eq i x0 hs c arg2 harg2 arg6 harg6)).trans (tile_read i x0 hs arg8 L32 1 1 7 (by decide) rfl _)

theorem st00 : k0_pay48 (k0_pay46 (runB.sl.v133 c i arg2 harg2 arg6 harg6 arg8 x0 hs) (runB.sl.v135 c i arg2 harg2 arg6 harg6 arg8 x0 hs) (runB.sl.v138 c i arg2 harg2 arg6 harg6 arg8 x0 hs) (runB.sl.v141 c i arg2 harg2 arg6 harg6 arg8 x0 hs) (runB.sl.v144 c i arg2 harg2 arg6 harg6 arg8 x0 hs) (runB.sl.v147 c i arg2 harg2 arg6 harg6 arg8 x0 hs)) (runB.sl.v150 c i arg2 harg2 arg6 harg6 arg8 x0 hs) (runB.sl.v153 c i arg2 harg2 arg6 harg6 arg8 x0 hs) = cell3 (sclV i x0 hs 0 0) := by
  rw [v133_eq, v135_eq, v138_eq, v141_eq, v144_eq, v147_eq, v150_eq, v153_eq]
  exact pay48_eq (tileV i x0 hs 0 0)
theorem st01 : k0_pay52 (k0_pay50 (runB.sl.v173 c i arg2 harg2 arg6 harg6 arg8 x0 hs) (runB.sl.v175 c i arg2 harg2 arg6 harg6 arg8 x0 hs) (runB.sl.v178 c i arg2 harg2 arg6 harg6 arg8 x0 hs)) (runB.sl.v181 c i arg2 harg2 arg6 harg6 arg8 x0 hs) (runB.sl.v184 c i arg2 harg2 arg6 harg6 arg8 x0 hs) (runB.sl.v187 c i arg2 harg2 arg6 harg6 arg8 x0 hs) (runB.sl.v190 c i arg2 harg2 arg6 harg6 arg8 x0 hs) (runB.sl.v193 c i arg2 harg2 arg6 harg6 arg8 x0 hs) = cell3 (sclV i x0 hs 0 1) := by
  rw [v173_eq, v175_eq, v178_eq, v181_eq, v184_eq, v187_eq, v190_eq, v193_eq]
  exact pay52_eq (tileV i x0 hs 0 1)
theorem st10 : k0_pay103 (k0_pay101 (runB.sl.v525 c i arg2 harg2 arg6 harg6 arg8 x0 hs) (runB.sl.v527 c i arg2 harg2 arg6 harg6 arg8 x0 hs) (runB.sl.v530 c i arg2 harg2 arg6 harg6 arg8 x0 hs) (runB.sl.v533 c i arg2 harg2 arg6 harg6 arg8 x0 hs) (runB.sl.v536 c i arg2 harg2 arg6 harg6 arg8 x0 hs) (runB.sl.v539 c i arg2 harg2 arg6 harg6 arg8 x0 hs)) (runB.sl.v542 c i arg2 harg2 arg6 harg6 arg8 x0 hs) (runB.sl.v545 c i arg2 harg2 arg6 harg6 arg8 x0 hs) = cell3 (sclV i x0 hs 1 0) := by
  rw [v525_eq, v527_eq, v530_eq, v533_eq, v536_eq, v539_eq, v542_eq, v545_eq]
  exact pay103_eq (tileV i x0 hs 1 0)
theorem st11 : k0_pay107 (k0_pay105 (runB.sl.v565 c i arg2 harg2 arg6 harg6 arg8 x0 hs) (runB.sl.v567 c i arg2 harg2 arg6 harg6 arg8 x0 hs)) (runB.sl.v570 c i arg2 harg2 arg6 harg6 arg8 x0 hs) (runB.sl.v573 c i arg2 harg2 arg6 harg6 arg8 x0 hs) (runB.sl.v576 c i arg2 harg2 arg6 harg6 arg8 x0 hs) (runB.sl.v579 c i arg2 harg2 arg6 harg6 arg8 x0 hs) (runB.sl.v582 c i arg2 harg2 arg6 harg6 arg8 x0 hs) (runB.sl.v585 c i arg2 harg2 arg6 harg6 arg8 x0 hs) = cell3 (sclV i x0 hs 1 1) := by
  rw [v565_eq, v567_eq, v570_eq, v573_eq, v576_eq, v579_eq, v582_eq, v585_eq]
  exact pay107_eq (tileV i x0 hs 1 1)
theorem r00 : k0_pay49 (k0_pay46 (runB.sl.v133 c i arg2 harg2 arg6 harg6 arg8 x0 hs) (runB.sl.v135 c i arg2 harg2 arg6 harg6 arg8 x0 hs) (runB.sl.v138 c i arg2 harg2 arg6 harg6 arg8 x0 hs) (runB.sl.v141 c i arg2 harg2 arg6 harg6 arg8 x0 hs) (runB.sl.v144 c i arg2 harg2 arg6 harg6 arg8 x0 hs) (runB.sl.v147 c i arg2 harg2 arg6 harg6 arg8 x0 hs)) (runB.sl.v150 c i arg2 harg2 arg6 harg6 arg8 x0 hs) (runB.sl.v153 c i arg2 harg2 arg6 harg6 arg8 x0 hs) = cell3 (rcpV i x0 hs 0 0) := by
  rw [v133_eq, v135_eq, v138_eq, v141_eq, v144_eq, v147_eq, v150_eq, v153_eq]
  exact pay49_eq (tileV i x0 hs 0 0)
theorem r01 : k0_pay54 (k0_pay53 (k0_pay50 (runB.sl.v173 c i arg2 harg2 arg6 harg6 arg8 x0 hs) (runB.sl.v175 c i arg2 harg2 arg6 harg6 arg8 x0 hs) (runB.sl.v178 c i arg2 harg2 arg6 harg6 arg8 x0 hs)) (runB.sl.v181 c i arg2 harg2 arg6 harg6 arg8 x0 hs) (runB.sl.v184 c i arg2 harg2 arg6 harg6 arg8 x0 hs) (runB.sl.v187 c i arg2 harg2 arg6 harg6 arg8 x0 hs) (runB.sl.v190 c i arg2 harg2 arg6 harg6 arg8 x0 hs) (runB.sl.v193 c i arg2 harg2 arg6 harg6 arg8 x0 hs)) = cell3 (rcpV i x0 hs 0 1) := by
  rw [v173_eq, v175_eq, v178_eq, v181_eq, v184_eq, v187_eq, v190_eq, v193_eq]
  exact pay54_eq (tileV i x0 hs 0 1)
theorem r10 : k0_pay104 (k0_pay101 (runB.sl.v525 c i arg2 harg2 arg6 harg6 arg8 x0 hs) (runB.sl.v527 c i arg2 harg2 arg6 harg6 arg8 x0 hs) (runB.sl.v530 c i arg2 harg2 arg6 harg6 arg8 x0 hs) (runB.sl.v533 c i arg2 harg2 arg6 harg6 arg8 x0 hs) (runB.sl.v536 c i arg2 harg2 arg6 harg6 arg8 x0 hs) (runB.sl.v539 c i arg2 harg2 arg6 harg6 arg8 x0 hs)) (runB.sl.v542 c i arg2 harg2 arg6 harg6 arg8 x0 hs) (runB.sl.v545 c i arg2 harg2 arg6 harg6 arg8 x0 hs) = cell3 (rcpV i x0 hs 1 0) := by
  rw [v525_eq, v527_eq, v530_eq, v533_eq, v536_eq, v539_eq, v542_eq, v545_eq]
  exact pay104_eq (tileV i x0 hs 1 0)
theorem r11 : k0_pay109 (k0_pay108 (k0_pay105 (runB.sl.v565 c i arg2 harg2 arg6 harg6 arg8 x0 hs) (runB.sl.v567 c i arg2 harg2 arg6 harg6 arg8 x0 hs)) (runB.sl.v570 c i arg2 harg2 arg6 harg6 arg8 x0 hs) (runB.sl.v573 c i arg2 harg2 arg6 harg6 arg8 x0 hs) (runB.sl.v576 c i arg2 harg2 arg6 harg6 arg8 x0 hs) (runB.sl.v579 c i arg2 harg2 arg6 harg6 arg8 x0 hs) (runB.sl.v582 c i arg2 harg2 arg6 harg6 arg8 x0 hs) (runB.sl.v585 c i arg2 harg2 arg6 harg6 arg8 x0 hs)) = cell3 (rcpV i x0 hs 1 1) := by
  rw [v565_eq, v567_eq, v570_eq, v573_eq, v576_eq, v579_eq, v582_eq, v585_eq]
  exact pay109_eq (tileV i x0 hs 1 1)

theorem HS3_2_eq : runB.sl.HS3_2 c i arg2 harg2 arg6 harg6 arg8 x0 hs = [((0 : Fin 2), (1 : Fin 2)), (0, 0)].map (rPiece i x0 hs) :=
  congrArg₂ List.cons (rPiece_eq i x0 hs (0, 1) _ (r01 i x0 hs c arg2 harg2 arg6 harg6 arg8)) (congrArg₂ List.cons (rPiece_eq i x0 hs (0, 0) _ (r00 i x0 hs c arg2 harg2 arg6 harg6 arg8)) rfl)

theorem HS3_4_eq : runB.sl.HS3_4 c i arg2 harg2 arg6 harg6 arg8 x0 hs = [((1 : Fin 2), (1 : Fin 2)), (1, 0), (0, 1), (0, 0)].map (rPiece i x0 hs) :=
  congrArg₂ List.cons (rPiece_eq i x0 hs (1, 1) _ (r11 i x0 hs c arg2 harg2 arg6 harg6 arg8)) (congrArg₂ List.cons (rPiece_eq i x0 hs (1, 0) _ (r10 i x0 hs c arg2 harg2 arg6 harg6 arg8)) (HS3_2_eq i x0 hs c arg2 harg2 arg6 harg6 arg8))

theorem v214_eq : runB.sl.v214 c i arg2 harg2 arg6 harg6 arg8 arg9 x0 hs = rRow i x0 hs 0 0 :=
  (congrArg (fun L => arg9.view.readCov L _) (HS3_2_eq i x0 hs c arg2 harg2 arg6 harg6 arg8)).trans (rRow_read i x0 hs arg9 _ 0 0 (by decide) rfl _)
theorem v228_eq : runB.sl.v228 c i arg2 harg2 arg6 harg6 arg8 arg9 x0 hs = rRow i x0 hs 0 1 :=
  (congrArg (fun L => arg9.view.readCov L _) (HS3_2_eq i x0 hs c arg2 harg2 arg6 harg6 arg8)).trans (rRow_read i x0 hs arg9 _ 0 1 (by decide) rfl _)
theorem v260_eq : runB.sl.v260 c i arg2 harg2 arg6 harg6 arg8 arg9 x0 hs = rRow i x0 hs 0 2 :=
  (congrArg (fun L => arg9.view.readCov L _) (HS3_2_eq i x0 hs c arg2 harg2 arg6 harg6 arg8)).trans (rRow_read i x0 hs arg9 _ 0 2 (by decide) rfl _)
theorem v274_eq : runB.sl.v274 c i arg2 harg2 arg6 harg6 arg8 arg9 x0 hs = rRow i x0 hs 0 3 :=
  (congrArg (fun L => arg9.view.readCov L _) (HS3_2_eq i x0 hs c arg2 harg2 arg6 harg6 arg8)).trans (rRow_read i x0 hs arg9 _ 0 3 (by decide) rfl _)
theorem v306_eq : runB.sl.v306 c i arg2 harg2 arg6 harg6 arg8 arg9 x0 hs = rRow i x0 hs 0 4 :=
  (congrArg (fun L => arg9.view.readCov L _) (HS3_2_eq i x0 hs c arg2 harg2 arg6 harg6 arg8)).trans (rRow_read i x0 hs arg9 _ 0 4 (by decide) rfl _)
theorem v320_eq : runB.sl.v320 c i arg2 harg2 arg6 harg6 arg8 arg9 x0 hs = rRow i x0 hs 0 5 :=
  (congrArg (fun L => arg9.view.readCov L _) (HS3_2_eq i x0 hs c arg2 harg2 arg6 harg6 arg8)).trans (rRow_read i x0 hs arg9 _ 0 5 (by decide) rfl _)
theorem v352_eq : runB.sl.v352 c i arg2 harg2 arg6 harg6 arg8 arg9 x0 hs = rRow i x0 hs 0 6 :=
  (congrArg (fun L => arg9.view.readCov L _) (HS3_2_eq i x0 hs c arg2 harg2 arg6 harg6 arg8)).trans (rRow_read i x0 hs arg9 _ 0 6 (by decide) rfl _)
theorem v366_eq : runB.sl.v366 c i arg2 harg2 arg6 harg6 arg8 arg9 x0 hs = rRow i x0 hs 0 7 :=
  (congrArg (fun L => arg9.view.readCov L _) (HS3_2_eq i x0 hs c arg2 harg2 arg6 harg6 arg8)).trans (rRow_read i x0 hs arg9 _ 0 7 (by decide) rfl _)
theorem v606_eq : runB.sl.v606 c i arg2 harg2 arg6 harg6 arg8 arg9 x0 hs = rRow i x0 hs 1 0 :=
  (congrArg (fun L => arg9.view.readCov L _) (HS3_4_eq i x0 hs c arg2 harg2 arg6 harg6 arg8)).trans (rRow_read i x0 hs arg9 _ 1 0 (by decide) rfl _)
theorem v620_eq : runB.sl.v620 c i arg2 harg2 arg6 harg6 arg8 arg9 x0 hs = rRow i x0 hs 1 1 :=
  (congrArg (fun L => arg9.view.readCov L _) (HS3_4_eq i x0 hs c arg2 harg2 arg6 harg6 arg8)).trans (rRow_read i x0 hs arg9 _ 1 1 (by decide) rfl _)
theorem v652_eq : runB.sl.v652 c i arg2 harg2 arg6 harg6 arg8 arg9 x0 hs = rRow i x0 hs 1 2 :=
  (congrArg (fun L => arg9.view.readCov L _) (HS3_4_eq i x0 hs c arg2 harg2 arg6 harg6 arg8)).trans (rRow_read i x0 hs arg9 _ 1 2 (by decide) rfl _)
theorem v666_eq : runB.sl.v666 c i arg2 harg2 arg6 harg6 arg8 arg9 x0 hs = rRow i x0 hs 1 3 :=
  (congrArg (fun L => arg9.view.readCov L _) (HS3_4_eq i x0 hs c arg2 harg2 arg6 harg6 arg8)).trans (rRow_read i x0 hs arg9 _ 1 3 (by decide) rfl _)
theorem v698_eq : runB.sl.v698 c i arg2 harg2 arg6 harg6 arg8 arg9 x0 hs = rRow i x0 hs 1 4 :=
  (congrArg (fun L => arg9.view.readCov L _) (HS3_4_eq i x0 hs c arg2 harg2 arg6 harg6 arg8)).trans (rRow_read i x0 hs arg9 _ 1 4 (by decide) rfl _)
theorem v712_eq : runB.sl.v712 c i arg2 harg2 arg6 harg6 arg8 arg9 x0 hs = rRow i x0 hs 1 5 :=
  (congrArg (fun L => arg9.view.readCov L _) (HS3_4_eq i x0 hs c arg2 harg2 arg6 harg6 arg8)).trans (rRow_read i x0 hs arg9 _ 1 5 (by decide) rfl _)
theorem v744_eq : runB.sl.v744 c i arg2 harg2 arg6 harg6 arg8 arg9 x0 hs = rRow i x0 hs 1 6 :=
  (congrArg (fun L => arg9.view.readCov L _) (HS3_4_eq i x0 hs c arg2 harg2 arg6 harg6 arg8)).trans (rRow_read i x0 hs arg9 _ 1 6 (by decide) rfl _)
theorem v758_eq : runB.sl.v758 c i arg2 harg2 arg6 harg6 arg8 arg9 x0 hs = rRow i x0 hs 1 7 :=
  (congrArg (fun L => arg9.view.readCov L _) (HS3_4_eq i x0 hs c arg2 harg2 arg6 harg6 arg8)).trans (rRow_read i x0 hs arg9 _ 1 7 (by decide) rfl _)
theorem Y0_eq : runB.sl.r c i arg2 harg2 arg6 harg6 x0 hs = Yv i x0 hs 0 :=
  congrArg₂ (fun w h => k0_pay14 w h) (w_read arg2 harg2 x0 0 rfl _) (h_read arg6 harg6 hs i 0 rfl _)
theorem Y1_eq : runB.sl.r_3 c i arg2 harg2 arg6 harg6 x0 hs = Yv i x0 hs 1 :=
  congrArg₂ (fun w h => k0_pay22 w h) (w_read arg2 harg2 x0 1 rfl _) (h_read arg6 harg6 hs i 1 rfl _)
theorem Y2_eq : runB.sl.r_6 c i arg2 harg2 arg6 harg6 x0 hs = Yv i x0 hs 2 :=
  congrArg₂ (fun w h => k0_pay30 w h) (w_read arg2 harg2 x0 2 rfl _) (h_read arg6 harg6 hs i 2 rfl _)
theorem Y3_eq : runB.sl.r_9 c i arg2 harg2 arg6 harg6 x0 hs = Yv i x0 hs 3 :=
  congrArg₂ (fun w h => k0_pay38 w h) (w_read arg2 harg2 x0 3 rfl _) (h_read arg6 harg6 hs i 3 rfl _)
theorem Y4_eq : runB.sl.r_23 c i arg2 harg2 arg6 harg6 x0 hs = Yv i x0 hs 4 :=
  congrArg₂ (fun w h => k0_pay70 w h) (w_read arg2 harg2 x0 4 rfl _) (h_read arg6 harg6 hs i 4 rfl _)
theorem Y5_eq : runB.sl.r_26 c i arg2 harg2 arg6 harg6 x0 hs = Yv i x0 hs 5 :=
  congrArg₂ (fun w h => k0_pay78 w h) (w_read arg2 harg2 x0 5 rfl _) (h_read arg6 harg6 hs i 5 rfl _)
theorem Y6_eq : runB.sl.r_29 c i arg2 harg2 arg6 harg6 x0 hs = Yv i x0 hs 6 :=
  congrArg₂ (fun w h => k0_pay86 w h) (w_read arg2 harg2 x0 6 rfl _) (h_read arg6 harg6 hs i 6 rfl _)
theorem Y7_eq : runB.sl.r_31 c i arg2 harg2 arg6 harg6 x0 hs = Yv i x0 hs 7 :=
  congrArg₂ (fun w h => k0_pay93 w h) (w_read arg2 harg2 x0 7 rfl _) (h_read arg6 harg6 hs i 7 rfl _)

theorem cod0 (Y : FVec F S256x256 .f32) (a b : Vec F S1x1x256 .f32) : k0_pay58 (k0_pay56 Y a b) (k0_pay57 Y a b) = cod Y a b := rfl
theorem codP0 : codP i x0 hs 0 = cod (Yv i x0 hs 0) (rRow i x0 hs 0 0) (rRow i x0 hs 0 1) := rfl
theorem coB0 : k0_pay58 (k0_pay56 (runB.sl.r c i arg2 harg2 arg6 harg6 x0 hs) (runB.sl.v214 c i arg2 harg2 arg6 harg6 arg8 arg9 x0 hs) (runB.sl.v228 c i arg2 harg2 arg6 harg6 arg8 arg9 x0 hs)) (k0_pay57 (runB.sl.r c i arg2 harg2 arg6 harg6 x0 hs) (runB.sl.v214 c i arg2 harg2 arg6 harg6 arg8 arg9 x0 hs) (runB.sl.v228 c i arg2 harg2 arg6 harg6 arg8 arg9 x0 hs)) = codP i x0 hs 0 := by
  rw [Y0_eq, v214_eq, v228_eq, cod0, codP0]
theorem cod1 (Y : FVec F S256x256 .f32) (a b : Vec F S1x1x256 .f32) : k0_pay62 (k0_pay60 Y a b) (k0_pay61 Y a b) = cod Y a b := rfl
theorem codP1 : codP i x0 hs 1 = cod (Yv i x0 hs 1) (rRow i x0 hs 0 2) (rRow i x0 hs 0 3) := rfl
theorem coB1 : k0_pay62 (k0_pay60 (runB.sl.r_3 c i arg2 harg2 arg6 harg6 x0 hs) (runB.sl.v260 c i arg2 harg2 arg6 harg6 arg8 arg9 x0 hs) (runB.sl.v274 c i arg2 harg2 arg6 harg6 arg8 arg9 x0 hs)) (k0_pay61 (runB.sl.r_3 c i arg2 harg2 arg6 harg6 x0 hs) (runB.sl.v260 c i arg2 harg2 arg6 harg6 arg8 arg9 x0 hs) (runB.sl.v274 c i arg2 harg2 arg6 harg6 arg8 arg9 x0 hs)) = codP i x0 hs 1 := by
  rw [Y1_eq, v260_eq, v274_eq, cod1, codP1]
theorem cod2 (Y : FVec F S256x256 .f32) (a b : Vec F S1x1x256 .f32) : k0_pay66 (k0_pay64 Y a b) (k0_pay65 Y a b) = cod Y a b := rfl
theorem codP2 : codP i x0 hs 2 = cod (Yv i x0 hs 2) (rRow i x0 hs 0 4) (rRow i x0 hs 0 5) := rfl
theorem coB2 : k0_pay66 (k0_pay64 (runB.sl.r_6 c i arg2 harg2 arg6 harg6 x0 hs) (runB.sl.v306 c i arg2 harg2 arg6 harg6 arg8 arg9 x0 hs) (runB.sl.v320 c i arg2 harg2 arg6 harg6 arg8 arg9 x0 hs)) (k0_pay65 (runB.sl.r_6 c i arg2 harg2 arg6 harg6 x0 hs) (runB.sl.v306 c i arg2 harg2 arg6 harg6 arg8 arg9 x0 hs) (runB.sl.v320 c i arg2 harg2 arg6 harg6 arg8 arg9 x0 hs)) = codP i x0 hs 2 := by
  rw [Y2_eq, v306_eq, v320_eq, cod2, codP2]
theorem cod3 (Y : FVec F S256x256 .f32) (a b : Vec F S1x1x256 .f32) : k0_pay69 (k0_pay67 Y a b) (k0_pay68 Y a b) = cod Y a b := rfl
theorem codP3 : codP i x0 hs 3 = cod (Yv i x0 hs 3) (rRow i x0 hs 0 6) (rRow i x0 hs 0 7) := rfl
theorem coB3 : k0_pay69 (k0_pay67 (runB.sl.r_9 c i arg2 harg2 arg6 harg6 x0 hs) (runB.sl.v352 c i arg2 harg2 arg6 harg6 arg8 arg9 x0 hs) (runB.sl.v366 c i arg2 harg2 arg6 harg6 arg8 arg9 x0 hs)) (k0_pay68 (runB.sl.r_9 c i arg2 harg2 arg6 harg6 x0 hs) (runB.sl.v352 c i arg2 harg2 arg6 harg6 arg8 arg9 x0 hs) (runB.sl.v366 c i arg2 harg2 arg6 harg6 arg8 arg9 x0 hs)) = codP i x0 hs 3 := by
  rw [Y3_eq, v352_eq, v366_eq, cod3, codP3]
theorem cod4 (Y : FVec F S256x256 .f32) (a b : Vec F S1x1x256 .f32) : k0_pay114 (k0_pay111 Y a b) (k0_pay112 Y a b) k0_pay113 = cod Y a b := rfl
theorem codP4 : codP i x0 hs 4 = cod (Yv i x0 hs 4) (rRow i x0 hs 1 0) (rRow i x0 hs 1 1) := rfl
theorem coB4 : k0_pay114 (k0_pay111 (runB.sl.r_23 c i arg2 harg2 arg6 harg6 x0 hs) (runB.sl.v606 c i arg2 harg2 arg6 harg6 arg8 arg9 x0 hs) (runB.sl.v620 c i arg2 harg2 arg6 harg6 arg8 arg9 x0 hs)) (k0_pay112 (runB.sl.r_23 c i arg2 harg2 arg6 harg6 x0 hs) (runB.sl.v606 c i arg2 harg2 arg6 harg6 arg8 arg9 x0 hs) (runB.sl.v620 c i arg2 harg2 arg6 harg6 arg8 arg9 x0 hs)) k0_pay113 = codP i x0 hs 4 := by
  rw [Y4_eq, v606_eq, v620_eq, cod4, codP4]
theorem cod5 (Y : FVec F S256x256 .f32) (a b : Vec F S1x1x256 .f32) : k0_pay118 (k0_pay115 Y a b) (k0_pay116 Y a b) k0_pay117 = cod Y a b := rfl
theorem codP5 : codP i x0 hs 5 = cod (Yv i x0 hs 5) (rRow i x0 hs 1 2) (rRow i x0 hs 1 3) := rfl
theorem coB5 : k0_pay118 (k0_pay115 (runB.sl.r_26 c i arg2 harg2 arg6 harg6 x0 hs) (runB.sl.v652 c i arg2 harg2 arg6 harg6 arg8 arg9 x0 hs) (runB.sl.v666 c i arg2 harg2 arg6 harg6 arg8 arg9 x0 hs)) (k0_pay116 (runB.sl.r_26 c i arg2 harg2 arg6 harg6 x0 hs) (runB.sl.v652 c i arg2 harg2 arg6 harg6 arg8 arg9 x0 hs) (runB.sl.v666 c i arg2 harg2 arg6 harg6 arg8 arg9 x0 hs)) k0_pay117 = codP i x0 hs 5 := by
  rw [Y5_eq, v652_eq, v666_eq, cod5, codP5]
theorem cod6 (Y : FVec F S256x256 .f32) (a b : Vec F S1x1x256 .f32) : k0_pay121 (k0_pay119 Y a b) k0_pay120 = cod Y a b := rfl
theorem codP6 : codP i x0 hs 6 = cod (Yv i x0 hs 6) (rRow i x0 hs 1 4) (rRow i x0 hs 1 5) := rfl
theorem coB6 : k0_pay121 (k0_pay119 (runB.sl.r_29 c i arg2 harg2 arg6 harg6 x0 hs) (runB.sl.v698 c i arg2 harg2 arg6 harg6 arg8 arg9 x0 hs) (runB.sl.v712 c i arg2 harg2 arg6 harg6 arg8 arg9 x0 hs)) k0_pay120 = codP i x0 hs 6 := by
  rw [Y6_eq, v698_eq, v712_eq, cod6, codP6]
theorem cod7 (Y : FVec F S256x256 .f32) (a b : Vec F S1x1x256 .f32) : k0_pay1 (k0_pay122 Y a b) = cod Y a b := rfl
theorem codP7 : codP i x0 hs 7 = cod (Yv i x0 hs 7) (rRow i x0 hs 1 6) (rRow i x0 hs 1 7) := rfl
theorem coB7 : k0_pay1 (k0_pay122 (runB.sl.r_31 c i arg2 harg2 arg6 harg6 x0 hs) (runB.sl.v744 c i arg2 harg2 arg6 harg6 arg8 arg9 x0 hs) (runB.sl.v758 c i arg2 harg2 arg6 harg6 arg8 arg9 x0 hs)) = codP i x0 hs 7 := by
  rw [Y7_eq, v744_eq, v758_eq, cod7, codP7]

set_option maxHeartbeats 1600000 in
theorem listB_codes : ([⟨coRect 7, k0_pay1 (k0_pay122 (runB.sl.r_31 c i arg2 harg2 arg6 harg6 x0 hs) (runB.sl.v744 c i arg2 harg2 arg6 harg6 arg8 arg9 x0 hs) (runB.sl.v758 c i arg2 harg2 arg6 harg6 arg8 arg9 x0 hs))⟩, ⟨coRect 6, k0_pay121 (k0_pay119 (runB.sl.r_29 c i arg2 harg2 arg6 harg6 x0 hs) (runB.sl.v698 c i arg2 harg2 arg6 harg6 arg8 arg9 x0 hs) (runB.sl.v712 c i arg2 harg2 arg6 harg6 arg8 arg9 x0 hs)) k0_pay120⟩, ⟨coRect 5, k0_pay118 (k0_pay115 (runB.sl.r_26 c i arg2 harg2 arg6 harg6 x0 hs) (runB.sl.v652 c i arg2 harg2 arg6 harg6 arg8 arg9 x0 hs) (runB.sl.v666 c i arg2 harg2 arg6 harg6 arg8 arg9 x0 hs)) (k0_pay116 (runB.sl.r_26 c i arg2 harg2 arg6 harg6 x0 hs) (runB.sl.v652 c i arg2 harg2 arg6 harg6 arg8 arg9 x0 hs) (runB.sl.v666 c i arg2 harg2 arg6 harg6 arg8 arg9 x0 hs)) k0_pay117⟩, ⟨coRect 4, k0_pay114 (k0_pay111 (runB.sl.r_23 c i arg2 harg2 arg6 harg6 x0 hs) (runB.sl.v606 c i arg2 harg2 arg6 harg6 arg8 arg9 x0 hs) (runB.sl.v620 c i arg2 harg2 arg6 harg6 arg8 arg9 x0 hs)) (k0_pay112 (runB.sl.r_23 c i arg2 harg2 arg6 harg6 x0 hs) (runB.sl.v606 c i arg2 harg2 arg6 harg6 arg8 arg9 x0 hs) (runB.sl.v620 c i arg2 harg2 arg6 harg6 arg8 arg9 x0 hs)) k0_pay113⟩, ⟨coRect 3, k0_pay69 (k0_pay67 (runB.sl.r_9 c i arg2 harg2 arg6 harg6 x0 hs) (runB.sl.v352 c i arg2 harg2 arg6 harg6 arg8 arg9 x0 hs) (runB.sl.v366 c i arg2 harg2 arg6 harg6 arg8 arg9 x0 hs)) (k0_pay68 (runB.sl.r_9 c i arg2 harg2 arg6 harg6 x0 hs) (runB.sl.v352 c i arg2 harg2 arg6 harg6 arg8 arg9 x0 hs) (runB.sl.v366 c i arg2 harg2 arg6 harg6 arg8 arg9 x0 hs))⟩, ⟨coRect 2, k0_pay66 (k0_pay64 (runB.sl.r_6 c i arg2 harg2 arg6 harg6 x0 hs) (runB.sl.v306 c i arg2 harg2 arg6 harg6 arg8 arg9 x0 hs) (runB.sl.v320 c i arg2 harg2 arg6 harg6 arg8 arg9 x0 hs)) (k0_pay65 (runB.sl.r_6 c i arg2 harg2 arg6 harg6 x0 hs) (runB.sl.v306 c i arg2 harg2 arg6 harg6 arg8 arg9 x0 hs) (runB.sl.v320 c i arg2 harg2 arg6 harg6 arg8 arg9 x0 hs))⟩, ⟨coRect 1, k0_pay62 (k0_pay60 (runB.sl.r_3 c i arg2 harg2 arg6 harg6 x0 hs) (runB.sl.v260 c i arg2 harg2 arg6 harg6 arg8 arg9 x0 hs) (runB.sl.v274 c i arg2 harg2 arg6 harg6 arg8 arg9 x0 hs)) (k0_pay61 (runB.sl.r_3 c i arg2 harg2 arg6 harg6 x0 hs) (runB.sl.v260 c i arg2 harg2 arg6 harg6 arg8 arg9 x0 hs) (runB.sl.v274 c i arg2 harg2 arg6 harg6 arg8 arg9 x0 hs))⟩, ⟨coRect 0, k0_pay58 (k0_pay56 (runB.sl.r c i arg2 harg2 arg6 harg6 x0 hs) (runB.sl.v214 c i arg2 harg2 arg6 harg6 arg8 arg9 x0 hs) (runB.sl.v228 c i arg2 harg2 arg6 harg6 arg8 arg9 x0 hs)) (k0_pay57 (runB.sl.r c i arg2 harg2 arg6 harg6 x0 hs) (runB.sl.v214 c i arg2 harg2 arg6 harg6 arg8 arg9 x0 hs) (runB.sl.v228 c i arg2 harg2 arg6 harg6 arg8 arg9 x0 hs))⟩] : List (View.Piece (Elt F) S256x1024 .i8))
      = [7, 6, 5, 4, 3, 2, 1, 0].map (coPiece i x0 hs) :=
    (congrArg₂ List.cons (coPiece_eq i x0 hs 7 _ (coB7 i x0 hs c arg2 harg2 arg6 harg6 arg8 arg9))
    (congrArg₂ List.cons (coPiece_eq i x0 hs 6 _ (coB6 i x0 hs c arg2 harg2 arg6 harg6 arg8 arg9))
    (congrArg₂ List.cons (coPiece_eq i x0 hs 5 _ (coB5 i x0 hs c arg2 harg2 arg6 harg6 arg8 arg9))
    (congrArg₂ List.cons (coPiece_eq i x0 hs 4 _ (coB4 i x0 hs c arg2 harg2 arg6 harg6 arg8 arg9))
    (congrArg₂ List.cons (coPiece_eq i x0 hs 3 _ (coB3 i x0 hs c arg2 harg2 arg6 harg6 arg8 arg9))
    (congrArg₂ List.cons (coPiece_eq i x0 hs 2 _ (coB2 i x0 hs c arg2 harg2 arg6 harg6 arg8 arg9))
    (congrArg₂ List.cons (coPiece_eq i x0 hs 1 _ (coB1 i x0 hs c arg2 harg2 arg6 harg6 arg8 arg9))
    (congrArg₂ List.cons (coPiece_eq i x0 hs 0 _ (coB0 i x0 hs c arg2 harg2 arg6 harg6 arg8 arg9)) rfl))))))))

variable (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole)
  (arg7 : Memref sig .tc .vmem S4x16x256 .f32) (harg7 : arg7.IsWhole) (harg8 : arg8.IsWhole) (harg9 : arg9.IsWhole)
  (x1 : Vec F S32x1x256 .f32) (x3 : Vec F S1x64x256 .f32) (xs1 : Vec F S4x16x256 .f32)

set_option maxHeartbeats 1600000 in
theorem runA_codes (hc0 : cond0_0 i) (hc1 : ¬cond0_1 i) :
    (runA c i arg2 harg2 arg3 harg3 arg4 harg4 arg5 harg5 arg6 harg6 arg7 harg7 arg8 harg8 arg9 harg9 hc0 hc1 x0 x1 x3 xs1).1.1 = [7, 6, 5, 4, 3, 2, 1, 0].map (coPiece i x0 (HSv x1)) :=
    listB_codes i x0 (HSv x1) c arg2 harg2 arg6 harg6 arg8 arg9

theorem runA_st (hc0 : cond0_0 i) (hc1 : ¬cond0_1 i) :
    (runA c i arg2 harg2 arg3 harg3 arg4 harg4 arg5 harg5 arg6 harg6 arg7 harg7 arg8 harg8 arg9 harg9 hc0 hc1 x0 x1 x3 xs1).1.2 = [((1 : Fin 2), (1 : Fin 2)), (1, 0), (0, 1), (0, 0)].map (stPiece i x0 (HSv x1)) :=
    (congrArg₂ List.cons (stPiece_eq i x0 (HSv x1) (1, 1) (k0_off7_eq i) _ _ (st11 i x0 (HSv x1) c arg2 harg2 arg6 harg6 arg8))
    (congrArg₂ List.cons (stPiece_eq i x0 (HSv x1) (1, 0) (k0_off6_eq i) _ _ (st10 i x0 (HSv x1) c arg2 harg2 arg6 harg6 arg8))
    (congrArg₂ List.cons (stPiece_eq i x0 (HSv x1) (0, 1) (k0_off5_eq i) _ _ (st01 i x0 (HSv x1) c arg2 harg2 arg6 harg6 arg8))
    (congrArg₂ List.cons (stPiece_eq i x0 (HSv x1) (0, 0) (k0_off4_eq i) _ _ (st00 i x0 (HSv x1) c arg2 harg2 arg6 harg6 arg8)) rfl))))

theorem runA_codes_read (hc0 : cond0_0 i) (hc1 : ¬cond0_1 i) (f) :
    arg4.view.read (Elt F) (arg4.view.writes (Elt F) f (runA c i arg2 harg2 arg3 harg3 arg4 harg4 arg5 harg5 arg6 harg6 arg7 harg7 arg8 harg8 arg9 harg9 hc0 hc1 x0 x1 x3 xs1).1.1) = codesV i x0 (HSv x1) := by
  rw [runA_codes]; exact codes_read i x0 _ arg4 f _ (by decide)

theorem runA_st_read (hc0 : cond0_0 i) (hc1 : ¬cond0_1 i) :
    arg7.view.read (Elt F) (arg7.view.writes (Elt F) (harg7.unread xs1) (runA c i arg2 harg2 arg3 harg3 arg4 harg4 arg5 harg5 arg6 harg6 arg7 harg7 arg8 harg8 arg9 harg9 hc0 hc1 x0 x1 x3 xs1).1.2) = stUpd i (stV i x0 (HSv x1)) xs1 := by
  rw [runA_st]; exact st_read i x0 _ arg7 harg7 xs1 _ (by decide)

set_option maxHeartbeats 1600000 in
theorem runB_codes (hc0 : ¬cond0_0 i) (hc1 : ¬cond0_1 i) :
    (runB c i arg2 harg2 arg3 harg3 arg4 harg4 arg5 harg5 arg6 harg6 arg7 harg7 arg8 harg8 arg9 harg9 hc0 hc1 x0 x1 x3 hs xs1).1.1 = [7, 6, 5, 4, 3, 2, 1, 0].map (coPiece i x0 hs) :=
    listB_codes i x0 hs c arg2 harg2 arg6 harg6 arg8 arg9

theorem runB_st (hc0 : ¬cond0_0 i) (hc1 : ¬cond0_1 i) :
    (runB c i arg2 harg2 arg3 harg3 arg4 harg4 arg5 harg5 arg6 harg6 arg7 harg7 arg8 harg8 arg9 harg9 hc0 hc1 x0 x1 x3 hs xs1).1.2 = [((1 : Fin 2), (1 : Fin 2)), (1, 0), (0, 1), (0, 0)].map (stPiece i x0 hs) :=
    (congrArg₂ List.cons (stPiece_eq i x0 hs (1, 1) (k0_off7_eq i) _ _ (st11 i x0 hs c arg2 harg2 arg6 harg6 arg8))
    (congrArg₂ List.cons (stPiece_eq i x0 hs (1, 0) (k0_off6_eq i) _ _ (st10 i x0 hs c arg2 harg2 arg6 harg6 arg8))
    (congrArg₂ List.cons (stPiece_eq i x0 hs (0, 1) (k0_off5_eq i) _ _ (st01 i x0 hs c arg2 harg2 arg6 harg6 arg8))
    (congrArg₂ List.cons (stPiece_eq i x0 hs (0, 0) (k0_off4_eq i) _ _ (st00 i x0 hs c arg2 harg2 arg6 harg6 arg8)) rfl))))

theorem runB_codes_read (hc0 : ¬cond0_0 i) (hc1 : ¬cond0_1 i) (f) :
    arg4.view.read (Elt F) (arg4.view.writes (Elt F) f (runB c i arg2 harg2 arg3 harg3 arg4 harg4 arg5 harg5 arg6 harg6 arg7 harg7 arg8 harg8 arg9 harg9 hc0 hc1 x0 x1 x3 hs xs1).1.1) = codesV i x0 hs := by
  rw [runB_codes]; exact codes_read i x0 _ arg4 f _ (by decide)

theorem runB_st_read (hc0 : ¬cond0_0 i) (hc1 : ¬cond0_1 i) :
    arg7.view.read (Elt F) (arg7.view.writes (Elt F) (harg7.unread xs1) (runB c i arg2 harg2 arg3 harg3 arg4 harg4 arg5 harg5 arg6 harg6 arg7 harg7 arg8 harg8 arg9 harg9 hc0 hc1 x0 x1 x3 hs xs1).1.2) = stUpd i (stV i x0 hs) xs1 := by
  rw [runB_st]; exact st_read i x0 _ arg7 harg7 xs1 _ (by decide)

set_option maxHeartbeats 1600000 in
theorem runC_codes (hc0 : ¬cond0_0 i) (hc1 : cond0_1 i) :
    (runC c i arg2 harg2 arg3 harg3 arg4 harg4 arg5 harg5 arg6 harg6 arg7 harg7 arg8 harg8 arg9 harg9 hc0 hc1 x0 x1 hs xs1).1.1.1 = [7, 6, 5, 4, 3, 2, 1, 0].map (coPiece i x0 hs) :=
    listB_codes i x0 hs c arg2 harg2 arg6 harg6 arg8 arg9

theorem runC_st (hc0 : ¬cond0_0 i) (hc1 : cond0_1 i) :
    (runC c i arg2 harg2 arg3 harg3 arg4 harg4 arg5 harg5 arg6 harg6 arg7 harg7 arg8 harg8 arg9 harg9 hc0 hc1 x0 x1 hs xs1).1.1.2 = [((1 : Fin 2), (1 : Fin 2)), (1, 0), (0, 1), (0, 0)].map (stPiece i x0 hs) :=
    (congrArg₂ List.cons (stPiece_eq i x0 hs (1, 1) (k0_off7_eq i) _ _ (st11 i x0 hs c arg2 harg2 arg6 harg6 arg8))
    (congrArg₂ List.cons (stPiece_eq i x0 hs (1, 0) (k0_off6_eq i) _ _ (st10 i x0 hs c arg2 harg2 arg6 harg6 arg8))
    (congrArg₂ List.cons (stPiece_eq i x0 hs (0, 1) (k0_off5_eq i) _ _ (st01 i x0 hs c arg2 harg2 arg6 harg6 arg8))
    (congrArg₂ List.cons (stPiece_eq i x0 hs (0, 0) (k0_off4_eq i) _ _ (st00 i x0 hs c arg2 harg2 arg6 harg6 arg8)) rfl))))

theorem runC_codes_read (hc0 : ¬cond0_0 i) (hc1 : cond0_1 i) (f) :
    arg4.view.read (Elt F) (arg4.view.writes (Elt F) f (runC c i arg2 harg2 arg3 harg3 arg4 harg4 arg5 harg5 arg6 harg6 arg7 harg7 arg8 harg8 arg9 harg9 hc0 hc1 x0 x1 hs xs1).1.1.1) = codesV i x0 hs := by
  rw [runC_codes]; exact codes_read i x0 _ arg4 f _ (by decide)

theorem runC_st_read (hc0 : ¬cond0_0 i) (hc1 : cond0_1 i) :
    arg7.view.read (Elt F) (arg7.view.writes (Elt F) (harg7.unread xs1) (runC c i arg2 harg2 arg3 harg3 arg4 harg4 arg5 harg5 arg6 harg6 arg7 harg7 arg8 harg8 arg9 harg9 hc0 hc1 x0 x1 hs xs1).1.1.2) = stUpd i (stV i x0 hs) xs1 := by
  rw [runC_st]; exact st_read i x0 _ arg7 harg7 xs1 _ (by decide)

/-- What the scales' buffer reads after a point that writes it. -/
theorem runC_sc_read (hc0 : ¬cond0_0 i) (hc1 : cond0_1 i) (f) :
    arg5.view.read (Elt F) (arg5.view.writes (Elt F) f (runC c i arg2 harg2 arg3 harg3 arg4 harg4 arg5 harg5 arg6 harg6 arg7 harg7 arg8 harg8 arg9 harg9 hc0 hc1 x0 x1 hs xs1).1.2)
      = k0_pay2 (stUpd i (stV i x0 hs) xs1) := by
  have hv : runC.sl.v792 c i arg2 harg2 arg6 harg6 arg7 harg7 arg8 x0 hs xs1 = stUpd i (stV i x0 hs) xs1 := by
    rw [← runC_st_read i x0 hs c arg2 harg2 arg6 harg6 arg8 arg9 arg3 harg3 arg4 harg4 arg5 harg5 arg7 harg7 harg8 harg9 x1 xs1 hc0 hc1]
    funext z
    show arg7.view.read (Elt F) _ _ = arg7.view.read (Elt F) _ _
    congr 1
    funext b
    apply Fin.ext
    fin_cases b
    · show 0 + 1 * (z 0).val = (z 0).val
      omega
    · show 0 + 1 * (z 1).val = (z 1).val
      omega
    · show 0 + 1 * (z 2).val = (z 2).val
      omega
  rw [← hv]
  funext y
  have h0 : (y 0).val < 1 := (y 0).isLt
  have h1 : (y 1).val < 64 := (y 1).isLt
  have h2 : (y 2).val < 256 := (y 2).isLt
  refine View.read_writes_apply_of_pieces _ _ (show Vec F S1x64x256 .f32 from k0_pay2 (runC.sl.v792 c i arg2 harg2 arg6 harg6 arg7 harg7 arg8 x0 hs xs1)) _ ?_ y ?_
  · intro p hp x
    have hp' := List.mem_singleton.1 hp
    subst hp'
    have e : ∀ b : Fin 3, (x b).val = ((Rect.unit (s := S1x64x256) ![0, 0, 0] ![1, 64, 256] inb_S1x64x256_S1x64x256_0_0_0).emb x b).val := by
      intro b
      fin_cases b
      · show (x 0).val = 0 + 1 * (x 0).val
        omega
      · show (x 1).val = 0 + 1 * (x 1).val
        omega
      · show (x 2).val = 0 + 1 * (x 2).val
        omega
    exact congrArg (k0_pay2 (runC.sl.v792 c i arg2 harg2 arg6 harg6 arg7 harg7 arg8 x0 hs xs1)) (funext fun b => Fin.ext (e b))
  · refine ⟨_, List.mem_singleton.2 rfl, (Rect.mem_set_unit (inb := inb_S1x64x256_S1x64x256_0_0_0)).2 fun b => ?_⟩
    fin_cases b
    · show 0 ≤ (y 0).val ∧ (y 0).val < 0 + 1
      omega
    · show 0 ≤ (y 1).val ∧ (y 1).val < 0 + 64
      omega
    · show 0 ≤ (y 2).val ∧ (y 2).val < 0 + 256
      omega

end Cert.KernelIdeal.Hand

end
-- ==== Proof.Hand.Launch.lean ====
/- The kernel's run: what the scratch buffers hold between points, the body's obligation at every point and the launch. -/
module

public import proofs.«01_k».proof.Proof.Hand.Unwind
public import proofs.«01_k».proof.Proof.Gen.KernelIdeal.Frame
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The Hadamard matrices with the signs in, as the first point builds them. -/
def HS (c : Dev nD) : Vec F S32x256x256 .bf16 := HSv (iblk m c 1 ⟨0, by rw [show cfg0.N = 32 from N_0]; decide⟩)

/-- The scales point `t` computes. -/
def Sp (c : Dev nD) (t : Fin cfg0.N) : FVec F SSt .f32 := stV (grid0.coords t) (iblk m c 0 t) (HS m c)

/-- The scales of the four points of `t`'s row block. -/
def stFull (c : Dev nD) (t : Fin cfg0.N) : Vec F S4x16x256 .f32 :=
  fun y => Sp m c ⟨4 * (t.val / 4) + (y 0).val, by
    have h0 : (y 0).val < 4 := (y 0).isLt
    have hN : t.val < 32 := lt_of_lt_of_eq t.isLt (show cfg0.N = 32 from N_0)
    exact lt_of_lt_of_eq (show 4 * (t.val / 4) + (y 0).val < 32 by omega) (show cfg0.N = 32 from N_0).symm⟩ (ix2 (y 1) (y 2))

/-- Before point `n` the gathered scales hold those of the points of the row block already passed. -/
def Gath (c : Dev nD) (n : ℕ) (d : Vec F S4x16x256 .f32) : Prop :=
  ∀ t' : Fin cfg0.N, t'.val < n → (n - 1) / 4 = t'.val / 4 → ∀ y, (y 0).val = t'.val % 4 → d y = Sp m c t' (ix2 (y 1) (y 2))

theorem coords1 (t : Fin cfg0.N) : (grid0.coords t 1).val = t.val % 4 := by
  have e1 : (grid0.coords t 1).val = t.val / 1 % 4 := Pipeline.Grid.coords_val t 1 (by decide) rfl
  rw [e1, Nat.div_one]

theorem gath_step (c : Dev nD) (t : Fin cfg0.N) (d : Vec F S4x16x256 .f32) (h : Gath m c t.val d) :
    Gath m c (t.val + 1) (stUpd (grid0.coords t) (Sp m c t) d) := by
  intro t' h1 h2 y hy
  unfold stUpd
  rw [coords1]
  by_cases e : (y 0).val = t.val % 4
  · rw [if_pos e]
    have : t' = t := Fin.ext (by omega)
    rw [this]
  · rw [if_neg e]
    have : t'.val ≠ t.val := fun hh => e (by rw [hy, hh])
    exact h t' (by omega) (by omega) y hy

theorem gath_full (c : Dev nD) (t : Fin cfg0.N) (h3 : t.val % 4 = 3) (d : Vec F S4x16x256 .f32) (h : Gath m c (t.val + 1) d) : d = stFull m c t := by
  funext y
  have h0 : (y 0).val < 4 := (y 0).isLt
  have hN : t.val < 32 := lt_of_lt_of_eq t.isLt (show cfg0.N = 32 from N_0)
  exact h ⟨4 * (t.val / 4) + (y 0).val, lt_of_lt_of_eq (show 4 * (t.val / 4) + (y 0).val < 32 by omega) (show cfg0.N = 32 from N_0).symm⟩ (by show 4 * (t.val / 4) + (y 0).val < t.val + 1; omega)
    (by show (t.val + 1 - 1) / 4 = (4 * (t.val / 4) + (y 0).val) / 4; omega) y (by show (y 0).val = (4 * (t.val / 4) + (y 0).val) % 4; omega)

/-- The invariant between points: before the first every scratch holds anything; afterwards the Hadamard matrices are built and
    the row block's scales so far gathered. -/
def PhiS (c : Dev nD) : (n : ℕ) → n ≤ cfg0.N → sProp 𝕄
  | 0, _ => Pipeline.ΦA spec0 c
  | n + 1, hn => iprop(iprop(owns (c : Thread nD τ) scM0_0 fullShare (HS m c) ∗ (∃ d, ⌜Gath m c (n + 1) d⌝ ∗ owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (HS m c) ∗ (∃ d, ⌜Gath m c (n + 1) d⌝ ∗ owns (c : Thread nD τ) scM0_1 fullShare d) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (HS m c) ∗ (∃ d, ⌜Gath m c n d⌝ ∗ owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The codes a point leaves. -/
def coAt (c : Dev nD) (t : Fin cfg0.N) : Vec F S256x1024 .i8 := codesV (grid0.coords t) (iblk m c 0 t) (HS m c)

/-- The scales a point that writes them leaves. -/
def scAt (c : Dev nD) (t : Fin cfg0.N) : FVec F S1x64x256 .f32 := k0_pay2 (stFull m c t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => coAt m c t
    | ⟨3, _⟩ => scAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = coAt m c t := by dsimp only [dats]
theorem after0_3 (c : Dev nD) (t : Fin cfg0.N) : (dats m 0 c).after 3 t = scAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scales' window is written at the points that write it back and nowhere else. -/
theorem idle0_3 (t : Fin cfg0.N) (h1 : ¬t.val % 4 = 3) : cfg0.idle 3 (cfg0.grid.coords t) = true := by
  have h : ¬k0_cond2 (grid0.coords t) = 1#1 := fun h => h1 ((hcond0_1 t).mp h)
  show (!(k0_cond2 (grid0.coords t) == 1#1)) = true
  rw [beq_false_of_ne h]; rfl
theorem live0_3 (t : Fin cfg0.N) (h1 : t.val % 4 = 3) : cfg0.idle 3 (cfg0.grid.coords t) = false := by
  have h : k0_cond2 (grid0.coords t) = 1#1 := (hcond0_1 t).mpr h1
  show (!(k0_cond2 (grid0.coords t) == 1#1)) = false
  rw [h]; rfl
theorem liveAt0_2 : ∀ t : Fin cfg0.N, cfg0.idle 2 (grid0.coords t) = false := fun _ => rfl

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (coAt m c t) := by
  unfold Dat.leavesExact; rw [liveAt0_2 t, after0_2]
theorem leaves3_C (c : Dev nD) (t : Fin cfg0.N) (h1 : t.val % 4 = 3) : (dats m 0 c).leavesExact 3 t = owns (c : Thread nD τ) (ms0_3 t) fullShare (scAt m c t) := by
  unfold Dat.leavesExact; rw [live0_3 t h1, after0_3]
theorem leaves3_AB (c : Dev nD) (t : Fin cfg0.N) (h1 : ¬t.val % 4 = 3) :
    (dats m 0 c).leavesExact 3 t = iprop(∃ d, owns (c : Thread nD τ) (ms0_3 t) fullShare ((dats m 0 c).before 3 t d)) :=
  (dats m 0 c).leavesExact_idle 3 t (idle0_3 t h1) (by
    cases hf : (cfg0.win 3).flush t with
    | false => rfl
    | true => exact absurd ((flush0_3 t).mp hf) h1)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
theorem sound_A (c : Dev nD) (t : Fin cfg0.N) (h0 : t.val % 32 = 0) (h1 : ¬t.val % 4 = 3) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3_AB m c t h1]
  have hz : t.val = 0 := by omega
  have ht : t = ⟨0, by rw [show cfg0.N = 32 from N_0]; decide⟩ := Fin.ext hz
  have hHS : HS m c = HSv (iblk m c 1 t) := by unfold HS; rw [ht]
  have hHS' : Sp m c t = stV (grid0.coords t) (iblk m c 0 t) (HSv (iblk m c 1 t)) := by unfold Sp; rw [hHS]
  have hHS'' : coAt m c t = codesV (grid0.coords t) (iblk m c 0 t) (HSv (iblk m c 1 t)) := by unfold coAt; rw [hHS]
  rw [PhiS_castSucc m c t, PhiS_zero m c _ _ hz, PhiA0_eq]
  iintro ⟨⟨⟨HS0, ⟨%d7, HS1⟩, HS2, HS3⟩, Hg⟩, Ho, ⟨%d0, H0⟩, ⟨%d1, H1⟩, ⟨%d2, H2⟩, ⟨%d3, H3⟩⟩
  iapply ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) ((dats m 0 c).before 3 t d3) d7).2 Set.univ _)
  isplitl [H0]; · iexact H0
  isplitl [H1]; · iexact H1
  isplitl [H2]; · iexists _; iexact H2
  isplitl [H3]; · iexact H3
  isplitl [HS0]; · iexact HS0
  isplitl [HS1]; · iexact HS1
  isplitl [HS2]; · iexact HS2
  isplitl [HS3]; · iexact HS3
  iintro ⟨H0, H1, ⟨%e2, H2⟩, H3, HS0, HS1, HS2, HS3⟩
  isplitl [HS0 HS1 HS2 HS3 Hg]
  · isplitl [HS0 HS1 HS2 HS3]
    · isplitl [HS0]
      · rw [hHS]; iexact HS0
      isplitl [HS1]
      · iexists (stUpd (grid0.coords t) (Sp m c t) d7)
        isplitr
        · ipureintro; exact gath_step m c t d7 (fun t' h => absurd h (by omega))
        unfold owns; iexists _; isplitr
        swap; · iexact HS1
        ipureintro; rw [hHS']; exact runA_st_read (grid0.coords t) (iblk m c 0 t) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 ((hcond0_0 t).mpr h0) (fun h => h1 ((hcond0_1 t).mp h))
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; rw [hHS'']; exact runA_codes_read (grid0.coords t) (iblk m c 0 t) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 ((hcond0_0 t).mpr h0) (fun h => h1 ((hcond0_1 t).mp h)) e2
  iexists _; iexact H3

set_option maxHeartbeats 4000000 in
theorem sound_B (c : Dev nD) (t : Fin cfg0.N) (h0 : ¬t.val % 32 = 0) (h1 : ¬t.val % 4 = 3) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3_AB m c t h1]
  have hz : t.val ≠ 0 := by omega
  rw [PhiS_castSucc m c t, PhiS_pos m c _ _ hz]
  iintro ⟨⟨⟨HS0, ⟨%d7, %hG, HS1⟩, HS2, HS3⟩, Hg⟩, Ho, ⟨%d0, H0⟩, ⟨%d1, H1⟩, ⟨%d2, H2⟩, ⟨%d3, H3⟩⟩
  iapply ((runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) ((dats m 0 c).before 3 t d3) (HS m c) d7).2 Set.univ _)
  isplitl [H0]; · iexact H0
  isplitl [H1]; · iexact H1
  isplitl [H2]; · iexists _; iexact H2
  isplitl [H3]; · iexact H3
  isplitl [HS0]; · iexact HS0
  isplitl [HS1]; · iexact HS1
  isplitl [HS2]; · iexact HS2
  isplitl [HS3]; · iexact HS3
  iintro ⟨H0, H1, ⟨%e2, H2⟩, H3, HS0, HS1, HS2, HS3⟩
  isplitl [HS0 HS1 HS2 HS3 Hg]
  · isplitl [HS0 HS1 HS2 HS3]
    · isplitl [HS0]
      · iexact HS0
      isplitl [HS1]
      · iexists (stUpd (grid0.coords t) (Sp m c t) d7)
        isplitr
        · ipureintro; exact gath_step m c t d7 hG
        unfold owns; iexists _; isplitr
        swap; · iexact HS1
        ipureintro; exact runB_st_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 (fun h => h0 ((hcond0_0 t).mp h)) (fun h => h1 ((hcond0_1 t).mp h))
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; exact runB_codes_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 (fun h => h0 ((hcond0_0 t).mp h)) (fun h => h1 ((hcond0_1 t).mp h)) e2
  iexists _; iexact H3

set_option maxHeartbeats 4000000 in
theorem sound_C (c : Dev nD) (t : Fin cfg0.N) (h0 : ¬t.val % 32 = 0) (h1 : t.val % 4 = 3) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3_C m c t h1]
  have hz : t.val ≠ 0 := by omega
  rw [PhiS_castSucc m c t, PhiS_pos m c _ _ hz]
  iintro ⟨⟨⟨HS0, ⟨%d7, %hG, HS1⟩, HS2, HS3⟩, Hg⟩, Ho, ⟨%d0, H0⟩, ⟨%d1, H1⟩, ⟨%d2, H2⟩, ⟨%d3, H3⟩⟩
  iapply ((runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (HS m c) d7).2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  iintro ⟨H0, H1, ⟨%e2, H2⟩, ⟨%e3, H3⟩, HS0, HS1, HS2, HS3⟩
  isplitl [HS0 HS1 HS2 HS3 Hg]
  · isplitl [HS0 HS1 HS2 HS3]
    · isplitl [HS0]
      · iexact HS0
      isplitl [HS1]
      · iexists (stUpd (grid0.coords t) (Sp m c t) d7)
        isplitr
        · ipureintro; exact gath_step m c t d7 hG
        unfold owns; iexists _; isplitr
        swap; · iexact HS1
        ipureintro; exact runC_st_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) d7 (fun h => h0 ((hcond0_0 t).mp h)) ((hcond0_1 t).mpr h1)
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; exact runC_codes_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) d7 (fun h => h0 ((hcond0_0 t).mp h)) ((hcond0_1 t).mpr h1) e2
  unfold owns; iexists _; isplitr
  swap; · iexact H3
  ipureintro
  rw [show scAt m c t = k0_pay2 (stUpd (grid0.coords t) (Sp m c t) d7) from by unfold scAt; rw [gath_full m c t h1 _ (gath_step m c t d7 hG)]]
  exact runC_sc_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) d7 (fun h => h0 ((hcond0_0 t).mp h)) ((hcond0_1 t).mpr h1) e3

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0 (by omega)
  · by_cases h1 : t.val % 4 = 3
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%d7, %hG, HS1⟩, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
set_option maxHeartbeats 800000 in
/-- The launch, with every semaphore counter at zero at every final state. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.HandK.Runs.lean ====
/- What the runs of the kernel's body are stated over: the body's two branch conditions in closed form over the grid points,
   the staging and scratch memrefs at a point, and the carried scratch as part of the frame kit's invariant. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S32x256x256 .bf16 := Memref.whole cc0_scratch0
abbrev scM0_1 : Memref sig .tc .vmem S4x16x256 .f32 := Memref.whole cc0_scratch1
abbrev scM0_2 : Memref sig .tc .vmem S2x2x72x128 .f32 := Memref.whole cc0_scratch2
abbrev scM0_3 : Memref sig .tc .vmem S2x8x256 .f32 := Memref.whole cc0_scratch3
/-- The scratch `arg6` the kernel carries between points, as a view: what it holds is stated through it. -/
abbrev VS0_0 : View sig .tc .vmem S32x256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.HandK.Spec.lean ====
/- What one point of the grid computes, as functions of the block of weights and of the Hadamard matrices. -/
module

public import proofs.«01_k».proof.Proof.HandK.Runs
public import Idealize.ShloMosaic.Lib.WholeRead
public import Idealize.ShloMosaic.Lib.Writes
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Pair `p`'s 256 columns of the block of weights. -/
def wS (x0 : Vec F S256x2048 .bf16) (p : ℕ) : Vec F S256x256 .bf16 :=
  fun z => x0 (ix2 (z 0) ⟨(256 * p + (z 1).val) % 2048, Nat.mod_lt _ (by decide)⟩)

/-- Pair `p`'s Hadamard matrix at point `i`. -/
def hS (i : grid0.Coords) (hs : Vec F S32x256x256 .bf16) (p : ℕ) : Vec F S1x256x256 .bf16 :=
  fun z => hs (ix3 ⟨(8 * (i 1).val + p) % 32, Nat.mod_lt _ (by decide)⟩ (z 1) (z 2))

/-- The transformed pair `p`: channels by rows. -/
def Yv (i : grid0.Coords) (x0 : Vec F S256x2048 .bf16) (hs : Vec F S32x256x256 .bf16) (p : ℕ) : FVec F S256x256 .f32 :=
  k0_pay14 (wS x0 p) (hS i hs p)

/-- The partial maxima of one group of a pair. -/
def Mx (w : Vec F S256x256 .bf16) (h : Vec F S1x256x256 .bf16) : ℕ → FVec F S8x256 .f32
  | 0 => k0_pay15 w h
  | _ => k0_pay18 w h

/-- Lane half `l` of the partial maxima. -/
def cellP (l : Fin 2) (M : FVec F S8x256 .f32) : FVec F S1x1x8x128 .f32 :=
  fun x => M (ix2 (x 2) ⟨128 * l.val + (x 3).val, by have h3 : (x 3).val < 128 := (x 3).isLt; have := l.isLt; omega⟩)

/-- The partial maxima as the slab holds them: row `9 t + s` is partial maximum `t` of group `s`. -/
def slabV (i : grid0.Coords) (x0 : Vec F S256x2048 .bf16) (hs : Vec F S32x256x256 .bf16) : Vec F S2x2x72x128 .f32 :=
  fun y => cellP (y 1) (Mx (wS x0 (4 * (y 0).val + ((y 2).val % 9) / 2)) (hS i hs (4 * (y 0).val + ((y 2).val % 9) / 2)) (((y 2).val % 9) % 2))
    (ix4 0 0 ⟨(y 2).val / 9, by have h2 : (y 2).val < 72 := (y 2).isLt; omega⟩ (y 3))

theorem slabRect_inb (a : Fin 2 × Fin 2 × Fin 8) : ∀ b, S1x1x8x128.size b = 0 ∨
    (![a.1.val, a.2.1.val, a.2.2.val, 0] : Fin 4 → ℕ) b + (![1, 1, 9, 1] : Fin 4 → ℕ) b * (S1x1x8x128.size b - 1) < S2x2x72x128.size b := by
  revert a; decide

/-- Where a group's partial maxima lie in the slab. -/
def slabRect (a : Fin 2 × Fin 2 × Fin 8) : Rect S2x2x72x128 :=
  ⟨⟨![a.1.val, a.2.1.val, a.2.2.val, 0], S1x1x8x128.size, ![1, 1, 9, 1], slabRect_inb a⟩, spos_1_1_9_1⟩

/-- A group's partial maxima stored in the slab. -/
def slabPiece (i : grid0.Coords) (x0 : Vec F S256x2048 .bf16) (hs : Vec F S32x256x256 .bf16) (a : Fin 2 × Fin 2 × Fin 8) :
    View.Piece (Elt F) S2x2x72x128 .f32 :=
  ⟨slabRect a, cellP a.2.1 (Mx (wS x0 (4 * a.1.val + a.2.2.val / 2)) (hS i hs (4 * a.1.val + a.2.2.val / 2)) (a.2.2.val % 2))⟩

theorem slabRect_emb (a : Fin 2 × Fin 2 × Fin 8) (x : (slabRect a).shape.Idx) (b : Fin 4) :
    ((slabRect a).emb x b).val = (![a.1.val, a.2.1.val, a.2.2.val, 0] : Fin 4 → ℕ) b + (![1, 1, 9, 1] : Fin 4 → ℕ) b * (x b).val := rfl

theorem slabPiece_val (i : grid0.Coords) (x0 : Vec F S256x2048 .bf16) (hs : Vec F S32x256x256 .bf16) (a : Fin 2 × Fin 2 × Fin 8)
    (x : (slabRect a).shape.Idx) : (slabPiece i x0 hs a).2 x = slabV i x0 hs ((slabRect a).emb x) := by
  have e0 : ((slabRect a).emb x 0).val = a.1.val + 1 * (x 0).val := rfl
  have e1 : ((slabRect a).emb x 1).val = a.2.1.val + 1 * (x 1).val := rfl
  have e2 : ((slabRect a).emb x 2).val = a.2.2.val + 9 * (x 2).val := rfl
  have e3 : ((slabRect a).emb x 3).val = 0 + 1 * (x 3).val := rfl
  have h0 : (x 0).val < 1 := (x 0).isLt
  have h1 : (x 1).val < 1 := (x 1).isLt
  have h2 : (x 2).val < 8 := (x 2).isLt
  have hs8 := a.2.2.isLt
  have m9 : ((slabRect a).emb x 2).val % 9 = a.2.2.val := by omega
  have d9 : ((slabRect a).emb x 2).val / 9 = (x 2).val := by omega
  have q0 : ((slabRect a).emb x 0).val = a.1.val := by omega
  have l1 : (slabRect a).emb x 1 = a.2.1 := Fin.ext (by omega)
  have l3 : ((slabRect a).emb x 3) = (⟨(x 3).val, (x 3).isLt⟩ : Fin 128) := Fin.ext (by show ((slabRect a).emb x 3).val = (x 3).val; omega)
  unfold slabV slabPiece cellP
  simp only [m9, q0, l1, l3, ix4_2, ix4_3, d9]
  rfl

/-- Tile `t` of a slab. -/
def tileV (i : grid0.Coords) (x0 : Vec F S256x2048 .bf16) (hs : Vec F S32x256x256 .bf16) (q l : Fin 2) (t : Fin 8) : Vec F S1x1x8x128 .f32 :=
  fun z => slabV i x0 hs (ix4 q l ⟨9 * t.val + (z 2).val, by have h2 : (z 2).val < 8 := (z 2).isLt; have := t.isLt; omega⟩ (z 3))

theorem tile_read (i : grid0.Coords) (x0 : Vec F S256x2048 .bf16) (hs : Vec F S32x256x256 .bf16) (arg8 : Memref sig .tc .vmem S2x2x72x128 .f32)
    (A : List (Fin 2 × Fin 2 × Fin 8)) (q l : Fin 2) (t : Fin 8) (hA : ∀ s : Fin 8, (q, l, s) ∈ A) {o : Fin 4 → ℕ} (ho : o = ![q.val, l.val, 9 * t.val, 0]) (inb) :
    arg8.view.readCov (A.map (slabPiece i x0 hs)) (Rect.unit (s := S2x2x72x128) o S1x1x8x128.size inb).toLoadRect = tileV i x0 hs q l t := by
  subst ho
  rw [View.readCov_eq_canon']
  funext z
  have h0 : (z 0).val < 1 := (z 0).isLt
  have h1 : (z 1).val < 1 := (z 1).isLt
  have h2 : (z 2).val < 8 := (z 2).isLt
  have hz : (Rect.unit (s := S2x2x72x128) ![q.val, l.val, 9 * t.val, 0] S1x1x8x128.size inb).toLoadRect.idx z
      = ix4 q l ⟨9 * t.val + (z 2).val, by have := t.isLt; omega⟩ (z 3) := by
    funext b
    apply Fin.ext
    fin_cases b
    · show q.val + 1 * (z 0).val = q.val
      omega
    · show l.val + 1 * (z 1).val = l.val
      omega
    · show 9 * t.val + 1 * (z 2).val = 9 * t.val + (z 2).val
      omega
    · show 0 + 1 * (z 3).val = (z 3).val
      omega
  rw [View.canon_apply_of_pieces (slabV i x0 hs) (A.map (slabPiece i x0 hs)) ?_ _ ?_, hz]
  · rfl
  · intro p hp x
    obtain ⟨a, _, rfl⟩ := List.mem_map.1 hp
    exact slabPiece_val i x0 hs a x
  · refine ⟨_, List.mem_map_of_mem (hA ⟨(z 2).val, h2⟩), ?_⟩
    show _ ∈ (slabRect (q, l, ⟨(z 2).val, h2⟩)).set
    rw [← Rect.map_emb_univ, Finset.mem_map]
    refine ⟨ix4 0 0 t (z 3), Finset.mem_univ _, ?_⟩
    rw [hz]
    funext b
    apply Fin.ext
    fin_cases b
    · show q.val + 1 * 0 = q.val
      omega
    · show l.val + 1 * 0 = l.val
      omega
    · show (z 2).val + 9 * t.val = 9 * t.val + (z 2).val
      omega
    · show 0 + 1 * (z 3).val = (z 3).val
      omega

/-- The group scales out of the eight tiles of a slab. -/
def sclOf (T : Fin 8 → Vec F S1x1x8x128 .f32) : FVec F S8x128 .f32 := k0_pay47 (k0_pay46 (T 0) (T 1) (T 2) (T 3) (T 4) (T 5)) (T 6) (T 7)

/-- The scales of eight groups and half of the rows. -/
def sclV (i : grid0.Coords) (x0 : Vec F S256x2048 .bf16) (hs : Vec F S32x256x256 .bf16) (q l : Fin 2) : FVec F S8x128 .f32 := sclOf (tileV i x0 hs q l)

/-- The factors the transformed values are multiplied by. -/
def rcpV (i : grid0.Coords) (x0 : Vec F S256x2048 .bf16) (hs : Vec F S32x256x256 .bf16) (q l : Fin 2) : FVec F S8x128 .f32 :=
  divf (broadcast S8x128 (Scalar.ofBits .f32 0x3DB504F3#32)) (sclV i x0 hs q l)

/-- A matrix stored as a plane. -/
def cell3 (M : FVec F S8x128 .f32) : FVec F S1x8x128 .f32 := fun x => M (ix2 (x 1) (x 2))

/-- All the factors: groups by rows, four pairs a plane. -/
def rV (i : grid0.Coords) (x0 : Vec F S256x2048 .bf16) (hs : Vec F S32x256x256 .bf16) : Vec F S2x8x256 .f32 :=
  fun y => rcpV i x0 hs (y 0) ⟨(y 2).val / 128, by have h2 : (y 2).val < 256 := (y 2).isLt; omega⟩ (ix2 (y 1) ⟨(y 2).val % 128, Nat.mod_lt _ (by decide)⟩)

/-- The shape of a point's scales. -/
abbrev SSt : Shape := ⟨2, ![16, 256]⟩

/-- All the scales of a point: 16 groups by 256 rows. -/
def stV (i : grid0.Coords) (x0 : Vec F S256x2048 .bf16) (hs : Vec F S32x256x256 .bf16) : FVec F SSt .f32 :=
  fun y => sclV i x0 hs ⟨(y 0).val / 8, by have h0 : (y 0).val < 16 := (y 0).isLt; omega⟩ ⟨(y 1).val / 128, by have h2 : (y 1).val < 256 := (y 1).isLt; omega⟩
    (ix2 ⟨(y 0).val % 8, Nat.mod_lt _ (by decide)⟩ ⟨(y 1).val % 128, Nat.mod_lt _ (by decide)⟩)

/-- The scales gathered so far with this point's put in. -/
def stUpd (i : grid0.Coords) (S : FVec F SSt .f32) (s : Vec F S4x16x256 .f32) : Vec F S4x16x256 .f32 :=
  fun y => if (y 0).val = (i 1).val then S (ix2 (y 1) (y 2)) else s y

/-- One group's factors. -/
def rRow (i : grid0.Coords) (x0 : Vec F S256x2048 .bf16) (hs : Vec F S32x256x256 .bf16) (q : Fin 2) (s : Fin 8) : Vec F S1x1x256 .f32 :=
  fun z => rV i x0 hs (ix3 q s (z 2))

/-- The packed codes of a pair. -/
def cod (Y : FVec F S256x256 .f32) (ra rb : Vec F S1x1x256 .f32) : IVec S256x128 8 := k0_pay58 (k0_pay56 Y ra rb) (k0_pay57 Y ra rb)

/-- The packed codes of pair `p`. -/
def codP (i : grid0.Coords) (x0 : Vec F S256x2048 .bf16) (hs : Vec F S32x256x256 .bf16) (p : Fin 8) : IVec S256x128 8 :=
  cod (Yv i x0 hs p.val) (rRow i x0 hs ⟨p.val / 4, by have := p.isLt; omega⟩ ⟨2 * (p.val % 4), by omega⟩)
    (rRow i x0 hs ⟨p.val / 4, by have := p.isLt; omega⟩ ⟨2 * (p.val % 4) + 1, by omega⟩)

/-- The packed codes of a block. -/
def codesV (i : grid0.Coords) (x0 : Vec F S256x2048 .bf16) (hs : Vec F S32x256x256 .bf16) : Vec F S256x1024 .i8 :=
  fun y => codP i x0 hs ⟨(y 1).val / 128, by have h2 : (y 1).val < 1024 := (y 1).isLt; omega⟩ (ix2 (y 0) ⟨(y 1).val % 128, Nat.mod_lt _ (by decide)⟩)

/-! ## What the body's loads read -/

theorem w_read (arg2 : Memref sig .tc .vmem S256x2048 .bf16) (harg2 : arg2.IsWhole) (x0 : Vec F S256x2048 .bf16) (p : Fin 8) {o : Fin 2 → ℕ}
    (ho : o = ![0, 256 * p.val]) (inb) :
    View.readAt (Elt F) arg2.view (Rect.unit (s := S256x2048) o S256x256.size inb).toLoadRect (harg2.unread x0) = wS x0 p.val := by
  subst ho
  funext z
  rw [Memref.IsWhole.readAt_unread]
  unfold wS
  congr 1
  have h1 : (z 1).val < 256 := (z 1).isLt
  have hp := p.isLt
  funext b
  apply Fin.ext
  fin_cases b
  · show 0 + 1 * (z 0).val = (z 0).val
    omega
  · show 256 * p.val + 1 * (z 1).val = (256 * p.val + (z 1).val) % 2048
    omega

theorem h_read (arg6 : Memref sig .tc .vmem S32x256x256 .bf16) (harg6 : arg6.IsWhole) (hs : Vec F S32x256x256 .bf16) (i : grid0.Coords) (p : Fin 8) {b : BitVec 32}
    (hb : b = BitVec.ofNat 32 p.val) (inb) :
    View.readAt (Elt F) arg6.view (Rect.unit (s := S32x256x256) (k0_off3 i b) S1x256x256.size inb).toLoadRect (harg6.unread hs) = hS i hs p.val := by
  subst hb
  funext z
  rw [Memref.IsWhole.readAt_unread]
  unfold hS
  congr 1
  have h0 : (z 0).val < 1 := (z 0).isLt
  have hp := p.isLt
  have hi : (i 1).val < 4 := (i 1).isLt
  have f0 := congrFun (k0_off3_eq i p) 0
  have f1 := congrFun (k0_off3_eq i p) 1
  have f2 := congrFun (k0_off3_eq i p) 2
  simp at f0 f1 f2
  funext b
  apply Fin.ext
  fin_cases b
  · show k0_off3 i (BitVec.ofNat 32 p.val) 0 + 1 * (z 0).val = (8 * (i 1).val + p.val) % 32
    rw [f0]; omega
  · show k0_off3 i (BitVec.ofNat 32 p.val) 1 + 1 * (z 1).val = (z 1).val
    rw [f1]; omega
  · show k0_off3 i (BitVec.ofNat 32 p.val) 2 + 1 * (z 2).val = (z 2).val
    rw [f2]; omega

theorem cell_00 (w : Vec F S256x256 .bf16) (h : Vec F S1x256x256 .bf16) : k0_pay16 w h = cellP 0 (Mx w h 0) := by
  funext x
  unfold cellP Mx k0_pay16
  pointwise
theorem cell_10 (w : Vec F S256x256 .bf16) (h : Vec F S1x256x256 .bf16) : k0_pay17 w h = cellP 1 (Mx w h 0) := by
  funext x
  unfold cellP Mx k0_pay17
  pointwise
theorem cell_01 (w : Vec F S256x256 .bf16) (h : Vec F S1x256x256 .bf16) : k0_pay20 (k0_pay19 w h) = cellP 0 (Mx w h 1) := by
  funext x
  unfold cellP Mx k0_pay20 k0_pay19
  pointwise
theorem cell_11 (w : Vec F S256x256 .bf16) (h : Vec F S1x256x256 .bf16) : k0_pay21 (k0_pay18 w h) = cellP 1 (Mx w h 1) := by
  funext x
  unfold cellP Mx k0_pay21
  pointwise
theorem cell_3 (M : FVec F S8x128 .f32) : (shapeCast S1x8x128 M shapeCasts_S8x128_S1x8x128 : FVec F S1x8x128 .f32) = cell3 M := by
  funext x
  unfold cell3
  pointwise

end Cert.Kernel.Hand

end
-- ==== Proof.HandK.Hs.lean ====
/- The Hadamard matrices the kernel builds once: what the loop leaves in their buffer. -/
module

public import proofs.«01_k».proof.Proof.HandK.Runs
public import Idealize.ShloMosaic.Lib.WholeRead
public import Idealize.ShloMosaic.Lib.Pointwise

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The signs of pair `p` as the loop reads them. -/
def sgnRow (x1 : Vec F S32x1x256 .f32) (p : Fin 32) : Vec F S1x1x256 .f32 := fun z => x1 (ix3 p 0 (z 2))

/-- The matrices over the loop's integer words. -/
def hsOf (v880 : IVec S256x256 32) (v904 : IVec S256x256 32) (v906 : IVec S256x256 32) (v925 : IVec S256x256 1) (v927 : IVec S256x256 32) (x1 : Vec F S32x1x256 .f32) : Vec F S32x256x256 .bf16 :=
  fun y => k0_pay13 v880 v904 v906 v925 v927 (sgnRow x1 (y 0)) (ix3 0 (y 1) (y 2))

theorem trips_eq : k0_t1_loop.trips = 32 := by decide +kernel

theorem row_read (arg3 : Memref sig .tc .vmem S32x1x256 .f32) (harg3 : arg3.IsWhole) (x1 : Vec F S32x1x256 .f32) (k : Fin k0_t1_loop.trips) (inb) :
    View.readAt (Elt F) arg3.view (Rect.unit (s := S32x1x256) (k0_off1 k) S1x1x256.size inb).toLoadRect (harg3.unread x1)
      = sgnRow x1 (Fin.cast trips_eq k) := by
  funext z
  rw [Memref.IsWhole.readAt_unread]
  unfold sgnRow
  congr 1
  funext a
  apply Fin.ext
  have h0 : (z 0).val < 1 := (z 0).isLt
  have h1 : (z 1).val < 1 := (z 1).isLt
  have e0 := congrFun (k0_off1_eq k) 0
  have e1 := congrFun (k0_off1_eq k) 1
  have e2 := congrFun (k0_off1_eq k) 2
  fin_cases a
  · show k0_off1 k 0 + 1 * (z 0).val = k.val
    simp at e0; omega
  · show k0_off1 k 1 + 1 * (z 1).val = 0
    simp at e1; omega
  · show k0_off1 k 2 + 1 * (z 2).val = (z 2).val
    simp at e2; omega

theorem trip_piece (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) (k : Fin k0_t1_loop.trips) :
    tripL_k0_t1 (F := F) 𝒱 c bd i arg2 harg2 arg3 harg3 arg4 harg4 arg5 harg5 arg6 harg6 arg7 harg7 arg8 harg8 arg9 harg9 k0_h1 v880 v904 v906 v925 v927 (harg3.unread x1) k
      = [⟨Rect.unit (s := S32x256x256) (k0_off2 k) S1x256x256.size (k0_off2_inb i k k0_h1), k0_pay13 v880 v904 v906 v925 v927 (sgnRow x1 (Fin.cast trips_eq k))⟩] := by
  rw [← row_read arg3 harg3 x1 k (k0_off1_inb i k k0_h1)]
  unfold tripL_k0_t1 trip_k0_t1
  rfl

theorem pb_mem (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) :
    ∀ n, n ≤ 32 → (∀ p ∈ pb_k0_t1 (F := F) 𝒱 c bd i arg2 harg2 arg3 harg3 arg4 harg4 arg5 harg5 arg6 harg6 arg7 harg7 arg8 harg8 arg9 harg9 k0_h1 v880 v904 v906 v925 v927 (harg3.unread x1) n, ∀ x, p.2 x = hsOf v880 v904 v906 v925 v927 x1 (p.1.emb x))
      ∧ ∀ y : S32x256x256.Idx, (y 0).val < n → ∃ p ∈ pb_k0_t1 (F := F) 𝒱 c bd i arg2 harg2 arg3 harg3 arg4 harg4 arg5 harg5 arg6 harg6 arg7 harg7 arg8 harg8 arg9 harg9 k0_h1 v880 v904 v906 v925 v927 (harg3.unread x1) n, y ∈ p.1.set := by
  intro n
  induction n with
  | zero => intro _; exact ⟨fun p hp => absurd hp (by rw [pb_k0_t1.eq_1]; exact List.not_mem_nil), fun y hy => absurd hy (Nat.not_lt_zero _)⟩
  | succ n ih =>
    intro hn
    obtain ⟨ih1, ih2⟩ := ih (by omega)
    have hk : n < k0_t1_loop.trips := by rw [trips_eq]; omega
    have e := pb_k0_t1_succ (F := F) 𝒱 c bd i arg2 harg2 arg3 harg3 arg4 harg4 arg5 harg5 arg6 harg6 arg7 harg7 arg8 harg8 arg9 harg9 k0_h1 v880 v904 v906 v925 v927 (harg3.unread x1) ⟨n, hk⟩
    rw [trip_piece] at e
    have e' : pb_k0_t1 (F := F) 𝒱 c bd i arg2 harg2 arg3 harg3 arg4 harg4 arg5 harg5 arg6 harg6 arg7 harg7 arg8 harg8 arg9 harg9 k0_h1 v880 v904 v906 v925 v927 (harg3.unread x1) (n + 1) = _ := e
    rw [e']
    have f0 := congrFun (k0_off2_eq ⟨n, hk⟩) 0
    have f1 := congrFun (k0_off2_eq ⟨n, hk⟩) 1
    have f2 := congrFun (k0_off2_eq ⟨n, hk⟩) 2
    simp at f0 f1 f2
    constructor
    · intro p hp
      rcases List.mem_append.1 hp with hp | hp
      · rw [List.mem_singleton] at hp
        subst hp
        intro x
        have h0 : (x 0).val < 1 := (x 0).isLt
        have e1 : Fin.cast trips_eq ⟨n, hk⟩ = (Rect.unit (s := S32x256x256) (k0_off2 ⟨n, hk⟩) S1x256x256.size (k0_off2_inb i ⟨n, hk⟩ k0_h1)).emb x 0 := by
          apply Fin.ext
          show n = k0_off2 ⟨n, hk⟩ 0 + 1 * (x 0).val
          omega
        have e2 : x = ix3 0 ((Rect.unit (s := S32x256x256) (k0_off2 ⟨n, hk⟩) S1x256x256.size (k0_off2_inb i ⟨n, hk⟩ k0_h1)).emb x 1) ((Rect.unit (s := S32x256x256) (k0_off2 ⟨n, hk⟩) S1x256x256.size (k0_off2_inb i ⟨n, hk⟩ k0_h1)).emb x 2) := by
          funext a
          apply Fin.ext
          fin_cases a
          · show (x 0).val = 0
            omega
          · show (x 1).val = k0_off2 ⟨n, hk⟩ 1 + 1 * (x 1).val
            omega
          · show (x 2).val = k0_off2 ⟨n, hk⟩ 2 + 1 * (x 2).val
            omega
        exact congr (congrArg (k0_pay13 v880 v904 v906 v925 v927) (congrArg (sgnRow x1) e1)) e2
      · exact ih1 p hp
    · intro y hy
      by_cases hlt : (y 0).val < n
      · obtain ⟨p, hp, hm⟩ := ih2 y hlt
        exact ⟨p, List.mem_append_right _ hp, hm⟩
      · refine ⟨_, List.mem_append_left _ (List.mem_singleton.2 rfl), ?_⟩
        rw [Rect.mem_set_unit]
        have h1 : (y 1).val < 256 := (y 1).isLt
        have h2 : (y 2).val < 256 := (y 2).isLt
        intro a
        fin_cases a
        · show k0_off2 ⟨n, hk⟩ 0 ≤ (y 0).val ∧ (y 0).val < k0_off2 ⟨n, hk⟩ 0 + 1
          omega
        · show k0_off2 ⟨n, hk⟩ 1 ≤ (y 1).val ∧ (y 1).val < k0_off2 ⟨n, hk⟩ 1 + 256
          omega
        · show k0_off2 ⟨n, hk⟩ 2 ≤ (y 2).val ∧ (y 2).val < k0_off2 ⟨n, hk⟩ 2 + 256
          omega

/-- After its last trip the loop has left the matrices. -/
theorem pb_done (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) (f : BufTy.Contents (Elt F) arg6.view.ty) :
    arg6.view.writes (Elt F) f (pb_k0_t1 (F := F) 𝒱 c bd i arg2 harg2 arg3 harg3 arg4 harg4 arg5 harg5 arg6 harg6 arg7 harg7 arg8 harg8 arg9 harg9 k0_h1 v880 v904 v906 v925 v927 (harg3.unread x1) (Scf.trips k0_t1_loop.lb k0_t1_loop.ub k0_t1_loop.st))
      = harg6.unread (hsOf v880 v904 v906 v925 v927 x1) := by
  have hn : Scf.trips k0_t1_loop.lb k0_t1_loop.ub k0_t1_loop.st = 32 := trips_eq
  rw [hn]
  obtain ⟨h1, h2⟩ := pb_mem (F := F) 𝒱 c bd i arg2 harg2 arg3 harg3 arg4 harg4 arg5 harg5 arg6 harg6 arg7 harg7 arg8 harg8 arg9 harg9 k0_h1 v880 v904 v906 v925 v927 x1 32 le_rfl
  have h2' : ∀ y : S32x256x256.Idx, _ := fun y => h2 y (y 0).isLt
  apply harg6.eq_unread
  funext y
  rw [View.read_writes_apply_eq_canon _ _ _ _ (h2' y), View.canon_apply_of_pieces _ _ h1 y (h2' y)]

/-- The Hadamard matrices: entry (r, k) of pair `p` is the ±1 of row `r` and column `k` times the sign of column `k`. -/
def HSv (x1 : Vec F S32x1x256 .f32) : Vec F S32x256x256 .bf16 :=
  hsOf (k0_pay8 (iota .tc S256x256 32 [1] iota_S256x256_d1_w32) k0_pay3 k0_pay4 64#32 k0_pay5 k0_pay6 k0_pay7)
    (k0_pay9 (iota .tc S256x256 32 [0] iota_S256x256_d0_w32) 128#32) (k0_pay10 (iota .tc S256x256 32 [1] iota_S256x256_d1_w32))
    (k0_pay11 (iota .tc S256x256 32 [1] iota_S256x256_d1_w32)) (k0_pay12 (iota .tc S256x256 32 [1] iota_S256x256_d1_w32)) x1

theorem pb_done_eq (𝒱 : Variants) (c : Dev nD) (bd : Option 𝒱.V) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (k0_h1 : k0_cond1 i = 1#1) (v880 : IVec S256x256 32) (v904 : IVec S256x256 32) (v906 : IVec S256x256 32) (v925 : IVec S256x256 1) (v927 : IVec S256x256 32)  (x1 : Vec F S32x1x256 .f32) (f : BufTy.Contents (Elt F) arg6.view.ty) (X : Vec F S32x256x256 .bf16)
    (h : hsOf v880 v904 v906 v925 v927 x1 = X) :
    arg6.view.writes (Elt F) f (pb_k0_t1 (F := F) 𝒱 c bd i arg2 harg2 arg3 harg3 arg4 harg4 arg5 harg5 arg6 harg6 arg7 harg7 arg8 harg8 arg9 harg9 k0_h1 v880 v904 v906 v925 v927 (harg3.unread x1) (Scf.trips k0_t1_loop.lb k0_t1_loop.ub k0_t1_loop.st))
      = harg6.unread X := by
  rw [pb_done, h]

end Cert.Kernel.Hand

end
-- ==== Proof.HandK.RunA.lean ====
/- The run of the kernel's body at the first point, which builds the Hadamard matrices. -/
module

public import proofs.«01_k».proof.Proof.HandK.Hs

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.stridedRows true in
/-- At the first point the body leaves the pieces `L.1` in the codes' buffer, writes the pieces `L.2` over the scales
    it has gathered so far and leaves the Hadamard matrices in their buffer; the scales' buffer stays. -/
noncomputable def runA (c : Dev nD) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (hc0 : cond0_0 i) (hc1 : ¬cond0_1 i)
    (x0 : Vec F S256x2048 .bf16) (x1 : Vec F S32x1x256 .f32) (x3 : Vec F S1x64x256 .f32) (xs1 : Vec F S4x16x256 .f32) :
    { L : List (View.Piece (Elt F) S256x1024 .i8) × List (View.Piece (Elt F) S4x16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3 ∗ (∃ d, owns (c : Thread nD τ) arg6 fullShare d) ∗ owns (c : Thread nD τ) arg7 fullShare xs1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L.1) ∗ owns (c : Thread nD τ) arg5 fullShare x3 ∗ owns (c : Thread nD τ) arg6 fullShare (HSv x1) ∗ (arg7.view.loc (c : Thread nD τ) ↦[arg7.view.set]{fullShare} arg7.view.writes (Elt F) (harg7.unread xs1) L.2) ∗ (∃ d, owns (c : Thread nD τ) arg8 fullShare d) ∗ (∃ d, owns (c : Thread nD τ) arg9 fullShare d)) -∗ K ⟨⟩))
          ⊢ wp frame (wpE (defs₀ (F := F)) Variants.none c none) E (cc0_hadamard_int4_fold i arg2 harg2 arg3 harg3 arg4 harg4 arg5 harg5 arg6 harg6 arg7 harg7 arg8 harg8 arg9 harg9) K } := by
  refine ⟨⟨?_, ?_⟩, fun E K => ?run⟩
  case run =>
    simp only [cc0_hadamard_int4_fold_eq_skeleton]; unfold cc0_hadamard_int4_fold_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%f3, %hf3, H3⟩, ⟨%ds0, %fs0, -, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg5.eq_unread hf3; obtain rfl := harg7.eq_unread hfs1
    set_option sl_exec.maxSteps 9 in sl_exec (disch := first | sl_exact hc0 | sl_exact hc1)
    rw [pb_done_eq (X := HSv x1)]
    swap
    · rfl
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS0]
    · iexists _; isplitr; · ipureintro; exact harg6.read_unread _
      iexact HS0
    isplitl [HS1]
    · iexact HS1
    isplitl [HS2]
    · iexists _, _; isplitr; swap; · iexact HS2
      ipureintro; rfl
    iexists _, _; isplitr; swap; · iexact HS3
    ipureintro; rfl

end Cert.Kernel.Hand

end
-- ==== Proof.HandK.RunB.lean ====
/- The run of the kernel's body at a point that neither builds the Hadamard matrices nor writes the scales out. -/
module

public import proofs.«01_k».proof.Proof.HandK.Runs

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.stridedRows true in
/-- At a point where neither branch is taken the body leaves the pieces `L.1` in the codes' buffer and writes the pieces
    `L.2` over the scales it has gathered so far; the scales' own buffer and the Hadamard matrices stay as they were. -/
noncomputable def runB (c : Dev nD) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (hc0 : ¬cond0_0 i) (hc1 : ¬cond0_1 i)
    (x0 : Vec F S256x2048 .bf16) (x1 : Vec F S32x1x256 .f32) (x3 : Vec F S1x64x256 .f32) (xs0 : Vec F S32x256x256 .bf16) (xs1 : Vec F S4x16x256 .f32) :
    { L : List (View.Piece (Elt F) S256x1024 .i8) × List (View.Piece (Elt F) S4x16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3 ∗ owns (c : Thread nD τ) arg6 fullShare xs0 ∗ owns (c : Thread nD τ) arg7 fullShare xs1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L.1) ∗ owns (c : Thread nD τ) arg5 fullShare x3 ∗ owns (c : Thread nD τ) arg6 fullShare xs0 ∗ (arg7.view.loc (c : Thread nD τ) ↦[arg7.view.set]{fullShare} arg7.view.writes (Elt F) (harg7.unread xs1) L.2) ∗ (∃ d, owns (c : Thread nD τ) arg8 fullShare d) ∗ (∃ d, owns (c : Thread nD τ) arg9 fullShare d)) -∗ K ⟨⟩))
          ⊢ wp frame (wpE (defs₀ (F := F)) Variants.none c none) E (cc0_hadamard_int4_fold i arg2 harg2 arg3 harg3 arg4 harg4 arg5 harg5 arg6 harg6 arg7 harg7 arg8 harg8 arg9 harg9) K } := by
  refine ⟨⟨?_, ?_⟩, fun E K => ?run⟩
  case run =>
    simp only [cc0_hadamard_int4_fold_eq_skeleton]; unfold cc0_hadamard_int4_fold_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg6.eq_unread hfs0; obtain rfl := harg5.eq_unread hf3; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS0]
    · iexists _; isplitr; · ipureintro; exact harg6.read_unread _
      iexact HS0
    isplitl [HS1]
    · iexact HS1
    isplitl [HS2]
    · iexists _, _; isplitr; swap; · iexact HS2
      ipureintro; rfl
    iexists _, _; isplitr; swap; · iexact HS3
    ipureintro; rfl

end Cert.Kernel.Hand

end
-- ==== Proof.HandK.RunC.lean ====
/- The run of the kernel's body at a point that writes the scales out. -/
module

public import proofs.«01_k».proof.Proof.HandK.Runs

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.stridedRows true in
/-- At a point that ends a row block the body leaves the pieces `L.1.1` in the codes' buffer, writes the pieces `L.1.2` over
    the scales it has gathered so far and leaves the pieces `L.2` in the scales' buffer; the Hadamard matrices stay. -/
noncomputable def runC (c : Dev nD) (i : grid0.Coords) (arg2 : Memref sig .tc .vmem S256x2048 .bf16) (harg2 : arg2.IsWhole) (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole) (arg6 : Memref sig .tc .vmem S32x256x256 .bf16) (harg6 : arg6.IsWhole) (arg7 : Memref sig .tc .vmem S4x16x256 .f32) (harg7 : arg7.IsWhole) (arg8 : Memref sig .tc .vmem S2x2x72x128 .f32) (harg8 : arg8.IsWhole) (arg9 : Memref sig .tc .vmem S2x8x256 .f32) (harg9 : arg9.IsWhole) (hc0 : ¬cond0_0 i) (hc1 : cond0_1 i)
    (x0 : Vec F S256x2048 .bf16) (x1 : Vec F S32x1x256 .f32) (xs0 : Vec F S32x256x256 .bf16) (xs1 : Vec F S4x16x256 .f32) :
    { L : (List (View.Piece (Elt F) S256x1024 .i8) × List (View.Piece (Elt F) S4x16x256 .f32)) × List (View.Piece (Elt F) S1x64x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L.1.1) ∗ (∃ f, arg5.view.loc (c : Thread nD τ) ↦[arg5.view.set]{fullShare} arg5.view.writes (Elt F) f L.2) ∗ owns (c : Thread nD τ) arg6 fullShare xs0 ∗ (arg7.view.loc (c : Thread nD τ) ↦[arg7.view.set]{fullShare} arg7.view.writes (Elt F) (harg7.unread xs1) L.1.2) ∗ (∃ d, owns (c : Thread nD τ) arg8 fullShare d) ∗ (∃ d, owns (c : Thread nD τ) arg9 fullShare d)) -∗ K ⟨⟩))
          ⊢ wp frame (wpE (defs₀ (F := F)) Variants.none c none) E (cc0_hadamard_int4_fold i arg2 harg2 arg3 harg3 arg4 harg4 arg5 harg5 arg6 harg6 arg7 harg7 arg8 harg8 arg9 harg9) K } := by
  refine ⟨⟨⟨?_, ?_⟩, ?_⟩, fun E K => ?run⟩
  case run =>
    simp only [cc0_hadamard_int4_fold_eq_skeleton]; unfold cc0_hadamard_int4_fold_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg6.eq_unread hfs0; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS0]
    · iexists _; isplitr; · ipureintro; exact harg6.read_unread _
      iexact HS0
    isplitl [HS1]
    · iexact HS1
    isplitl [HS2]
    · iexists _, _; isplitr; swap; · iexact HS2
      ipureintro; rfl
    iexists _, _; isplitr; swap; · iexact HS3
    ipureintro; rfl

end Cert.Kernel.Hand

end
-- ==== Proof.HandK.Unwind.lean ====
/- What the pieces written by one run of the body are: the partial maxima, the scales, the factors and the packed codes. -/
module

public import proofs.«01_k».proof.Proof.HandK.Spec
public import proofs.«01_k».proof.Proof.HandK.RunA
public import proofs.«01_k».proof.Proof.HandK.RunB
public import proofs.«01_k».proof.Proof.HandK.RunC
public import proofs.«01_k».proof.Proof.HandK.Hs

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (i : grid0.Coords) (x0 : Vec F S256x2048 .bf16) (hs : Vec F S32x256x256 .bf16)

theorem piece_eq (a : Fin 2 × Fin 2 × Fin 8) (f : FVec F S1x1x8x128 .f32)
    (h : f = cellP a.2.1 (Mx (wS x0 (4 * a.1.val + a.2.2.val / 2)) (hS i hs (4 * a.1.val + a.2.2.val / 2)) (a.2.2.val % 2))) :
    (⟨slabRect a, f⟩ : View.Piece (Elt F) S2x2x72x128 .f32) = slabPiece i x0 hs a := congrArg (Sigma.mk (slabRect a)) h

theorem rRect_inb (a : Fin 2 × Fin 2) : ∀ b, (![a.1.val, 0, 128 * a.2.val] : Fin 3 → ℕ) b + S1x8x128.size b ≤ S2x8x256.size b := by
  revert a; decide

/-- Where a half of four pairs' factors lies. -/
def rRect (a : Fin 2 × Fin 2) : Rect S2x8x256 := Rect.unit ![a.1.val, 0, 128 * a.2.val] S1x8x128.size (rRect_inb a)

/-- A half of four pairs' factors as stored. -/
def rPiece (a : Fin 2 × Fin 2) : View.Piece (Elt F) S2x8x256 .f32 := ⟨rRect a, cell3 (rcpV i x0 hs a.1 a.2)⟩

theorem rPiece_eq (a : Fin 2 × Fin 2) (f : FVec F S1x8x128 .f32) (h : f = cell3 (rcpV i x0 hs a.1 a.2)) :
    (⟨rRect a, f⟩ : View.Piece (Elt F) S2x8x256 .f32) = rPiece i x0 hs a := congrArg (Sigma.mk (rRect a)) h

theorem rPiece_val (a : Fin 2 × Fin 2) (x : (rRect a).shape.Idx) : (rPiece i x0 hs a).2 x = rV i x0 hs ((rRect a).emb x) := by
  have e0 : ((rRect a).emb x 0).val = a.1.val + 1 * (x 0).val := rfl
  have e1 : ((rRect a).emb x 1).val = 0 + 1 * (x 1).val := rfl
  have e2 : ((rRect a).emb x 2).val = 128 * a.2.val + 1 * (x 2).val := rfl
  have h0 : (x 0).val < 1 := (x 0).isLt
  have h1 : (x 1).val < 8 := (x 1).isLt
  have h2 : (x 2).val < 128 := (x 2).isLt
  have l0 : (rRect a).emb x 0 = a.1 := Fin.ext (by omega)
  have l1 : (rRect a).emb x 1 = (⟨(x 1).val, h1⟩ : Fin 8) := Fin.ext (by show ((rRect a).emb x 1).val = (x 1).val; omega)
  have l2 : (⟨((rRect a).emb x 2).val / 128, by rw [e2]; have := a.2.isLt; omega⟩ : Fin 2) = a.2 := Fin.ext (by show ((rRect a).emb x 2).val / 128 = _; omega)
  have l3 : (⟨((rRect a).emb x 2).val % 128, Nat.mod_lt _ (by decide)⟩ : Fin 128) = ⟨(x 2).val, h2⟩ := Fin.ext (by show ((rRect a).emb x 2).val % 128 = (x 2).val; omega)
  unfold rV rPiece cell3
  simp only [l0, l2, l3, l1]
  rfl

theorem rRow_read (arg9 : Memref sig .tc .vmem S2x8x256 .f32) (A : List (Fin 2 × Fin 2)) (q : Fin 2) (s : Fin 8)
    (hA : ∀ l : Fin 2, (q, l) ∈ A) {o : Fin 3 → ℕ} (ho : o = ![q.val, s.val, 0]) (inb) :
    arg9.view.readCov (A.map (rPiece i x0 hs)) (Rect.unit (s := S2x8x256) o S1x1x256.size inb).toLoadRect = rRow i x0 hs q s := by
  subst ho
  rw [View.readCov_eq_canon']
  funext z
  have h0 : (z 0).val < 1 := (z 0).isLt
  have h1 : (z 1).val < 1 := (z 1).isLt
  have h2 : (z 2).val < 256 := (z 2).isLt
  have hz : (Rect.unit (s := S2x8x256) ![q.val, s.val, 0] S1x1x256.size inb).toLoadRect.idx z = ix3 q s (z 2) := by
    funext b
    apply Fin.ext
    fin_cases b
    · show q.val + 1 * (z 0).val = q.val
      omega
    · show s.val + 1 * (z 1).val = s.val
      omega
    · show 0 + 1 * (z 2).val = (z 2).val
      omega
  rw [View.canon_apply_of_pieces (rV i x0 hs) (A.map (rPiece i x0 hs)) ?_ _ ?_, hz]
  · rfl
  · intro p hp x
    obtain ⟨a, _, rfl⟩ := List.mem_map.1 hp
    exact rPiece_val i x0 hs a x
  · refine ⟨_, List.mem_map_of_mem (hA ⟨(z 2).val / 128, by omega⟩), ?_⟩
    show _ ∈ (rRect (q, ⟨(z 2).val / 128, by omega⟩)).set
    rw [← Rect.map_emb_univ, Finset.mem_map]
    refine ⟨ix3 0 s (⟨(z 2).val % 128, Nat.mod_lt _ (by decide)⟩ : Fin 128), Finset.mem_univ _, ?_⟩
    rw [hz]
    funext b
    apply Fin.ext
    fin_cases b
    · show q.val + 1 * 0 = q.val
      omega
    · show 0 + 1 * s.val = s.val
      omega
    · show 128 * ((z 2).val / 128) + 1 * ((z 2).val % 128) = (z 2).val
      omega

theorem stRect_inb (a : Fin 2 × Fin 2) : ∀ b, (![(i 1).val, 8 * a.1.val, 128 * a.2.val] : Fin 3 → ℕ) b + S1x8x128.size b ≤ S4x16x256.size b := by
  have h : ∀ (k : Fin 4) (a : Fin 2 × Fin 2), ∀ b, (![k.val, 8 * a.1.val, 128 * a.2.val] : Fin 3 → ℕ) b + S1x8x128.size b ≤ S4x16x256.size b := by decide
  exact h (i 1) a

/-- Where a half of four pairs' scales lies. -/
def stRect (a : Fin 2 × Fin 2) : Rect S4x16x256 := Rect.unit ![(i 1).val, 8 * a.1.val, 128 * a.2.val] S1x8x128.size (stRect_inb i a)

/-- A half of four pairs' scales as stored. -/
def stPiece (a : Fin 2 × Fin 2) : View.Piece (Elt F) S4x16x256 .f32 := ⟨stRect i a, cell3 (sclV i x0 hs a.1 a.2)⟩

theorem stPiece_eq (a : Fin 2 × Fin 2) {o : Fin 3 → ℕ} (ho : o = ![(i 1).val, 8 * a.1.val, 128 * a.2.val]) (inb) (f : FVec F S1x8x128 .f32)
    (h : f = cell3 (sclV i x0 hs a.1 a.2)) : (⟨Rect.unit (s := S4x16x256) o S1x8x128.size inb, f⟩ : View.Piece (Elt F) S4x16x256 .f32) = stPiece i x0 hs a := by
  subst ho; exact congrArg (Sigma.mk (stRect i a)) h

theorem stPiece_val (s : Vec F S4x16x256 .f32) (a : Fin 2 × Fin 2) (x : (stRect i a).shape.Idx) :
    (stPiece i x0 hs a).2 x = stUpd i (stV i x0 hs) s ((stRect i a).emb x) := by
  have e0 : ((stRect i a).emb x 0).val = (i 1).val + 1 * (x 0).val := rfl
  have e1 : ((stRect i a).emb x 1).val = 8 * a.1.val + 1 * (x 1).val := rfl
  have e2 : ((stRect i a).emb x 2).val = 128 * a.2.val + 1 * (x 2).val := rfl
  have h0 : (x 0).val < 1 := (x 0).isLt
  have h1 : (x 1).val < 8 := (x 1).isLt
  have h2 : (x 2).val < 128 := (x 2).isLt
  have l0 : ((stRect i a).emb x 0).val = (i 1).val := by omega
  have k0 : (⟨((stRect i a).emb x 1).val / 8, by rw [e1]; have := a.1.isLt; omega⟩ : Fin 2) = a.1 := Fin.ext (by show ((stRect i a).emb x 1).val / 8 = _; omega)
  have k1 : (⟨((stRect i a).emb x 1).val % 8, Nat.mod_lt _ (by decide)⟩ : Fin 8) = ⟨(x 1).val, h1⟩ := Fin.ext (by show ((stRect i a).emb x 1).val % 8 = (x 1).val; omega)
  have l2 : (⟨((stRect i a).emb x 2).val / 128, by rw [e2]; have := a.2.isLt; omega⟩ : Fin 2) = a.2 := Fin.ext (by show ((stRect i a).emb x 2).val / 128 = _; omega)
  have l3 : (⟨((stRect i a).emb x 2).val % 128, Nat.mod_lt _ (by decide)⟩ : Fin 128) = ⟨(x 2).val, h2⟩ := Fin.ext (by show ((stRect i a).emb x 2).val % 128 = (x 2).val; omega)
  unfold stUpd
  rw [if_pos l0]
  show sclV i x0 hs a.1 a.2 (ix2 (⟨(x 1).val, h1⟩ : Fin 8) (⟨(x 2).val, h2⟩ : Fin 128)) = sclV i x0 hs ⟨((stRect i a).emb x 1).val / 8, _⟩ ⟨((stRect i a).emb x 2).val / 128, _⟩
    (ix2 (⟨((stRect i a).emb x 1).val % 8, _⟩ : Fin 8) (⟨((stRect i a).emb x 2).val % 128, _⟩ : Fin 128))
  rw [k0, k1, l2, l3]

/-- What the scales gathered so far read once a point's four pieces are written over them. -/
theorem st_read (arg7 : Memref sig .tc .vmem S4x16x256 .f32) (harg7 : arg7.IsWhole) (s : Vec F S4x16x256 .f32)
    (A : List (Fin 2 × Fin 2)) (hA : ∀ a, a ∈ A) :
    arg7.view.read (Elt F) (arg7.view.writes (Elt F) (harg7.unread s) (A.map (stPiece i x0 hs))) = stUpd i (stV i x0 hs) s := by
  funext y
  have hy1 : (y 1).val < 16 := (y 1).isLt
  have hy2 : (y 2).val < 256 := (y 2).isLt
  by_cases hy : (y 0).val = (i 1).val
  · refine View.read_writes_apply_of_pieces _ _ (stUpd i (stV i x0 hs) s) _ ?_ y ?_
    · intro p hp x
      obtain ⟨a, _, rfl⟩ := List.mem_map.1 hp
      exact stPiece_val i x0 hs s a x
    · refine ⟨_, List.mem_map_of_mem (hA (⟨(y 1).val / 8, by omega⟩, ⟨(y 2).val / 128, by omega⟩)), ?_⟩
      show y ∈ (stRect i (⟨(y 1).val / 8, by omega⟩, ⟨(y 2).val / 128, by omega⟩)).set
      refine Rect.mem_set_unit.2 fun b => ?_
      fin_cases b
      · show (i 1).val ≤ (y 0).val ∧ (y 0).val < (i 1).val + 1
        omega
      · show 8 * ((y 1).val / 8) ≤ (y 1).val ∧ (y 1).val < 8 * ((y 1).val / 8) + 8
        omega
      · show 128 * ((y 2).val / 128) ≤ (y 2).val ∧ (y 2).val < 128 * ((y 2).val / 128) + 128
        omega
  · rw [View.read_writes_apply_of_forall_not_mem _ _ y _ ?_, harg7.read_unread]
    · unfold stUpd
      rw [if_neg hy]
    · intro p hp hm
      obtain ⟨a, _, rfl⟩ := List.mem_map.1 hp
      have h0 : (i 1).val ≤ (y 0).val ∧ (y 0).val < (i 1).val + 1 :=
        (Rect.mem_set_unit (inb := stRect_inb i a)).1 hm 0
      omega

theorem coRect_inb (p : Fin 8) : ∀ b, (![0, 128 * p.val] : Fin 2 → ℕ) b + S256x128.size b ≤ S256x1024.size b := by
  revert p; decide

/-- Where a pair's codes lie. -/
def coRect (p : Fin 8) : Rect S256x1024 := Rect.unit ![0, 128 * p.val] S256x128.size (coRect_inb p)

/-- A pair's codes as stored. -/
def coPiece (p : Fin 8) : View.Piece (Elt F) S256x1024 .i8 := ⟨coRect p, codP i x0 hs p⟩

theorem coPiece_eq (p : Fin 8) (f : IVec S256x128 8) (h : f = codP i x0 hs p) :
    (⟨coRect p, f⟩ : View.Piece (Elt F) S256x1024 .i8) = coPiece i x0 hs p := congrArg (Sigma.mk (coRect p)) h

theorem codes_read (arg4 : Memref sig .tc .vmem S256x1024 .i8) (f) (A : List (Fin 8)) (hA : ∀ p, p ∈ A) :
    arg4.view.read (Elt F) (arg4.view.writes (Elt F) f (A.map (coPiece i x0 hs))) = codesV i x0 hs := by
  funext y
  have hy0 : (y 0).val < 256 := (y 0).isLt
  have hy1 : (y 1).val < 1024 := (y 1).isLt
  refine View.read_writes_apply_of_pieces _ _ (codesV i x0 hs) _ ?_ y ?_
  · intro p hp x
    obtain ⟨a, _, rfl⟩ := List.mem_map.1 hp
    have e0 : ((coRect a).emb x 0).val = 0 + 1 * (x 0).val := rfl
    have e1 : ((coRect a).emb x 1).val = 128 * a.val + 1 * (x 1).val := rfl
    have h0 : (x 0).val < 256 := (x 0).isLt
    have h1 : (x 1).val < 128 := (x 1).isLt
    have k0 : (coRect a).emb x 0 = (⟨(x 0).val, h0⟩ : Fin 256) := Fin.ext (by show ((coRect a).emb x 0).val = (x 0).val; omega)
    have k1 : (⟨((coRect a).emb x 1).val / 128, by rw [e1]; have := a.isLt; omega⟩ : Fin 8) = a := Fin.ext (by show ((coRect a).emb x 1).val / 128 = _; omega)
    have k2 : (⟨((coRect a).emb x 1).val % 128, Nat.mod_lt _ (by decide)⟩ : Fin 128) = ⟨(x 1).val, h1⟩ := Fin.ext (by show ((coRect a).emb x 1).val % 128 = (x 1).val; omega)
    show (coPiece i x0 hs a).2 x = codesV i x0 hs ((coRect a).emb x)
    unfold codesV coPiece
    simp only [k0, k1, k2]
    exact congrArg (codP i x0 hs a) (ix2_eta (n0 := 256) (n1 := 128) x).symm
  · refine ⟨_, List.mem_map_of_mem (hA ⟨(y 1).val / 128, by omega⟩), ?_⟩
    show y ∈ (coRect ⟨(y 1).val / 128, by omega⟩).set
    refine Rect.mem_set_unit.2 fun b => ?_
    fin_cases b
    · show 0 ≤ (y 0).val ∧ (y 0).val < 0 + 256
      omega
    · show 128 * ((y 1).val / 128) ≤ (y 1).val ∧ (y 1).val < 128 * ((y 1).val / 128) + 128
      omega

/-! ## The scales and factors under their several names -/

variable (T : Fin 8 → Vec F S1x1x8x128 .f32)

theorem pay48_eq : k0_pay48 (k0_pay46 (T 0) (T 1) (T 2) (T 3) (T 4) (T 5)) (T 6) (T 7) = cell3 (sclOf T) := cell_3 _
theorem pay52_eq : k0_pay52 (k0_pay50 (T 0) (T 1) (T 2)) (T 3) (T 4) (T 5) (T 6) (T 7) = cell3 (sclOf T) := cell_3 _
theorem pay103_eq : k0_pay103 (k0_pay101 (T 0) (T 1) (T 2) (T 3) (T 4) (T 5)) (T 6) (T 7) = cell3 (sclOf T) := cell_3 _
theorem pay107_eq : k0_pay107 (k0_pay105 (T 0) (T 1)) (T 2) (T 3) (T 4) (T 5) (T 6) (T 7) = cell3 (sclOf T) := cell_3 _
theorem pay49_eq : k0_pay49 (k0_pay46 (T 0) (T 1) (T 2) (T 3) (T 4) (T 5)) (T 6) (T 7) = cell3 (divf (broadcast S8x128 (Scalar.ofBits .f32 0x3DB504F3#32)) (sclOf T)) := cell_3 _
theorem pay54_eq : k0_pay54 (k0_pay53 (k0_pay50 (T 0) (T 1) (T 2)) (T 3) (T 4) (T 5) (T 6) (T 7)) = cell3 (divf (broadcast S8x128 (Scalar.ofBits .f32 0x3DB504F3#32)) (sclOf T)) := cell_3 _
theorem pay104_eq : k0_pay104 (k0_pay101 (T 0) (T 1) (T 2) (T 3) (T 4) (T 5)) (T 6) (T 7) = cell3 (divf (broadcast S8x128 (Scalar.ofBits .f32 0x3DB504F3#32)) (sclOf T)) := cell_3 _
theorem pay109_eq : k0_pay109 (k0_pay108 (k0_pay105 (T 0) (T 1)) (T 2) (T 3) (T 4) (T 5) (T 6) (T 7)) = cell3 (divf (broadcast S8x128 (Scalar.ofBits .f32 0x3DB504F3#32)) (sclOf T)) := cell_3 _

/-! ## The pieces of the run -/

variable (c : Dev nD) (arg2 : Memref sig .tc .vmem S256x2048 .bf16) (harg2 : arg2.IsWhole) (arg6 : Memref sig .tc .vmem S32x256x256 .bf16) (harg6 : arg6.IsWhole)
  (arg8 : Memref sig .tc .vmem S2x2x72x128 .f32) (arg9 : Memref sig .tc .vmem S2x8x256 .f32)

theorem it_017 (w : Vec F S256x256 .bf16) (h : Vec F S1x256x256 .bf16) : k0_pay45 (k0_pay42 w h) = cellP 1 (Mx w h 1) := cell_11 w h
theorem it_007 (w : Vec F S256x256 .bf16) (h : Vec F S1x256x256 .bf16) : k0_pay44 (k0_pay43 w h) = cellP 0 (Mx w h 1) := cell_01 w h
theorem it_016 (w : Vec F S256x256 .bf16) (h : Vec F S1x256x256 .bf16) : k0_pay41 w h = cellP 1 (Mx w h 0) := cell_10 w h
theorem it_006 (w : Vec F S256x256 .bf16) (h : Vec F S1x256x256 .bf16) : k0_pay40 w h = cellP 0 (Mx w h 0) := cell_00 w h
theorem it_015 (w : Vec F S256x256 .bf16) (h : Vec F S1x256x256 .bf16) : k0_pay37 (k0_pay34 w h) = cellP 1 (Mx w h 1) := cell_11 w h
theorem it_005 (w : Vec F S256x256 .bf16) (h : Vec F S1x256x256 .bf16) : k0_pay36 (k0_pay35 w h) = cellP 0 (Mx w h 1) := cell_01 w h
theorem it_014 (w : Vec F S256x256 .bf16) (h : Vec F S1x256x256 .bf16) : k0_pay33 w h = cellP 1 (Mx w h 0) := cell_10 w h
theorem it_004 (w : Vec F S256x256 .bf16) (h : Vec F S1x256x256 .bf16) : k0_pay32 w h = cellP 0 (Mx w h 0) := cell_00 w h
theorem it_013 (w : Vec F S256x256 .bf16) (h : Vec F S1x256x256 .bf16) : k0_pay29 (k0_pay26 w h) = cellP 1 (Mx w h 1) := cell_11 w h
theorem it_003 (w : Vec F S256x256 .bf16) (h : Vec F S1x256x256 .bf16) : k0_pay28 (k0_pay27 w h) = cellP 0 (Mx w h 1) := cell_01 w h
theorem it_012 (w : Vec F S256x256 .bf16) (h : Vec F S1x256x256 .bf16) : k0_pay25 w h = cellP 1 (Mx w h 0) := cell_10 w h
theorem it_002 (w : Vec F S256x256 .bf16) (h : Vec F S1x256x256 .bf16) : k0_pay24 w h = cellP 0 (Mx w h 0) := cell_00 w h
theorem it_011 (w : Vec F S256x256 .bf16) (h : Vec F S1x256x256 .bf16) : k0_pay21 (k0_pay18 w h) = cellP 1 (Mx w h 1) := cell_11 w h
theorem it_001 (w : Vec F S256x256 .bf16) (h : Vec F S1x256x256 .bf16) : k0_pay20 (k0_pay19 w h) = cellP 0 (Mx w h 1) := cell_01 w h
theorem it_010 (w : Vec F S256x256 .bf16) (h : Vec F S1x256x256 .bf16) : k0_pay17 w h = cellP 1 (Mx w h 0) := cell_10 w h
theorem it_000 (w : Vec F S256x256 .bf16) (h : Vec F S1x256x256 .bf16) : k0_pay16 w h = cellP 0 (Mx w h 0) := cell_00 w h
theorem it_117 (w : Vec F S256x256 .bf16) (h : Vec F S1x256x256 .bf16) : k0_pay100 (k0_pay97 w h) = cellP 1 (Mx w h 1) := cell_11 w h
theorem it_107 (w : Vec F S256x256 .bf16) (h : Vec F S1x256x256 .bf16) : k0_pay99 (k0_pay97 w h) = cellP 0 (Mx w h 1) := cell_01 w h
theorem it_116 (w : Vec F S256x256 .bf16) (h : Vec F S1x256x256 .bf16) : k0_pay96 w h = cellP 1 (Mx w h 0) := cell_10 w h
theorem it_106 (w : Vec F S256x256 .bf16) (h : Vec F S1x256x256 .bf16) : k0_pay95 w h = cellP 0 (Mx w h 0) := cell_00 w h
theorem it_115 (w : Vec F S256x256 .bf16) (h : Vec F S1x256x256 .bf16) : k0_pay92 (k0_pay90 w h) = cellP 1 (Mx w h 1) := cell_11 w h
theorem it_105 (w : Vec F S256x256 .bf16) (h : Vec F S1x256x256 .bf16) : k0_pay91 (k0_pay90 w h) = cellP 0 (Mx w h 1) := cell_01 w h
theorem it_114 (w : Vec F S256x256 .bf16) (h : Vec F S1x256x256 .bf16) : k0_pay89 w h = cellP 1 (Mx w h 0) := cell_10 w h
theorem it_104 (w : Vec F S256x256 .bf16) (h : Vec F S1x256x256 .bf16) : k0_pay88 w h = cellP 0 (Mx w h 0) := cell_00 w h
theorem it_113 (w : Vec F S256x256 .bf16) (h : Vec F S1x256x256 .bf16) : k0_pay85 (k0_pay82 w h) = cellP 1 (Mx w h 1) := cell_11 w h
theorem it_103 (w : Vec F S256x256 .bf16) (h : Vec F S1x256x256 .bf16) : k0_pay84 (k0_pay83 w h) = cellP 0 (Mx w h 1) := cell_01 w h
theorem it_112 (w : Vec F S256x256 .bf16) (h : Vec F S1x256x256 .bf16) : k0_pay81 w h = cellP 1 (Mx w h 0) := cell_10 w h
theorem it_102 (w : Vec F S256x256 .bf16) (h : Vec F S1x256x256 .bf16) : k0_pay80 w h = cellP 0 (Mx w h 0) := cell_00 w h
theorem it_111 (w : Vec F S256x256 .bf16) (h : Vec F S1x256x256 .bf16) : k0_pay77 (k0_pay74 w h) = cellP 1 (Mx w h 1) := cell_11 w h
theorem it_101 (w : Vec F S256x256 .bf16) (h : Vec F S1x256x256 .bf16) : k0_pay76 (k0_pay75 w h) = cellP 0 (Mx w h 1) := cell_01 w h
theorem it_110 (w : Vec F S256x256 .bf16) (h : Vec F S1x256x256 .bf16) : k0_pay73 w h = cellP 1 (Mx w h 0) := cell_10 w h
theorem it_100 (w : Vec F S256x256 .bf16) (h : Vec F S1x256x256 .bf16) : k0_pay72 w h = cellP 0 (Mx w h 0) := cell_00 w h
/-- The pieces of the slab after the first four pairs. -/
def L16 : List (Fin 2 × Fin 2 × Fin 8) := [(0, 1, 7), (0, 0, 7), (0, 1, 6), (0, 0, 6), (0, 1, 5), (0, 0, 5), (0, 1, 4), (0, 0, 4), (0, 1, 3), (0, 0, 3), (0, 1, 2), (0, 0, 2), (0, 1, 1), (0, 0, 1), (0, 1, 0), (0, 0, 0)]

/-- The pieces of the slab after all the pairs. -/
def L32 : List (Fin 2 × Fin 2 × Fin 8) := (1, 1, 7) :: (1, 0, 7) :: (1, 1, 6) :: (1, 0, 6) :: (1, 1, 5) :: (1, 0, 5) :: (1, 1, 4) :: (1, 0, 4) :: (1, 1, 3) :: (1, 0, 3) :: (1, 1, 2) :: (1, 0, 2) :: (1, 1, 1) :: (1, 0, 1) :: (1, 1, 0) :: (1, 0, 0) :: L16

set_option maxHeartbeats 1600000 in
theorem HS2_16_eq : runB.sl.HS2_16 c i arg2 harg2 arg6 harg6 x0 hs = L16.map (slabPiece i x0 hs) :=
    (congrArg₂ List.cons (piece_eq i x0 hs (0, 1, 7) _ ((congrArg₂ (fun w h => k0_pay45 (k0_pay42 w h)) (w_read arg2 harg2 x0 3 rfl _) (h_read arg6 harg6 hs i 3 rfl _)).trans (it_017 _ _)))
    (congrArg₂ List.cons (piece_eq i x0 hs (0, 0, 7) _ ((congrArg₂ (fun w h => k0_pay44 (k0_pay43 w h)) (w_read arg2 harg2 x0 3 rfl _) (h_read arg6 harg6 hs i 3 rfl _)).trans (it_007 _ _)))
    (congrArg₂ List.cons (piece_eq i x0 hs (0, 1, 6) _ ((congrArg₂ (fun w h => k0_pay41 w h) (w_read arg2 harg2 x0 3 rfl _) (h_read arg6 harg6 hs i 3 rfl _)).trans (it_016 _ _)))
    (congrArg₂ List.cons (piece_eq i x0 hs (0, 0, 6) _ ((congrArg₂ (fun w h => k0_pay40 w h) (w_read arg2 harg2 x0 3 rfl _) (h_read arg6 harg6 hs i 3 rfl _)).trans (it_006 _ _)))
    (congrArg₂ List.cons (piece_eq i x0 hs (0, 1, 5) _ ((congrArg₂ (fun w h => k0_pay37 (k0_pay34 w h)) (w_read arg2 harg2 x0 2 rfl _) (h_read arg6 harg6 hs i 2 rfl _)).trans (it_015 _ _)))
    (congrArg₂ List.cons (piece_eq i x0 hs (0, 0, 5) _ ((congrArg₂ (fun w h => k0_pay36 (k0_pay35 w h)) (w_read arg2 harg2 x0 2 rfl _) (h_read arg6 harg6 hs i 2 rfl _)).trans (it_005 _ _)))
    (congrArg₂ List.cons (piece_eq i x0 hs (0, 1, 4) _ ((congrArg₂ (fun w h => k0_pay33 w h) (w_read arg2 harg2 x0 2 rfl _) (h_read arg6 harg6 hs i 2 rfl _)).trans (it_014 _ _)))
    (congrArg₂ List.cons (piece_eq i x0 hs (0, 0, 4) _ ((congrArg₂ (fun w h => k0_pay32 w h) (w_read arg2 harg2 x0 2 rfl _) (h_read arg6 harg6 hs i 2 rfl _)).trans (it_004 _ _)))
    (congrArg₂ List.cons (piece_eq i x0 hs (0, 1, 3) _ ((congrArg₂ (fun w h => k0_pay29 (k0_pay26 w h)) (w_read arg2 harg2 x0 1 rfl _) (h_read arg6 harg6 hs i 1 rfl _)).trans (it_013 _ _)))
    (congrArg₂ List.cons (piece_eq i x0 hs (0, 0, 3) _ ((congrArg₂ (fun w h => k0_pay28 (k0_pay27 w h)) (w_read arg2 harg2 x0 1 rfl _) (h_read arg6 harg6 hs i 1 rfl _)).trans (it_003 _ _)))
    (congrArg₂ List.cons (piece_eq i x0 hs (0, 1, 2) _ ((congrArg₂ (fun w h => k0_pay25 w h) (w_read arg2 harg2 x0 1 rfl _) (h_read arg6 harg6 hs i 1 rfl _)).trans (it_012 _ _)))
    (congrArg₂ List.cons (piece_eq i x0 hs (0, 0, 2) _ ((congrArg₂ (fun w h => k0_pay24 w h) (w_read arg2 harg2 x0 1 rfl _) (h_read arg6 harg6 hs i 1 rfl _)).trans (it_002 _ _)))
    (congrArg₂ List.cons (piece_eq i x0 hs (0, 1, 1) _ ((congrArg₂ (fun w h => k0_pay21 (k0_pay18 w h)) (w_read arg2 harg2 x0 0 rfl _) (h_read arg6 harg6 hs i 0 rfl _)).trans (it_011 _ _)))
    (congrArg₂ List.cons (piece_eq i x0 hs (0, 0, 1) _ ((congrArg₂ (fun w h => k0_pay20 (k0_pay19 w h)) (w_read arg2 harg2 x0 0 rfl _) (h_read arg6 harg6 hs i 0 rfl _)).trans (it_001 _ _)))
    (congrArg₂ List.cons (piece_eq i x0 hs (0, 1, 0) _ ((congrArg₂ (fun w h => k0_pay17 w h) (w_read arg2 harg2 x0 0 rfl _) (h_read arg6 harg6 hs i 0 rfl _)).trans (it_010 _ _)))
    (congrArg₂ List.cons (piece_eq i x0 hs (0, 0, 0) _ ((congrArg₂ (fun w h => k0_pay16 w h) (w_read arg2 harg2 x0 0 rfl _) (h_read arg6 harg6 hs i 0 rfl _)).trans (it_000 _ _))) rfl))))))))))))))))

set_option maxHeartbeats 1600000 in
theorem HS2_32_eq : runB.sl.HS2_32 c i arg2 harg2 arg6 harg6 x0 hs = L32.map (slabPiece i x0 hs) :=
    (congrArg₂ List.cons (piece_eq i x0 hs (1, 1, 7) _ ((congrArg₂ (fun w h => k0_pay100 (k0_pay97 w h)) (w_read arg2 harg2 x0 7 rfl _) (h_read arg6 harg6 hs i 7 rfl _)).trans (it_117 _ _)))
    (congrArg₂ List.cons (piece_eq i x0 hs (1, 0, 7) _ ((congrArg₂ (fun w h => k0_pay99 (k0_pay97 w h)) (w_read arg2 harg2 x0 7 rfl _) (h_read arg6 harg6 hs i 7 rfl _)).trans (it_107 _ _)))
    (congrArg₂ List.cons (piece_eq i x0 hs (1, 1, 6) _ ((congrArg₂ (fun w h => k0_pay96 w h) (w_read arg2 harg2 x0 7 rfl _) (h_read arg6 harg6 hs i 7 rfl _)).trans (it_116 _ _)))
    (congrArg₂ List.cons (piece_eq i x0 hs (1, 0, 6) _ ((congrArg₂ (fun w h => k0_pay95 w h) (w_read arg2 harg2 x0 7 rfl _) (h_read arg6 harg6 hs i 7 rfl _)).trans (it_106 _ _)))
    (congrArg₂ List.cons (piece_eq i x0 hs (1, 1, 5) _ ((congrArg₂ (fun w h => k0_pay92 (k0_pay90 w h)) (w_read arg2 harg2 x0 6 rfl _) (h_read arg6 harg6 hs i 6 rfl _)).trans (it_115 _ _)))
    (congrArg₂ List.cons (piece_eq i x0 hs (1, 0, 5) _ ((congrArg₂ (fun w h => k0_pay91 (k0_pay90 w h)) (w_read arg2 harg2 x0 6 rfl _) (h_read arg6 harg6 hs i 6 rfl _)).trans (it_105 _ _)))
    (congrArg₂ List.cons (piece_eq i x0 hs (1, 1, 4) _ ((congrArg₂ (fun w h => k0_pay89 w h) (w_read arg2 harg2 x0 6 rfl _) (h_read arg6 harg6 hs i 6 rfl _)).trans (it_114 _ _)))
    (congrArg₂ List.cons (piece_eq i x0 hs (1, 0, 4) _ ((congrArg₂ (fun w h => k0_pay88 w h) (w_read arg2 harg2 x0 6 rfl _) (h_read arg6 harg6 hs i 6 rfl _)).trans (it_104 _ _)))
    (congrArg₂ List.cons (piece_eq i x0 hs (1, 1, 3) _ ((congrArg₂ (fun w h => k0_pay85 (k0_pay82 w h)) (w_read arg2 harg2 x0 5 rfl _) (h_read arg6 harg6 hs i 5 rfl _)).trans (it_113 _ _)))
    (congrArg₂ List.cons (piece_eq i x0 hs (1, 0, 3) _ ((congrArg₂ (fun w h => k0_pay84 (k0_pay83 w h)) (w_read arg2 harg2 x0 5 rfl _) (h_read arg6 harg6 hs i 5 rfl _)).trans (it_103 _ _)))
    (congrArg₂ List.cons (piece_eq i x0 hs (1, 1, 2) _ ((congrArg₂ (fun w h => k0_pay81 w h) (w_read arg2 harg2 x0 5 rfl _) (h_read arg6 harg6 hs i 5 rfl _)).trans (it_112 _ _)))
    (congrArg₂ List.cons (piece_eq i x0 hs (1, 0, 2) _ ((congrArg₂ (fun w h => k0_pay80 w h) (w_read arg2 harg2 x0 5 rfl _) (h_read arg6 harg6 hs i 5 rfl _)).trans (it_102 _ _)))
    (congrArg₂ List.cons (piece_eq i x0 hs (1, 1, 1) _ ((congrArg₂ (fun w h => k0_pay77 (k0_pay74 w h)) (w_read arg2 harg2 x0 4 rfl _) (h_read arg6 harg6 hs i 4 rfl _)).trans (it_111 _ _)))
    (congrArg₂ List.cons (piece_eq i x0 hs (1, 0, 1) _ ((congrArg₂ (fun w h => k0_pay76 (k0_pay75 w h)) (w_read arg2 harg2 x0 4 rfl _) (h_read arg6 harg6 hs i 4 rfl _)).trans (it_101 _ _)))
    (congrArg₂ List.cons (piece_eq i x0 hs (1, 1, 0) _ ((congrArg₂ (fun w h => k0_pay73 w h) (w_read arg2 harg2 x0 4 rfl _) (h_read arg6 harg6 hs i 4 rfl _)).trans (it_110 _ _)))
    (congrArg₂ List.cons (piece_eq i x0 hs (1, 0, 0) _ ((congrArg₂ (fun w h => k0_pay72 w h) (w_read arg2 harg2 x0 4 rfl _) (h_read arg6 harg6 hs i 4 rfl _)).trans (it_100 _ _))) (HS2_16_eq i x0 hs c arg2 harg2 arg6 harg6)))))))))))))))))

theorem v133_eq : runB.sl.v133 c i arg2 harg2 arg6 harg6 arg8 x0 hs = tileV i x0 hs 0 0 0 :=
  (congrArg (fun L => arg8.view.readCov L _) (HS2_16_eq i x0 hs c arg2 harg2 arg6 harg6)).trans (tile_read i x0 hs arg8 L16 0 0 0 (by decide) rfl _)
theorem v135_eq : runB.sl.v135 c i arg2 harg2 arg6 harg6 arg8 x0 hs = tileV i x0 hs 0 0 1 :=
  (congrArg (fun L => arg8.view.readCov L _) (HS2_16_eq i x0 hs c arg2 harg2 arg6 harg6)).trans (tile_read i x0 hs arg8 L16 0 0 1 (by decide) rfl _)
theorem v138_eq : runB.sl.v138 c i arg2 harg2 arg6 harg6 arg8 x0 hs = tileV i x0 hs 0 0 2 :=
  (congrArg (fun L => arg8.view.readCov L _) (HS2_16_eq i x0 hs c arg2 harg2 arg6 harg6)).trans (tile_read i x0 hs arg8 L16 0 0 2 (by decide) rfl _)
theorem v141_eq : runB.sl.v141 c i arg2 harg2 arg6 harg6 arg8 x0 hs = tileV i x0 hs 0 0 3 :=
  (congrArg (fun L => arg8.view.readCov L _) (HS2_16_eq i x0 hs c arg2 harg2 arg6 harg6)).trans (tile_read i x0 hs arg8 L16 0 0 3 (by decide) rfl _)
theorem v144_eq : runB.sl.v144 c i arg2 harg2 arg6 harg6 arg8 x0 hs = tileV i x0 hs 0 0 4 :=
  (congrArg (fun L => arg8.view.readCov L _) (HS2_16_eq i x0 hs c arg2 harg2 arg6 harg6)).trans (tile_read i x0 hs arg8 L16 0 0 4 (by decide) rfl _)
theorem v147_eq : runB.sl.v147 c i arg2 harg2 arg6 harg6 arg8 x0 hs = tileV i x0 hs 0 0 5 :=
  (congrArg (fun L => arg8.view.readCov L _) (HS2_16_eq i x0 hs c arg2 harg2 arg6 harg6)).trans (tile_read i x0 hs arg8 L16 0 0 5 (by decide) rfl _)
theorem v150_eq : runB.sl.v150 c i arg2 harg2 arg6 harg6 arg8 x0 hs = tileV i x0 hs 0 0 6 :=
  (congrArg (fun L => arg8.view.readCov L _) (HS2_16_eq i x0 hs c arg2 harg2 arg6 harg6)).trans (tile_read i x0 hs arg8 L16 0 0 6 (by decide) rfl _)
theorem v153_eq : runB.sl.v153 c i arg2 harg2 arg6 harg6 arg8 x0 hs = tileV i x0 hs 0 0 7 :=
  (congrArg (fun L => arg8.view.readCov L _) (HS2_16_eq i x0 hs c arg2 harg2 arg6 harg6)).trans (tile_read i x0 hs arg8 L16 0 0 7 (by decide) rfl _)
theorem v173_eq : runB.sl.v173 c i arg2 harg2 arg6 harg6 arg8 x0 hs = tileV i x0 hs 0 1 0 :=
  (congrArg (fun L => arg8.view.readCov L _) (HS2_16_eq i x0 hs c arg2 harg2 arg6 harg6)).trans (tile_read i x0 hs arg8 L16 0 1 0 (by decide) rfl _)
theorem v175_eq : runB.sl.v175 c i arg2 harg2 arg6 harg6 arg8 x0 hs = tileV i x0 hs 0 1 1 :=
  (congrArg (fun L => arg8.view.readCov L _) (HS2_16_eq i x0 hs c arg2 harg2 arg6 harg6)).trans (tile_read i x0 hs arg8 L16 0 1 1 (by decide) rfl _)
theorem v178_eq : runB.sl.v178 c i arg2 harg2 arg6 harg6 arg8 x0 hs = tileV i x0 hs 0 1 2 :=
  (congrArg (fun L => arg8.view.readCov L _) (HS2_16_eq i x0 hs c arg2 harg2 arg6 harg6)).trans (tile_read i x0 hs arg8 L16 0 1 2 (by decide) rfl _)
theorem v181_eq : runB.sl.v181 c i arg2 harg2 arg6 harg6 arg8 x0 hs = tileV i x0 hs 0 1 3 :=
  (congrArg (fun L => arg8.view.readCov L _) (HS2_16_eq i x0 hs c arg2 harg2 arg6 harg6)).trans (tile_read i x0 hs arg8 L16 0 1 3 (by decide) rfl _)
theorem v184_eq : runB.sl.v184 c i arg2 harg2 arg6 harg6 arg8 x0 hs = tileV i x0 hs 0 1 4 :=
  (congrArg (fun L => arg8.view.readCov L _) (HS2_16_eq i x0 hs c arg2 harg2 arg6 harg6)).trans (tile_read i x0 hs arg8 L16 0 1 4 (by decide) rfl _)
theorem v187_eq : runB.sl.v187 c i arg2 harg2 arg6 harg6 arg8 x0 hs = tileV i x0 hs 0 1 5 :=
  (congrArg (fun L => arg8.view.readCov L _) (HS2_16_eq i x0 hs c arg2 harg2 arg6 harg6)).trans (tile_read i x0 hs arg8 L16 0 1 5 (by decide) rfl _)
theorem v190_eq : runB.sl.v190 c i arg2 harg2 arg6 harg6 arg8 x0 hs = tileV i x0 hs 0 1 6 :=
  (congrArg (fun L => arg8.view.readCov L _) (HS2_16_eq i x0 hs c arg2 harg2 arg6 harg6)).trans (tile_read i x0 hs arg8 L16 0 1 6 (by decide) rfl _)
theorem v193_eq : runB.sl.v193 c i arg2 harg2 arg6 harg6 arg8 x0 hs = tileV i x0 hs 0 1 7 :=
  (congrArg (fun L => arg8.view.readCov L _) (HS2_16_eq i x0 hs c arg2 harg2 arg6 harg6)).trans (tile_read i x0 hs arg8 L16 0 1 7 (by decide) rfl _)
theorem v525_eq : runB.sl.v525 c i arg2 harg2 arg6 harg6 arg8 x0 hs = tileV i x0 hs 1 0 0 :=
  (congrArg (fun L => arg8.view.readCov L _) (HS2_32_eq i x0 hs c arg2 harg2 arg6 harg6)).trans (tile_read i x0 hs arg8 L32 1 0 0 (by decide) rfl _)
theorem v527_eq : runB.sl.v527 c i arg2 harg2 arg6 harg6 arg8 x0 hs = tileV i x0 hs 1 0 1 :=
  (congrArg (fun L => arg8.view.readCov L _) (HS2_32_eq i x0 hs c arg2 harg2 arg6 harg6)).trans (tile_read i x0 hs arg8 L32 1 0 1 (by decide) rfl _)
theorem v530_eq : runB.sl.v530 c i arg2 harg2 arg6 harg6 arg8 x0 hs = tileV i x0 hs 1 0 2 :=
  (congrArg (fun L => arg8.view.readCov L _) (HS2_32_eq i x0 hs c arg2 harg2 arg6 harg6)).trans (tile_read i x0 hs arg8 L32 1 0 2 (by decide) rfl _)
theorem v533_eq : runB.sl.v533 c i arg2 harg2 arg6 harg6 arg8 x0 hs = tileV i x0 hs 1 0 3 :=
  (congrArg (fun L => arg8.view.readCov L _) (HS2_32_eq i x0 hs c arg2 harg2 arg6 harg6)).trans (tile_read i x0 hs arg8 L32 1 0 3 (by decide) rfl _)
theorem v536_eq : runB.sl.v536 c i arg2 harg2 arg6 harg6 arg8 x0 hs = tileV i x0 hs 1 0 4 :=
  (congrArg (fun L => arg8.view.readCov L _) (HS2_32_eq i x0 hs c arg2 harg2 arg6 harg6)).trans (tile_read i x0 hs arg8 L32 1 0 4 (by decide) rfl _)
theorem v539_eq : runB.sl.v539 c i arg2 harg2 arg6 harg6 arg8 x0 hs = tileV i x0 hs 1 0 5 :=
  (congrArg (fun L => arg8.view.readCov L _) (HS2_32_eq i x0 hs c arg2 harg2 arg6 harg6)).trans (tile_read i x0 hs arg8 L32 1 0 5 (by decide) rfl _)
theorem v542_eq : runB.sl.v542 c i arg2 harg2 arg6 harg6 arg8 x0 hs = tileV i x0 hs 1 0 6 :=
  (congrArg (fun L => arg8.view.readCov L _) (HS2_32_eq i x0 hs c arg2 harg2 arg6 harg6)).trans (tile_read i x0 hs arg8 L32 1 0 6 (by decide) rfl _)
theorem v545_eq : runB.sl.v545 c i arg2 harg2 arg6 harg6 arg8 x0 hs = tileV i x0 hs 1 0 7 :=
  (congrArg (fun L => arg8.view.readCov L _) (HS2_32_eq i x0 hs c arg2 harg2 arg6 harg6)).trans (tile_read i x0 hs arg8 L32 1 0 7 (by decide) rfl _)
theorem v565_eq : runB.sl.v565 c i arg2 harg2 arg6 harg6 arg8 x0 hs = tileV i x0 hs 1 1 0 :=
  (congrArg (fun L => arg8.view.readCov L _) (HS2_32_eq i x0 hs c arg2 harg2 arg6 harg6)).trans (tile_read i x0 hs arg8 L32 1 1 0 (by decide) rfl _)
theorem v567_eq : runB.sl.v567 c i arg2 harg2 arg6 harg6 arg8 x0 hs = tileV i x0 hs 1 1 1 :=
  (congrArg (fun L => arg8.view.readCov L _) (HS2_32_eq i x0 hs c arg2 harg2 arg6 harg6)).trans (tile_read i x0 hs arg8 L32 1 1 1 (by decide) rfl _)
theorem v570_eq : runB.sl.v570 c i arg2 harg2 arg6 harg6 arg8 x0 hs = tileV i x0 hs 1 1 2 :=
  (congrArg (fun L => arg8.view.readCov L _) (HS2_32_eq i x0 hs c arg2 harg2 arg6 harg6)).trans (tile_read i x0 hs arg8 L32 1 1 2 (by decide) rfl _)
theorem v573_eq : runB.sl.v573 c i arg2 harg2 arg6 harg6 arg8 x0 hs = tileV i x0 hs 1 1 3 :=
  (congrArg (fun L => arg8.view.readCov L _) (HS2_32_eq i x0 hs c arg2 harg2 arg6 harg6)).trans (tile_read i x0 hs arg8 L32 1 1 3 (by decide) rfl _)
theorem v576_eq : runB.sl.v576 c i arg2 harg2 arg6 harg6 arg8 x0 hs = tileV i x0 hs 1 1 4 :=
  (congrArg (fun L => arg8.view.readCov L _) (HS2_32_eq i x0 hs c arg2 harg2 arg6 harg6)).trans (tile_read i x0 hs arg8 L32 1 1 4 (by decide) rfl _)
theorem v579_eq : runB.sl.v579 c i arg2 harg2 arg6 harg6 arg8 x0 hs = tileV i x0 hs 1 1 5 :=
  (congrArg (fun L => arg8.view.readCov L _) (HS2_32_eq i x0 hs c arg2 harg2 arg6 harg6)).trans (tile_read i x0 hs arg8 L32 1 1 5 (by decide) rfl _)
theorem v582_eq : runB.sl.v582 c i arg2 harg2 arg6 harg6 arg8 x0 hs = tileV i x0 hs 1 1 6 :=
  (congrArg (fun L => arg8.view.readCov L _) (HS2_32_eq i x0 hs c arg2 harg2 arg6 harg6)).trans (tile_read i x0 hs arg8 L32 1 1 6 (by decide) rfl _)
theorem v585_eq : runB.sl.v585 c i arg2 harg2 arg6 harg6 arg8 x0 hs = tileV i x0 hs 1 1 7 :=
  (congrArg (fun L => arg8.view.readCov L _) (HS2_32_eq i x0 hs c arg2 harg2 arg6 harg6)).trans (tile_read i x0 hs arg8 L32 1 1 7 (by decide) rfl _)

theorem st00 : k0_pay48 (k0_pay46 (runB.sl.v133 c i arg2 harg2 arg6 harg6 arg8 x0 hs) (runB.sl.v135 c i arg2 harg2 arg6 harg6 arg8 x0 hs) (runB.sl.v138 c i arg2 harg2 arg6 harg6 arg8 x0 hs) (runB.sl.v141 c i arg2 harg2 arg6 harg6 arg8 x0 hs) (runB.sl.v144 c i arg2 harg2 arg6 harg6 arg8 x0 hs) (runB.sl.v147 c i arg2 harg2 arg6 harg6 arg8 x0 hs)) (runB.sl.v150 c i arg2 harg2 arg6 harg6 arg8 x0 hs) (runB.sl.v153 c i arg2 harg2 arg6 harg6 arg8 x0 hs) = cell3 (sclV i x0 hs 0 0) := by
  rw [v133_eq, v135_eq, v138_eq, v141_eq, v144_eq, v147_eq, v150_eq, v153_eq]
  exact pay48_eq (tileV i x0 hs 0 0)
theorem st01 : k0_pay52 (k0_pay50 (runB.sl.v173 c i arg2 harg2 arg6 harg6 arg8 x0 hs) (runB.sl.v175 c i arg2 harg2 arg6 harg6 arg8 x0 hs) (runB.sl.v178 c i arg2 harg2 arg6 harg6 arg8 x0 hs)) (runB.sl.v181 c i arg2 harg2 arg6 harg6 arg8 x0 hs) (runB.sl.v184 c i arg2 harg2 arg6 harg6 arg8 x0 hs) (runB.sl.v187 c i arg2 harg2 arg6 harg6 arg8 x0 hs) (runB.sl.v190 c i arg2 harg2 arg6 harg6 arg8 x0 hs) (runB.sl.v193 c i arg2 harg2 arg6 harg6 arg8 x0 hs) = cell3 (sclV i x0 hs 0 1) := by
  rw [v173_eq, v175_eq, v178_eq, v181_eq, v184_eq, v187_eq, v190_eq, v193_eq]
  exact pay52_eq (tileV i x0 hs 0 1)
theorem st10 : k0_pay103 (k0_pay101 (runB.sl.v525 c i arg2 harg2 arg6 harg6 arg8 x0 hs) (runB.sl.v527 c i arg2 harg2 arg6 harg6 arg8 x0 hs) (runB.sl.v530 c i arg2 harg2 arg6 harg6 arg8 x0 hs) (runB.sl.v533 c i arg2 harg2 arg6 harg6 arg8 x0 hs) (runB.sl.v536 c i arg2 harg2 arg6 harg6 arg8 x0 hs) (runB.sl.v539 c i arg2 harg2 arg6 harg6 arg8 x0 hs)) (runB.sl.v542 c i arg2 harg2 arg6 harg6 arg8 x0 hs) (runB.sl.v545 c i arg2 harg2 arg6 harg6 arg8 x0 hs) = cell3 (sclV i x0 hs 1 0) := by
  rw [v525_eq, v527_eq, v530_eq, v533_eq, v536_eq, v539_eq, v542_eq, v545_eq]
  exact pay103_eq (tileV i x0 hs 1 0)
theorem st11 : k0_pay107 (k0_pay105 (runB.sl.v565 c i arg2 harg2 arg6 harg6 arg8 x0 hs) (runB.sl.v567 c i arg2 harg2 arg6 harg6 arg8 x0 hs)) (runB.sl.v570 c i arg2 harg2 arg6 harg6 arg8 x0 hs) (runB.sl.v573 c i arg2 harg2 arg6 harg6 arg8 x0 hs) (runB.sl.v576 c i arg2 harg2 arg6 harg6 arg8 x0 hs) (runB.sl.v579 c i arg2 harg2 arg6 harg6 arg8 x0 hs) (runB.sl.v582 c i arg2 harg2 arg6 harg6 arg8 x0 hs) (runB.sl.v585 c i arg2 harg2 arg6 harg6 arg8 x0 hs) = cell3 (sclV i x0 hs 1 1) := by
  rw [v565_eq, v567_eq, v570_eq, v573_eq, v576_eq, v579_eq, v582_eq, v585_eq]
  exact pay107_eq (tileV i x0 hs 1 1)
theorem r00 : k0_pay49 (k0_pay46 (runB.sl.v133 c i arg2 harg2 arg6 harg6 arg8 x0 hs) (runB.sl.v135 c i arg2 harg2 arg6 harg6 arg8 x0 hs) (runB.sl.v138 c i arg2 harg2 arg6 harg6 arg8 x0 hs) (runB.sl.v141 c i arg2 harg2 arg6 harg6 arg8 x0 hs) (runB.sl.v144 c i arg2 harg2 arg6 harg6 arg8 x0 hs) (runB.sl.v147 c i arg2 harg2 arg6 harg6 arg8 x0 hs)) (runB.sl.v150 c i arg2 harg2 arg6 harg6 arg8 x0 hs) (runB.sl.v153 c i arg2 harg2 arg6 harg6 arg8 x0 hs) = cell3 (rcpV i x0 hs 0 0) := by
  rw [v133_eq, v135_eq, v138_eq, v141_eq, v144_eq, v147_eq, v150_eq, v153_eq]
  exact pay49_eq (tileV i x0 hs 0 0)
theorem r01 : k0_pay54 (k0_pay53 (k0_pay50 (runB.sl.v173 c i arg2 harg2 arg6 harg6 arg8 x0 hs) (runB.sl.v175 c i arg2 harg2 arg6 harg6 arg8 x0 hs) (runB.sl.v178 c i arg2 harg2 arg6 harg6 arg8 x0 hs)) (runB.sl.v181 c i arg2 harg2 arg6 harg6 arg8 x0 hs) (runB.sl.v184 c i arg2 harg2 arg6 harg6 arg8 x0 hs) (runB.sl.v187 c i arg2 harg2 arg6 harg6 arg8 x0 hs) (runB.sl.v190 c i arg2 harg2 arg6 harg6 arg8 x0 hs) (runB.sl.v193 c i arg2 harg2 arg6 harg6 arg8 x0 hs)) = cell3 (rcpV i x0 hs 0 1) := by
  rw [v173_eq, v175_eq, v178_eq, v181_eq, v184_eq, v187_eq, v190_eq, v193_eq]
  exact pay54_eq (tileV i x0 hs 0 1)
theorem r10 : k0_pay104 (k0_pay101 (runB.sl.v525 c i arg2 harg2 arg6 harg6 arg8 x0 hs) (runB.sl.v527 c i arg2 harg2 arg6 harg6 arg8 x0 hs) (runB.sl.v530 c i arg2 harg2 arg6 harg6 arg8 x0 hs) (runB.sl.v533 c i arg2 harg2 arg6 harg6 arg8 x0 hs) (runB.sl.v536 c i arg2 harg2 arg6 harg6 arg8 x0 hs) (runB.sl.v539 c i arg2 harg2 arg6 harg6 arg8 x0 hs)) (runB.sl.v542 c i arg2 harg2 arg6 harg6 arg8 x0 hs) (runB.sl.v545 c i arg2 harg2 arg6 harg6 arg8 x0 hs) = cell3 (rcpV i x0 hs 1 0) := by
  rw [v525_eq, v527_eq, v530_eq, v533_eq, v536_eq, v539_eq, v542_eq, v545_eq]
  exact pay104_eq (tileV i x0 hs 1 0)
theorem r11 : k0_pay109 (k0_pay108 (k0_pay105 (runB.sl.v565 c i arg2 harg2 arg6 harg6 arg8 x0 hs) (runB.sl.v567 c i arg2 harg2 arg6 harg6 arg8 x0 hs)) (runB.sl.v570 c i arg2 harg2 arg6 harg6 arg8 x0 hs) (runB.sl.v573 c i arg2 harg2 arg6 harg6 arg8 x0 hs) (runB.sl.v576 c i arg2 harg2 arg6 harg6 arg8 x0 hs) (runB.sl.v579 c i arg2 harg2 arg6 harg6 arg8 x0 hs) (runB.sl.v582 c i arg2 harg2 arg6 harg6 arg8 x0 hs) (runB.sl.v585 c i arg2 harg2 arg6 harg6 arg8 x0 hs)) = cell3 (rcpV i x0 hs 1 1) := by
  rw [v565_eq, v567_eq, v570_eq, v573_eq, v576_eq, v579_eq, v582_eq, v585_eq]
  exact pay109_eq (tileV i x0 hs 1 1)

theorem HS3_2_eq : runB.sl.HS3_2 c i arg2 harg2 arg6 harg6 arg8 x0 hs = [((0 : Fin 2), (1 : Fin 2)), (0, 0)].map (rPiece i x0 hs) :=
  congrArg₂ List.cons (rPiece_eq i x0 hs (0, 1) _ (r01 i x0 hs c arg2 harg2 arg6 harg6 arg8)) (congrArg₂ List.cons (rPiece_eq i x0 hs (0, 0) _ (r00 i x0 hs c arg2 harg2 arg6 harg6 arg8)) rfl)

theorem HS3_4_eq : runB.sl.HS3_4 c i arg2 harg2 arg6 harg6 arg8 x0 hs = [((1 : Fin 2), (1 : Fin 2)), (1, 0), (0, 1), (0, 0)].map (rPiece i x0 hs) :=
  congrArg₂ List.cons (rPiece_eq i x0 hs (1, 1) _ (r11 i x0 hs c arg2 harg2 arg6 harg6 arg8)) (congrArg₂ List.cons (rPiece_eq i x0 hs (1, 0) _ (r10 i x0 hs c arg2 harg2 arg6 harg6 arg8)) (HS3_2_eq i x0 hs c arg2 harg2 arg6 harg6 arg8))

theorem v214_eq : runB.sl.v214 c i arg2 harg2 arg6 harg6 arg8 arg9 x0 hs = rRow i x0 hs 0 0 :=
  (congrArg (fun L => arg9.view.readCov L _) (HS3_2_eq i x0 hs c arg2 harg2 arg6 harg6 arg8)).trans (rRow_read i x0 hs arg9 _ 0 0 (by decide) rfl _)
theorem v228_eq : runB.sl.v228 c i arg2 harg2 arg6 harg6 arg8 arg9 x0 hs = rRow i x0 hs 0 1 :=
  (congrArg (fun L => arg9.view.readCov L _) (HS3_2_eq i x0 hs c arg2 harg2 arg6 harg6 arg8)).trans (rRow_read i x0 hs arg9 _ 0 1 (by decide) rfl _)
theorem v260_eq : runB.sl.v260 c i arg2 harg2 arg6 harg6 arg8 arg9 x0 hs = rRow i x0 hs 0 2 :=
  (congrArg (fun L => arg9.view.readCov L _) (HS3_2_eq i x0 hs c arg2 harg2 arg6 harg6 arg8)).trans (rRow_read i x0 hs arg9 _ 0 2 (by decide) rfl _)
theorem v274_eq : runB.sl.v274 c i arg2 harg2 arg6 harg6 arg8 arg9 x0 hs = rRow i x0 hs 0 3 :=
  (congrArg (fun L => arg9.view.readCov L _) (HS3_2_eq i x0 hs c arg2 harg2 arg6 harg6 arg8)).trans (rRow_read i x0 hs arg9 _ 0 3 (by decide) rfl _)
theorem v306_eq : runB.sl.v306 c i arg2 harg2 arg6 harg6 arg8 arg9 x0 hs = rRow i x0 hs 0 4 :=
  (congrArg (fun L => arg9.view.readCov L _) (HS3_2_eq i x0 hs c arg2 harg2 arg6 harg6 arg8)).trans (rRow_read i x0 hs arg9 _ 0 4 (by decide) rfl _)
theorem v320_eq : runB.sl.v320 c i arg2 harg2 arg6 harg6 arg8 arg9 x0 hs = rRow i x0 hs 0 5 :=
  (congrArg (fun L => arg9.view.readCov L _) (HS3_2_eq i x0 hs c arg2 harg2 arg6 harg6 arg8)).trans (rRow_read i x0 hs arg9 _ 0 5 (by decide) rfl _)
theorem v352_eq : runB.sl.v352 c i arg2 harg2 arg6 harg6 arg8 arg9 x0 hs = rRow i x0 hs 0 6 :=
  (congrArg (fun L => arg9.view.readCov L _) (HS3_2_eq i x0 hs c arg2 harg2 arg6 harg6 arg8)).trans (rRow_read i x0 hs arg9 _ 0 6 (by decide) rfl _)
theorem v366_eq : runB.sl.v366 c i arg2 harg2 arg6 harg6 arg8 arg9 x0 hs = rRow i x0 hs 0 7 :=
  (congrArg (fun L => arg9.view.readCov L _) (HS3_2_eq i x0 hs c arg2 harg2 arg6 harg6 arg8)).trans (rRow_read i x0 hs arg9 _ 0 7 (by decide) rfl _)
theorem v606_eq : runB.sl.v606 c i arg2 harg2 arg6 harg6 arg8 arg9 x0 hs = rRow i x0 hs 1 0 :=
  (congrArg (fun L => arg9.view.readCov L _) (HS3_4_eq i x0 hs c arg2 harg2 arg6 harg6 arg8)).trans (rRow_read i x0 hs arg9 _ 1 0 (by decide) rfl _)
theorem v620_eq : runB.sl.v620 c i arg2 harg2 arg6 harg6 arg8 arg9 x0 hs = rRow i x0 hs 1 1 :=
  (congrArg (fun L => arg9.view.readCov L _) (HS3_4_eq i x0 hs c arg2 harg2 arg6 harg6 arg8)).trans (rRow_read i x0 hs arg9 _ 1 1 (by decide) rfl _)
theorem v652_eq : runB.sl.v652 c i arg2 harg2 arg6 harg6 arg8 arg9 x0 hs = rRow i x0 hs 1 2 :=
  (congrArg (fun L => arg9.view.readCov L _) (HS3_4_eq i x0 hs c arg2 harg2 arg6 harg6 arg8)).trans (rRow_read i x0 hs arg9 _ 1 2 (by decide) rfl _)
theorem v666_eq : runB.sl.v666 c i arg2 harg2 arg6 harg6 arg8 arg9 x0 hs = rRow i x0 hs 1 3 :=
  (congrArg (fun L => arg9.view.readCov L _) (HS3_4_eq i x0 hs c arg2 harg2 arg6 harg6 arg8)).trans (rRow_read i x0 hs arg9 _ 1 3 (by decide) rfl _)
theorem v698_eq : runB.sl.v698 c i arg2 harg2 arg6 harg6 arg8 arg9 x0 hs = rRow i x0 hs 1 4 :=
  (congrArg (fun L => arg9.view.readCov L _) (HS3_4_eq i x0 hs c arg2 harg2 arg6 harg6 arg8)).trans (rRow_read i x0 hs arg9 _ 1 4 (by decide) rfl _)
theorem v712_eq : runB.sl.v712 c i arg2 harg2 arg6 harg6 arg8 arg9 x0 hs = rRow i x0 hs 1 5 :=
  (congrArg (fun L => arg9.view.readCov L _) (HS3_4_eq i x0 hs c arg2 harg2 arg6 harg6 arg8)).trans (rRow_read i x0 hs arg9 _ 1 5 (by decide) rfl _)
theorem v744_eq : runB.sl.v744 c i arg2 harg2 arg6 harg6 arg8 arg9 x0 hs = rRow i x0 hs 1 6 :=
  (congrArg (fun L => arg9.view.readCov L _) (HS3_4_eq i x0 hs c arg2 harg2 arg6 harg6 arg8)).trans (rRow_read i x0 hs arg9 _ 1 6 (by decide) rfl _)
theorem v758_eq : runB.sl.v758 c i arg2 harg2 arg6 harg6 arg8 arg9 x0 hs = rRow i x0 hs 1 7 :=
  (congrArg (fun L => arg9.view.readCov L _) (HS3_4_eq i x0 hs c arg2 harg2 arg6 harg6 arg8)).trans (rRow_read i x0 hs arg9 _ 1 7 (by decide) rfl _)
theorem Y0_eq : runB.sl.r c i arg2 harg2 arg6 harg6 x0 hs = Yv i x0 hs 0 :=
  congrArg₂ (fun w h => k0_pay14 w h) (w_read arg2 harg2 x0 0 rfl _) (h_read arg6 harg6 hs i 0 rfl _)
theorem Y1_eq : runB.sl.r_3 c i arg2 harg2 arg6 harg6 x0 hs = Yv i x0 hs 1 :=
  congrArg₂ (fun w h => k0_pay22 w h) (w_read arg2 harg2 x0 1 rfl _) (h_read arg6 harg6 hs i 1 rfl _)
theorem Y2_eq : runB.sl.r_6 c i arg2 harg2 arg6 harg6 x0 hs = Yv i x0 hs 2 :=
  congrArg₂ (fun w h => k0_pay30 w h) (w_read arg2 harg2 x0 2 rfl _) (h_read arg6 harg6 hs i 2 rfl _)
theorem Y3_eq : runB.sl.r_9 c i arg2 harg2 arg6 harg6 x0 hs = Yv i x0 hs 3 :=
  congrArg₂ (fun w h => k0_pay38 w h) (w_read arg2 harg2 x0 3 rfl _) (h_read arg6 harg6 hs i 3 rfl _)
theorem Y4_eq : runB.sl.r_23 c i arg2 harg2 arg6 harg6 x0 hs = Yv i x0 hs 4 :=
  congrArg₂ (fun w h => k0_pay70 w h) (w_read arg2 harg2 x0 4 rfl _) (h_read arg6 harg6 hs i 4 rfl _)
theorem Y5_eq : runB.sl.r_26 c i arg2 harg2 arg6 harg6 x0 hs = Yv i x0 hs 5 :=
  congrArg₂ (fun w h => k0_pay78 w h) (w_read arg2 harg2 x0 5 rfl _) (h_read arg6 harg6 hs i 5 rfl _)
theorem Y6_eq : runB.sl.r_29 c i arg2 harg2 arg6 harg6 x0 hs = Yv i x0 hs 6 :=
  congrArg₂ (fun w h => k0_pay86 w h) (w_read arg2 harg2 x0 6 rfl _) (h_read arg6 harg6 hs i 6 rfl _)
theorem Y7_eq : runB.sl.r_31 c i arg2 harg2 arg6 harg6 x0 hs = Yv i x0 hs 7 :=
  congrArg₂ (fun w h => k0_pay93 w h) (w_read arg2 harg2 x0 7 rfl _) (h_read arg6 harg6 hs i 7 rfl _)

theorem cod0 (Y : FVec F S256x256 .f32) (a b : Vec F S1x1x256 .f32) : k0_pay58 (k0_pay56 Y a b) (k0_pay57 Y a b) = cod Y a b := rfl
theorem codP0 : codP i x0 hs 0 = cod (Yv i x0 hs 0) (rRow i x0 hs 0 0) (rRow i x0 hs 0 1) := rfl
theorem coB0 : k0_pay58 (k0_pay56 (runB.sl.r c i arg2 harg2 arg6 harg6 x0 hs) (runB.sl.v214 c i arg2 harg2 arg6 harg6 arg8 arg9 x0 hs) (runB.sl.v228 c i arg2 harg2 arg6 harg6 arg8 arg9 x0 hs)) (k0_pay57 (runB.sl.r c i arg2 harg2 arg6 harg6 x0 hs) (runB.sl.v214 c i arg2 harg2 arg6 harg6 arg8 arg9 x0 hs) (runB.sl.v228 c i arg2 harg2 arg6 harg6 arg8 arg9 x0 hs)) = codP i x0 hs 0 := by
  rw [Y0_eq, v214_eq, v228_eq, cod0, codP0]
theorem cod1 (Y : FVec F S256x256 .f32) (a b : Vec F S1x1x256 .f32) : k0_pay62 (k0_pay60 Y a b) (k0_pay61 Y a b) = cod Y a b := rfl
theorem codP1 : codP i x0 hs 1 = cod (Yv i x0 hs 1) (rRow i x0 hs 0 2) (rRow i x0 hs 0 3) := rfl
theorem coB1 : k0_pay62 (k0_pay60 (runB.sl.r_3 c i arg2 harg2 arg6 harg6 x0 hs) (runB.sl.v260 c i arg2 harg2 arg6 harg6 arg8 arg9 x0 hs) (runB.sl.v274 c i arg2 harg2 arg6 harg6 arg8 arg9 x0 hs)) (k0_pay61 (runB.sl.r_3 c i arg2 harg2 arg6 harg6 x0 hs) (runB.sl.v260 c i arg2 harg2 arg6 harg6 arg8 arg9 x0 hs) (runB.sl.v274 c i arg2 harg2 arg6 harg6 arg8 arg9 x0 hs)) = codP i x0 hs 1 := by
  rw [Y1_eq, v260_eq, v274_eq, cod1, codP1]
theorem cod2 (Y : FVec F S256x256 .f32) (a b : Vec F S1x1x256 .f32) : k0_pay66 (k0_pay64 Y a b) (k0_pay65 Y a b) = cod Y a b := rfl
theorem codP2 : codP i x0 hs 2 = cod (Yv i x0 hs 2) (rRow i x0 hs 0 4) (rRow i x0 hs 0 5) := rfl
theorem coB2 : k0_pay66 (k0_pay64 (runB.sl.r_6 c i arg2 harg2 arg6 harg6 x0 hs) (runB.sl.v306 c i arg2 harg2 arg6 harg6 arg8 arg9 x0 hs) (runB.sl.v320 c i arg2 harg2 arg6 harg6 arg8 arg9 x0 hs)) (k0_pay65 (runB.sl.r_6 c i arg2 harg2 arg6 harg6 x0 hs) (runB.sl.v306 c i arg2 harg2 arg6 harg6 arg8 arg9 x0 hs) (runB.sl.v320 c i arg2 harg2 arg6 harg6 arg8 arg9 x0 hs)) = codP i x0 hs 2 := by
  rw [Y2_eq, v306_eq, v320_eq, cod2, codP2]
theorem cod3 (Y : FVec F S256x256 .f32) (a b : Vec F S1x1x256 .f32) : k0_pay69 (k0_pay67 Y a b) (k0_pay68 Y a b) = cod Y a b := rfl
theorem codP3 : codP i x0 hs 3 = cod (Yv i x0 hs 3) (rRow i x0 hs 0 6) (rRow i x0 hs 0 7) := rfl
theorem coB3 : k0_pay69 (k0_pay67 (runB.sl.r_9 c i arg2 harg2 arg6 harg6 x0 hs) (runB.sl.v352 c i arg2 harg2 arg6 harg6 arg8 arg9 x0 hs) (runB.sl.v366 c i arg2 harg2 arg6 harg6 arg8 arg9 x0 hs)) (k0_pay68 (runB.sl.r_9 c i arg2 harg2 arg6 harg6 x0 hs) (runB.sl.v352 c i arg2 harg2 arg6 harg6 arg8 arg9 x0 hs) (runB.sl.v366 c i arg2 harg2 arg6 harg6 arg8 arg9 x0 hs)) = codP i x0 hs 3 := by
  rw [Y3_eq, v352_eq, v366_eq, cod3, codP3]
theorem cod4 (Y : FVec F S256x256 .f32) (a b : Vec F S1x1x256 .f32) : k0_pay114 (k0_pay111 Y a b) (k0_pay112 Y a b) k0_pay113 = cod Y a b := rfl
theorem codP4 : codP i x0 hs 4 = cod (Yv i x0 hs 4) (rRow i x0 hs 1 0) (rRow i x0 hs 1 1) := rfl
theorem coB4 : k0_pay114 (k0_pay111 (runB.sl.r_23 c i arg2 harg2 arg6 harg6 x0 hs) (runB.sl.v606 c i arg2 harg2 arg6 harg6 arg8 arg9 x0 hs) (runB.sl.v620 c i arg2 harg2 arg6 harg6 arg8 arg9 x0 hs)) (k0_pay112 (runB.sl.r_23 c i arg2 harg2 arg6 harg6 x0 hs) (runB.sl.v606 c i arg2 harg2 arg6 harg6 arg8 arg9 x0 hs) (runB.sl.v620 c i arg2 harg2 arg6 harg6 arg8 arg9 x0 hs)) k0_pay113 = codP i x0 hs 4 := by
  rw [Y4_eq, v606_eq, v620_eq, cod4, codP4]
theorem cod5 (Y : FVec F S256x256 .f32) (a b : Vec F S1x1x256 .f32) : k0_pay118 (k0_pay115 Y a b) (k0_pay116 Y a b) k0_pay117 = cod Y a b := rfl
theorem codP5 : codP i x0 hs 5 = cod (Yv i x0 hs 5) (rRow i x0 hs 1 2) (rRow i x0 hs 1 3) := rfl
theorem coB5 : k0_pay118 (k0_pay115 (runB.sl.r_26 c i arg2 harg2 arg6 harg6 x0 hs) (runB.sl.v652 c i arg2 harg2 arg6 harg6 arg8 arg9 x0 hs) (runB.sl.v666 c i arg2 harg2 arg6 harg6 arg8 arg9 x0 hs)) (k0_pay116 (runB.sl.r_26 c i arg2 harg2 arg6 harg6 x0 hs) (runB.sl.v652 c i arg2 harg2 arg6 harg6 arg8 arg9 x0 hs) (runB.sl.v666 c i arg2 harg2 arg6 harg6 arg8 arg9 x0 hs)) k0_pay117 = codP i x0 hs 5 := by
  rw [Y5_eq, v652_eq, v666_eq, cod5, codP5]
theorem cod6 (Y : FVec F S256x256 .f32) (a b : Vec F S1x1x256 .f32) : k0_pay121 (k0_pay119 Y a b) k0_pay120 = cod Y a b := rfl
theorem codP6 : codP i x0 hs 6 = cod (Yv i x0 hs 6) (rRow i x0 hs 1 4) (rRow i x0 hs 1 5) := rfl
theorem coB6 : k0_pay121 (k0_pay119 (runB.sl.r_29 c i arg2 harg2 arg6 harg6 x0 hs) (runB.sl.v698 c i arg2 harg2 arg6 harg6 arg8 arg9 x0 hs) (runB.sl.v712 c i arg2 harg2 arg6 harg6 arg8 arg9 x0 hs)) k0_pay120 = codP i x0 hs 6 := by
  rw [Y6_eq, v698_eq, v712_eq, cod6, codP6]
theorem cod7 (Y : FVec F S256x256 .f32) (a b : Vec F S1x1x256 .f32) : k0_pay1 (k0_pay122 Y a b) = cod Y a b := rfl
theorem codP7 : codP i x0 hs 7 = cod (Yv i x0 hs 7) (rRow i x0 hs 1 6) (rRow i x0 hs 1 7) := rfl
theorem coB7 : k0_pay1 (k0_pay122 (runB.sl.r_31 c i arg2 harg2 arg6 harg6 x0 hs) (runB.sl.v744 c i arg2 harg2 arg6 harg6 arg8 arg9 x0 hs) (runB.sl.v758 c i arg2 harg2 arg6 harg6 arg8 arg9 x0 hs)) = codP i x0 hs 7 := by
  rw [Y7_eq, v744_eq, v758_eq, cod7, codP7]

set_option maxHeartbeats 1600000 in
theorem listB_codes : ([⟨coRect 7, k0_pay1 (k0_pay122 (runB.sl.r_31 c i arg2 harg2 arg6 harg6 x0 hs) (runB.sl.v744 c i arg2 harg2 arg6 harg6 arg8 arg9 x0 hs) (runB.sl.v758 c i arg2 harg2 arg6 harg6 arg8 arg9 x0 hs))⟩, ⟨coRect 6, k0_pay121 (k0_pay119 (runB.sl.r_29 c i arg2 harg2 arg6 harg6 x0 hs) (runB.sl.v698 c i arg2 harg2 arg6 harg6 arg8 arg9 x0 hs) (runB.sl.v712 c i arg2 harg2 arg6 harg6 arg8 arg9 x0 hs)) k0_pay120⟩, ⟨coRect 5, k0_pay118 (k0_pay115 (runB.sl.r_26 c i arg2 harg2 arg6 harg6 x0 hs) (runB.sl.v652 c i arg2 harg2 arg6 harg6 arg8 arg9 x0 hs) (runB.sl.v666 c i arg2 harg2 arg6 harg6 arg8 arg9 x0 hs)) (k0_pay116 (runB.sl.r_26 c i arg2 harg2 arg6 harg6 x0 hs) (runB.sl.v652 c i arg2 harg2 arg6 harg6 arg8 arg9 x0 hs) (runB.sl.v666 c i arg2 harg2 arg6 harg6 arg8 arg9 x0 hs)) k0_pay117⟩, ⟨coRect 4, k0_pay114 (k0_pay111 (runB.sl.r_23 c i arg2 harg2 arg6 harg6 x0 hs) (runB.sl.v606 c i arg2 harg2 arg6 harg6 arg8 arg9 x0 hs) (runB.sl.v620 c i arg2 harg2 arg6 harg6 arg8 arg9 x0 hs)) (k0_pay112 (runB.sl.r_23 c i arg2 harg2 arg6 harg6 x0 hs) (runB.sl.v606 c i arg2 harg2 arg6 harg6 arg8 arg9 x0 hs) (runB.sl.v620 c i arg2 harg2 arg6 harg6 arg8 arg9 x0 hs)) k0_pay113⟩, ⟨coRect 3, k0_pay69 (k0_pay67 (runB.sl.r_9 c i arg2 harg2 arg6 harg6 x0 hs) (runB.sl.v352 c i arg2 harg2 arg6 harg6 arg8 arg9 x0 hs) (runB.sl.v366 c i arg2 harg2 arg6 harg6 arg8 arg9 x0 hs)) (k0_pay68 (runB.sl.r_9 c i arg2 harg2 arg6 harg6 x0 hs) (runB.sl.v352 c i arg2 harg2 arg6 harg6 arg8 arg9 x0 hs) (runB.sl.v366 c i arg2 harg2 arg6 harg6 arg8 arg9 x0 hs))⟩, ⟨coRect 2, k0_pay66 (k0_pay64 (runB.sl.r_6 c i arg2 harg2 arg6 harg6 x0 hs) (runB.sl.v306 c i arg2 harg2 arg6 harg6 arg8 arg9 x0 hs) (runB.sl.v320 c i arg2 harg2 arg6 harg6 arg8 arg9 x0 hs)) (k0_pay65 (runB.sl.r_6 c i arg2 harg2 arg6 harg6 x0 hs) (runB.sl.v306 c i arg2 harg2 arg6 harg6 arg8 arg9 x0 hs) (runB.sl.v320 c i arg2 harg2 arg6 harg6 arg8 arg9 x0 hs))⟩, ⟨coRect 1, k0_pay62 (k0_pay60 (runB.sl.r_3 c i arg2 harg2 arg6 harg6 x0 hs) (runB.sl.v260 c i arg2 harg2 arg6 harg6 arg8 arg9 x0 hs) (runB.sl.v274 c i arg2 harg2 arg6 harg6 arg8 arg9 x0 hs)) (k0_pay61 (runB.sl.r_3 c i arg2 harg2 arg6 harg6 x0 hs) (runB.sl.v260 c i arg2 harg2 arg6 harg6 arg8 arg9 x0 hs) (runB.sl.v274 c i arg2 harg2 arg6 harg6 arg8 arg9 x0 hs))⟩, ⟨coRect 0, k0_pay58 (k0_pay56 (runB.sl.r c i arg2 harg2 arg6 harg6 x0 hs) (runB.sl.v214 c i arg2 harg2 arg6 harg6 arg8 arg9 x0 hs) (runB.sl.v228 c i arg2 harg2 arg6 harg6 arg8 arg9 x0 hs)) (k0_pay57 (runB.sl.r c i arg2 harg2 arg6 harg6 x0 hs) (runB.sl.v214 c i arg2 harg2 arg6 harg6 arg8 arg9 x0 hs) (runB.sl.v228 c i arg2 harg2 arg6 harg6 arg8 arg9 x0 hs))⟩] : List (View.Piece (Elt F) S256x1024 .i8))
      = [7, 6, 5, 4, 3, 2, 1, 0].map (coPiece i x0 hs) :=
    (congrArg₂ List.cons (coPiece_eq i x0 hs 7 _ (coB7 i x0 hs c arg2 harg2 arg6 harg6 arg8 arg9))
    (congrArg₂ List.cons (coPiece_eq i x0 hs 6 _ (coB6 i x0 hs c arg2 harg2 arg6 harg6 arg8 arg9))
    (congrArg₂ List.cons (coPiece_eq i x0 hs 5 _ (coB5 i x0 hs c arg2 harg2 arg6 harg6 arg8 arg9))
    (congrArg₂ List.cons (coPiece_eq i x0 hs 4 _ (coB4 i x0 hs c arg2 harg2 arg6 harg6 arg8 arg9))
    (congrArg₂ List.cons (coPiece_eq i x0 hs 3 _ (coB3 i x0 hs c arg2 harg2 arg6 harg6 arg8 arg9))
    (congrArg₂ List.cons (coPiece_eq i x0 hs 2 _ (coB2 i x0 hs c arg2 harg2 arg6 harg6 arg8 arg9))
    (congrArg₂ List.cons (coPiece_eq i x0 hs 1 _ (coB1 i x0 hs c arg2 harg2 arg6 harg6 arg8 arg9))
    (congrArg₂ List.cons (coPiece_eq i x0 hs 0 _ (coB0 i x0 hs c arg2 harg2 arg6 harg6 arg8 arg9)) rfl))))))))

variable (arg3 : Memref sig .tc .vmem S32x1x256 .f32) (harg3 : arg3.IsWhole) (arg4 : Memref sig .tc .vmem S256x1024 .i8) (harg4 : arg4.IsWhole) (arg5 : Memref sig .tc .vmem S1x64x256 .f32) (harg5 : arg5.IsWhole)
  (arg7 : Memref sig .tc .vmem S4x16x256 .f32) (harg7 : arg7.IsWhole) (harg8 : arg8.IsWhole) (harg9 : arg9.IsWhole)
  (x1 : Vec F S32x1x256 .f32) (x3 : Vec F S1x64x256 .f32) (xs1 : Vec F S4x16x256 .f32)

set_option maxHeartbeats 1600000 in
theorem runA_codes (hc0 : cond0_0 i) (hc1 : ¬cond0_1 i) :
    (runA c i arg2 harg2 arg3 harg3 arg4 harg4 arg5 harg5 arg6 harg6 arg7 harg7 arg8 harg8 arg9 harg9 hc0 hc1 x0 x1 x3 xs1).1.1 = [7, 6, 5, 4, 3, 2, 1, 0].map (coPiece i x0 (HSv x1)) :=
    listB_codes i x0 (HSv x1) c arg2 harg2 arg6 harg6 arg8 arg9

theorem runA_st (hc0 : cond0_0 i) (hc1 : ¬cond0_1 i) :
    (runA c i arg2 harg2 arg3 harg3 arg4 harg4 arg5 harg5 arg6 harg6 arg7 harg7 arg8 harg8 arg9 harg9 hc0 hc1 x0 x1 x3 xs1).1.2 = [((1 : Fin 2), (1 : Fin 2)), (1, 0), (0, 1), (0, 0)].map (stPiece i x0 (HSv x1)) :=
    (congrArg₂ List.cons (stPiece_eq i x0 (HSv x1) (1, 1) (k0_off7_eq i) _ _ (st11 i x0 (HSv x1) c arg2 harg2 arg6 harg6 arg8))
    (congrArg₂ List.cons (stPiece_eq i x0 (HSv x1) (1, 0) (k0_off6_eq i) _ _ (st10 i x0 (HSv x1) c arg2 harg2 arg6 harg6 arg8))
    (congrArg₂ List.cons (stPiece_eq i x0 (HSv x1) (0, 1) (k0_off5_eq i) _ _ (st01 i x0 (HSv x1) c arg2 harg2 arg6 harg6 arg8))
    (congrArg₂ List.cons (stPiece_eq i x0 (HSv x1) (0, 0) (k0_off4_eq i) _ _ (st00 i x0 (HSv x1) c arg2 harg2 arg6 harg6 arg8)) rfl))))

theorem runA_codes_read (hc0 : cond0_0 i) (hc1 : ¬cond0_1 i) (f) :
    arg4.view.read (Elt F) (arg4.view.writes (Elt F) f (runA c i arg2 harg2 arg3 harg3 arg4 harg4 arg5 harg5 arg6 harg6 arg7 harg7 arg8 harg8 arg9 harg9 hc0 hc1 x0 x1 x3 xs1).1.1) = codesV i x0 (HSv x1) := by
  rw [runA_codes]; exact codes_read i x0 _ arg4 f _ (by decide)

theorem runA_st_read (hc0 : cond0_0 i) (hc1 : ¬cond0_1 i) :
    arg7.view.read (Elt F) (arg7.view.writes (Elt F) (harg7.unread xs1) (runA c i arg2 harg2 arg3 harg3 arg4 harg4 arg5 harg5 arg6 harg6 arg7 harg7 arg8 harg8 arg9 harg9 hc0 hc1 x0 x1 x3 xs1).1.2) = stUpd i (stV i x0 (HSv x1)) xs1 := by
  rw [runA_st]; exact st_read i x0 _ arg7 harg7 xs1 _ (by decide)

set_option maxHeartbeats 1600000 in
theorem runB_codes (hc0 : ¬cond0_0 i) (hc1 : ¬cond0_1 i) :
    (runB c i arg2 harg2 arg3 harg3 arg4 harg4 arg5 harg5 arg6 harg6 arg7 harg7 arg8 harg8 arg9 harg9 hc0 hc1 x0 x1 x3 hs xs1).1.1 = [7, 6, 5, 4, 3, 2, 1, 0].map (coPiece i x0 hs) :=
    listB_codes i x0 hs c arg2 harg2 arg6 harg6 arg8 arg9

theorem runB_st (hc0 : ¬cond0_0 i) (hc1 : ¬cond0_1 i) :
    (runB c i arg2 harg2 arg3 harg3 arg4 harg4 arg5 harg5 arg6 harg6 arg7 harg7 arg8 harg8 arg9 harg9 hc0 hc1 x0 x1 x3 hs xs1).1.2 = [((1 : Fin 2), (1 : Fin 2)), (1, 0), (0, 1), (0, 0)].map (stPiece i x0 hs) :=
    (congrArg₂ List.cons (stPiece_eq i x0 hs (1, 1) (k0_off7_eq i) _ _ (st11 i x0 hs c arg2 harg2 arg6 harg6 arg8))
    (congrArg₂ List.cons (stPiece_eq i x0 hs (1, 0) (k0_off6_eq i) _ _ (st10 i x0 hs c arg2 harg2 arg6 harg6 arg8))
    (congrArg₂ List.cons (stPiece_eq i x0 hs (0, 1) (k0_off5_eq i) _ _ (st01 i x0 hs c arg2 harg2 arg6 harg6 arg8))
    (congrArg₂ List.cons (stPiece_eq i x0 hs (0, 0) (k0_off4_eq i) _ _ (st00 i x0 hs c arg2 harg2 arg6 harg6 arg8)) rfl))))

theorem runB_codes_read (hc0 : ¬cond0_0 i) (hc1 : ¬cond0_1 i) (f) :
    arg4.view.read (Elt F) (arg4.view.writes (Elt F) f (runB c i arg2 harg2 arg3 harg3 arg4 harg4 arg5 harg5 arg6 harg6 arg7 harg7 arg8 harg8 arg9 harg9 hc0 hc1 x0 x1 x3 hs xs1).1.1) = codesV i x0 hs := by
  rw [runB_codes]; exact codes_read i x0 _ arg4 f _ (by decide)

theorem runB_st_read (hc0 : ¬cond0_0 i) (hc1 : ¬cond0_1 i) :
    arg7.view.read (Elt F) (arg7.view.writes (Elt F) (harg7.unread xs1) (runB c i arg2 harg2 arg3 harg3 arg4 harg4 arg5 harg5 arg6 harg6 arg7 harg7 arg8 harg8 arg9 harg9 hc0 hc1 x0 x1 x3 hs xs1).1.2) = stUpd i (stV i x0 hs) xs1 := by
  rw [runB_st]; exact st_read i x0 _ arg7 harg7 xs1 _ (by decide)

set_option maxHeartbeats 1600000 in
theorem runC_codes (hc0 : ¬cond0_0 i) (hc1 : cond0_1 i) :
    (runC c i arg2 harg2 arg3 harg3 arg4 harg4 arg5 harg5 arg6 harg6 arg7 harg7 arg8 harg8 arg9 harg9 hc0 hc1 x0 x1 hs xs1).1.1.1 = [7, 6, 5, 4, 3, 2, 1, 0].map (coPiece i x0 hs) :=
    listB_codes i x0 hs c arg2 harg2 arg6 harg6 arg8 arg9

theorem runC_st (hc0 : ¬cond0_0 i) (hc1 : cond0_1 i) :
    (runC c i arg2 harg2 arg3 harg3 arg4 harg4 arg5 harg5 arg6 harg6 arg7 harg7 arg8 harg8 arg9 harg9 hc0 hc1 x0 x1 hs xs1).1.1.2 = [((1 : Fin 2), (1 : Fin 2)), (1, 0), (0, 1), (0, 0)].map (stPiece i x0 hs) :=
    (congrArg₂ List.cons (stPiece_eq i x0 hs (1, 1) (k0_off7_eq i) _ _ (st11 i x0 hs c arg2 harg2 arg6 harg6 arg8))
    (congrArg₂ List.cons (stPiece_eq i x0 hs (1, 0) (k0_off6_eq i) _ _ (st10 i x0 hs c arg2 harg2 arg6 harg6 arg8))
    (congrArg₂ List.cons (stPiece_eq i x0 hs (0, 1) (k0_off5_eq i) _ _ (st01 i x0 hs c arg2 harg2 arg6 harg6 arg8))
    (congrArg₂ List.cons (stPiece_eq i x0 hs (0, 0) (k0_off4_eq i) _ _ (st00 i x0 hs c arg2 harg2 arg6 harg6 arg8)) rfl))))

theorem runC_codes_read (hc0 : ¬cond0_0 i) (hc1 : cond0_1 i) (f) :
    arg4.view.read (Elt F) (arg4.view.writes (Elt F) f (runC c i arg2 harg2 arg3 harg3 arg4 harg4 arg5 harg5 arg6 harg6 arg7 harg7 arg8 harg8 arg9 harg9 hc0 hc1 x0 x1 hs xs1).1.1.1) = codesV i x0 hs := by
  rw [runC_codes]; exact codes_read i x0 _ arg4 f _ (by decide)

theorem runC_st_read (hc0 : ¬cond0_0 i) (hc1 : cond0_1 i) :
    arg7.view.read (Elt F) (arg7.view.writes (Elt F) (harg7.unread xs1) (runC c i arg2 harg2 arg3 harg3 arg4 harg4 arg5 harg5 arg6 harg6 arg7 harg7 arg8 harg8 arg9 harg9 hc0 hc1 x0 x1 hs xs1).1.1.2) = stUpd i (stV i x0 hs) xs1 := by
  rw [runC_st]; exact st_read i x0 _ arg7 harg7 xs1 _ (by decide)

/-- What the scales' buffer reads after a point that writes it. -/
theorem runC_sc_read (hc0 : ¬cond0_0 i) (hc1 : cond0_1 i) (f) :
    arg5.view.read (Elt F) (arg5.view.writes (Elt F) f (runC c i arg2 harg2 arg3 harg3 arg4 harg4 arg5 harg5 arg6 harg6 arg7 harg7 arg8 harg8 arg9 harg9 hc0 hc1 x0 x1 hs xs1).1.2)
      = k0_pay2 (stUpd i (stV i x0 hs) xs1) := by
  have hv : runC.sl.v792 c i arg2 harg2 arg6 harg6 arg7 harg7 arg8 x0 hs xs1 = stUpd i (stV i x0 hs) xs1 := by
    rw [← runC_st_read i x0 hs c arg2 harg2 arg6 harg6 arg8 arg9 arg3 harg3 arg4 harg4 arg5 harg5 arg7 harg7 harg8 harg9 x1 xs1 hc0 hc1]
    funext z
    show arg7.view.read (Elt F) _ _ = arg7.view.read (Elt F) _ _
    congr 1
    funext b
    apply Fin.ext
    fin_cases b
    · show 0 + 1 * (z 0).val = (z 0).val
      omega
    · show 0 + 1 * (z 1).val = (z 1).val
      omega
    · show 0 + 1 * (z 2).val = (z 2).val
      omega
  rw [← hv]
  funext y
  have h0 : (y 0).val < 1 := (y 0).isLt
  have h1 : (y 1).val < 64 := (y 1).isLt
  have h2 : (y 2).val < 256 := (y 2).isLt
  refine View.read_writes_apply_of_pieces _ _ (show Vec F S1x64x256 .f32 from k0_pay2 (runC.sl.v792 c i arg2 harg2 arg6 harg6 arg7 harg7 arg8 x0 hs xs1)) _ ?_ y ?_
  · intro p hp x
    have hp' := List.mem_singleton.1 hp
    subst hp'
    have e : ∀ b : Fin 3, (x b).val = ((Rect.unit (s := S1x64x256) ![0, 0, 0] ![1, 64, 256] inb_S1x64x256_S1x64x256_0_0_0).emb x b).val := by
      intro b
      fin_cases b
      · show (x 0).val = 0 + 1 * (x 0).val
        omega
      · show (x 1).val = 0 + 1 * (x 1).val
        omega
      · show (x 2).val = 0 + 1 * (x 2).val
        omega
    exact congrArg (k0_pay2 (runC.sl.v792 c i arg2 harg2 arg6 harg6 arg7 harg7 arg8 x0 hs xs1)) (funext fun b => Fin.ext (e b))
  · refine ⟨_, List.mem_singleton.2 rfl, (Rect.mem_set_unit (inb := inb_S1x64x256_S1x64x256_0_0_0)).2 fun b => ?_⟩
    fin_cases b
    · show 0 ≤ (y 0).val ∧ (y 0).val < 0 + 1
      omega
    · show 0 ≤ (y 1).val ∧ (y 1).val < 0 + 64
      omega
    · show 0 ≤ (y 2).val ∧ (y 2).val < 0 + 256
      omega

end Cert.Kernel.Hand

end
-- ==== Proof.HandK.Launch.lean ====
/- The kernel's run: what the scratch buffers hold between points, the body's obligation at every point and the launch. -/
module

public import proofs.«01_k».proof.Proof.HandK.Unwind
public import proofs.«01_k».proof.Proof.Gen.Kernel.Frame
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The Hadamard matrices with the signs in, as the first point builds them. -/
def HS (c : Dev nD) : Vec F S32x256x256 .bf16 := HSv (iblk m c 1 ⟨0, by rw [show cfg0.N = 32 from N_0]; decide⟩)

/-- The scales point `t` computes. -/
def Sp (c : Dev nD) (t : Fin cfg0.N) : FVec F SSt .f32 := stV (grid0.coords t) (iblk m c 0 t) (HS m c)

/-- The scales of the four points of `t`'s row block. -/
def stFull (c : Dev nD) (t : Fin cfg0.N) : Vec F S4x16x256 .f32 :=
  fun y => Sp m c ⟨4 * (t.val / 4) + (y 0).val, by
    have h0 : (y 0).val < 4 := (y 0).isLt
    have hN : t.val < 32 := lt_of_lt_of_eq t.isLt (show cfg0.N = 32 from N_0)
    exact lt_of_lt_of_eq (show 4 * (t.val / 4) + (y 0).val < 32 by omega) (show cfg0.N = 32 from N_0).symm⟩ (ix2 (y 1) (y 2))

/-- Before point `n` the gathered scales hold those of the points of the row block already passed. -/
def Gath (c : Dev nD) (n : ℕ) (d : Vec F S4x16x256 .f32) : Prop :=
  ∀ t' : Fin cfg0.N, t'.val < n → (n - 1) / 4 = t'.val / 4 → ∀ y, (y 0).val = t'.val % 4 → d y = Sp m c t' (ix2 (y 1) (y 2))

theorem coords1 (t : Fin cfg0.N) : (grid0.coords t 1).val = t.val % 4 := by
  have e1 : (grid0.coords t 1).val = t.val / 1 % 4 := Pipeline.Grid.coords_val t 1 (by decide) rfl
  rw [e1, Nat.div_one]

theorem gath_step (c : Dev nD) (t : Fin cfg0.N) (d : Vec F S4x16x256 .f32) (h : Gath m c t.val d) :
    Gath m c (t.val + 1) (stUpd (grid0.coords t) (Sp m c t) d) := by
  intro t' h1 h2 y hy
  unfold stUpd
  rw [coords1]
  by_cases e : (y 0).val = t.val % 4
  · rw [if_pos e]
    have : t' = t := Fin.ext (by omega)
    rw [this]
  · rw [if_neg e]
    have : t'.val ≠ t.val := fun hh => e (by rw [hy, hh])
    exact h t' (by omega) (by omega) y hy

theorem gath_full (c : Dev nD) (t : Fin cfg0.N) (h3 : t.val % 4 = 3) (d : Vec F S4x16x256 .f32) (h : Gath m c (t.val + 1) d) : d = stFull m c t := by
  funext y
  have h0 : (y 0).val < 4 := (y 0).isLt
  have hN : t.val < 32 := lt_of_lt_of_eq t.isLt (show cfg0.N = 32 from N_0)
  exact h ⟨4 * (t.val / 4) + (y 0).val, lt_of_lt_of_eq (show 4 * (t.val / 4) + (y 0).val < 32 by omega) (show cfg0.N = 32 from N_0).symm⟩ (by show 4 * (t.val / 4) + (y 0).val < t.val + 1; omega)
    (by show (t.val + 1 - 1) / 4 = (4 * (t.val / 4) + (y 0).val) / 4; omega) y (by show (y 0).val = (4 * (t.val / 4) + (y 0).val) % 4; omega)

/-- The invariant between points: before the first every scratch holds anything; afterwards the Hadamard matrices are built and
    the row block's scales so far gathered. -/
def PhiS (c : Dev nD) : (n : ℕ) → n ≤ cfg0.N → sProp 𝕄
  | 0, _ => Pipeline.ΦA spec0 c
  | n + 1, hn => iprop(iprop(owns (c : Thread nD τ) scM0_0 fullShare (HS m c) ∗ (∃ d, ⌜Gath m c (n + 1) d⌝ ∗ owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (HS m c) ∗ (∃ d, ⌜Gath m c (n + 1) d⌝ ∗ owns (c : Thread nD τ) scM0_1 fullShare d) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (HS m c) ∗ (∃ d, ⌜Gath m c n d⌝ ∗ owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The codes a point leaves. -/
def coAt (c : Dev nD) (t : Fin cfg0.N) : Vec F S256x1024 .i8 := codesV (grid0.coords t) (iblk m c 0 t) (HS m c)

/-- The scales a point that writes them leaves. -/
def scAt (c : Dev nD) (t : Fin cfg0.N) : FVec F S1x64x256 .f32 := k0_pay2 (stFull m c t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => coAt m c t
    | ⟨3, _⟩ => scAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = coAt m c t := by dsimp only [dats]
theorem after0_3 (c : Dev nD) (t : Fin cfg0.N) : (dats m 0 c).after 3 t = scAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scales' window is written at the points that write it back and nowhere else. -/
theorem idle0_3 (t : Fin cfg0.N) (h1 : ¬t.val % 4 = 3) : cfg0.idle 3 (cfg0.grid.coords t) = true := by
  have h : ¬k0_cond2 (grid0.coords t) = 1#1 := fun h => h1 ((hcond0_1 t).mp h)
  show (!(k0_cond2 (grid0.coords t) == 1#1)) = true
  rw [beq_false_of_ne h]; rfl
theorem live0_3 (t : Fin cfg0.N) (h1 : t.val % 4 = 3) : cfg0.idle 3 (cfg0.grid.coords t) = false := by
  have h : k0_cond2 (grid0.coords t) = 1#1 := (hcond0_1 t).mpr h1
  show (!(k0_cond2 (grid0.coords t) == 1#1)) = false
  rw [h]; rfl
theorem liveAt0_2 : ∀ t : Fin cfg0.N, cfg0.idle 2 (grid0.coords t) = false := fun _ => rfl

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (coAt m c t) := by
  unfold Dat.leavesExact; rw [liveAt0_2 t, after0_2]
theorem leaves3_C (c : Dev nD) (t : Fin cfg0.N) (h1 : t.val % 4 = 3) : (dats m 0 c).leavesExact 3 t = owns (c : Thread nD τ) (ms0_3 t) fullShare (scAt m c t) := by
  unfold Dat.leavesExact; rw [live0_3 t h1, after0_3]
theorem leaves3_AB (c : Dev nD) (t : Fin cfg0.N) (h1 : ¬t.val % 4 = 3) :
    (dats m 0 c).leavesExact 3 t = iprop(∃ d, owns (c : Thread nD τ) (ms0_3 t) fullShare ((dats m 0 c).before 3 t d)) :=
  (dats m 0 c).leavesExact_idle 3 t (idle0_3 t h1) (by
    cases hf : (cfg0.win 3).flush t with
    | false => rfl
    | true => exact absurd ((flush0_3 t).mp hf) h1)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
theorem sound_A (c : Dev nD) (t : Fin cfg0.N) (h0 : t.val % 32 = 0) (h1 : ¬t.val % 4 = 3) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3_AB m c t h1]
  have hz : t.val = 0 := by omega
  have ht : t = ⟨0, by rw [show cfg0.N = 32 from N_0]; decide⟩ := Fin.ext hz
  have hHS : HS m c = HSv (iblk m c 1 t) := by unfold HS; rw [ht]
  have hHS' : Sp m c t = stV (grid0.coords t) (iblk m c 0 t) (HSv (iblk m c 1 t)) := by unfold Sp; rw [hHS]
  have hHS'' : coAt m c t = codesV (grid0.coords t) (iblk m c 0 t) (HSv (iblk m c 1 t)) := by unfold coAt; rw [hHS]
  rw [PhiS_castSucc m c t, PhiS_zero m c _ _ hz, PhiA0_eq]
  iintro ⟨⟨⟨HS0, ⟨%d7, HS1⟩, HS2, HS3⟩, Hg⟩, Ho, ⟨%d0, H0⟩, ⟨%d1, H1⟩, ⟨%d2, H2⟩, ⟨%d3, H3⟩⟩
  iapply ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) ((dats m 0 c).before 3 t d3) d7).2 Set.univ _)
  isplitl [H0]; · iexact H0
  isplitl [H1]; · iexact H1
  isplitl [H2]; · iexists _; iexact H2
  isplitl [H3]; · iexact H3
  isplitl [HS0]; · iexact HS0
  isplitl [HS1]; · iexact HS1
  isplitl [HS2]; · iexact HS2
  isplitl [HS3]; · iexact HS3
  iintro ⟨H0, H1, ⟨%e2, H2⟩, H3, HS0, HS1, HS2, HS3⟩
  isplitl [HS0 HS1 HS2 HS3 Hg]
  · isplitl [HS0 HS1 HS2 HS3]
    · isplitl [HS0]
      · rw [hHS]; iexact HS0
      isplitl [HS1]
      · iexists (stUpd (grid0.coords t) (Sp m c t) d7)
        isplitr
        · ipureintro; exact gath_step m c t d7 (fun t' h => absurd h (by omega))
        unfold owns; iexists _; isplitr
        swap; · iexact HS1
        ipureintro; rw [hHS']; exact runA_st_read (grid0.coords t) (iblk m c 0 t) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 ((hcond0_0 t).mpr h0) (fun h => h1 ((hcond0_1 t).mp h))
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; rw [hHS'']; exact runA_codes_read (grid0.coords t) (iblk m c 0 t) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 ((hcond0_0 t).mpr h0) (fun h => h1 ((hcond0_1 t).mp h)) e2
  iexists _; iexact H3

set_option maxHeartbeats 4000000 in
theorem sound_B (c : Dev nD) (t : Fin cfg0.N) (h0 : ¬t.val % 32 = 0) (h1 : ¬t.val % 4 = 3) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3_AB m c t h1]
  have hz : t.val ≠ 0 := by omega
  rw [PhiS_castSucc m c t, PhiS_pos m c _ _ hz]
  iintro ⟨⟨⟨HS0, ⟨%d7, %hG, HS1⟩, HS2, HS3⟩, Hg⟩, Ho, ⟨%d0, H0⟩, ⟨%d1, H1⟩, ⟨%d2, H2⟩, ⟨%d3, H3⟩⟩
  iapply ((runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) ((dats m 0 c).before 3 t d3) (HS m c) d7).2 Set.univ _)
  isplitl [H0]; · iexact H0
  isplitl [H1]; · iexact H1
  isplitl [H2]; · iexists _; iexact H2
  isplitl [H3]; · iexact H3
  isplitl [HS0]; · iexact HS0
  isplitl [HS1]; · iexact HS1
  isplitl [HS2]; · iexact HS2
  isplitl [HS3]; · iexact HS3
  iintro ⟨H0, H1, ⟨%e2, H2⟩, H3, HS0, HS1, HS2, HS3⟩
  isplitl [HS0 HS1 HS2 HS3 Hg]
  · isplitl [HS0 HS1 HS2 HS3]
    · isplitl [HS0]
      · iexact HS0
      isplitl [HS1]
      · iexists (stUpd (grid0.coords t) (Sp m c t) d7)
        isplitr
        · ipureintro; exact gath_step m c t d7 hG
        unfold owns; iexists _; isplitr
        swap; · iexact HS1
        ipureintro; exact runB_st_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 (fun h => h0 ((hcond0_0 t).mp h)) (fun h => h1 ((hcond0_1 t).mp h))
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; exact runB_codes_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) ((dats m 0 c).before 3 t d3) d7 (fun h => h0 ((hcond0_0 t).mp h)) (fun h => h1 ((hcond0_1 t).mp h)) e2
  iexists _; iexact H3

set_option maxHeartbeats 4000000 in
theorem sound_C (c : Dev nD) (t : Fin cfg0.N) (h0 : ¬t.val % 32 = 0) (h1 : t.val % 4 = 3) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3_C m c t h1]
  have hz : t.val ≠ 0 := by omega
  rw [PhiS_castSucc m c t, PhiS_pos m c _ _ hz]
  iintro ⟨⟨⟨HS0, ⟨%d7, %hG, HS1⟩, HS2, HS3⟩, Hg⟩, Ho, ⟨%d0, H0⟩, ⟨%d1, H1⟩, ⟨%d2, H2⟩, ⟨%d3, H3⟩⟩
  iapply ((runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (HS m c) d7).2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  iintro ⟨H0, H1, ⟨%e2, H2⟩, ⟨%e3, H3⟩, HS0, HS1, HS2, HS3⟩
  isplitl [HS0 HS1 HS2 HS3 Hg]
  · isplitl [HS0 HS1 HS2 HS3]
    · isplitl [HS0]
      · iexact HS0
      isplitl [HS1]
      · iexists (stUpd (grid0.coords t) (Sp m c t) d7)
        isplitr
        · ipureintro; exact gath_step m c t d7 hG
        unfold owns; iexists _; isplitr
        swap; · iexact HS1
        ipureintro; exact runC_st_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) d7 (fun h => h0 ((hcond0_0 t).mp h)) ((hcond0_1 t).mpr h1)
      isplitl [HS2]
      · iexact HS2
      iexact HS3
    iexact Hg
  isplitl [Ho]; · iexact Ho
  isplitl [H0]; · iexact H0
  isplitl [H1]; · iexact H1
  isplitl [H2]
  · unfold owns; iexists _; isplitr
    swap; · iexact H2
    ipureintro; exact runC_codes_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) d7 (fun h => h0 ((hcond0_0 t).mp h)) ((hcond0_1 t).mpr h1) e2
  unfold owns; iexists _; isplitr
  swap; · iexact H3
  ipureintro
  rw [show scAt m c t = k0_pay2 (stUpd (grid0.coords t) (Sp m c t) d7) from by unfold scAt; rw [gath_full m c t h1 _ (gath_step m c t d7 hG)]]
  exact runC_sc_read (grid0.coords t) (iblk m c 0 t) (HS m c) c (ms0_0 t) (hs0_0 t) scM0_0 (Memref.isWhole_whole _) scM0_2 scM0_3 (ms0_1 t) (hs0_1 t) (ms0_2 t) (hs0_2 t) (ms0_3 t) (hs0_3 t) scM0_1 (Memref.isWhole_whole _) (Memref.isWhole_whole _) (Memref.isWhole_whole _) (iblk m c 1 t) d7 (fun h => h0 ((hcond0_0 t).mp h)) ((hcond0_1 t).mpr h1) e3

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0 (by omega)
  · by_cases h1 : t.val % 4 = 3
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%d7, %hG, HS1⟩, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
set_option maxHeartbeats 800000 in
/-- The launch, with every semaphore counter at zero at every final state. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand

end
-- ==== Proof.Hand.Butterfly.lean ====
/- The butterfly as a signed sum: pure arithmetic on reals. -/
module

public import Idealize.ShloMosaic.Lib.Pointwise

@[expose] public section

-- membership in a rectangle of production extents (`View.cover_of_tiled`): the elaborator's structural look
-- recurses once per coordinate of the long axes
set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One butterfly stage at distance `h`: the first half of every pair of blocks takes the sum, the second the
    difference. -/
def step (h : ℕ) (x : ℕ → ℝ) : ℕ → ℝ := fun d =>
  if d / h % 2 = 0 then x d + x (d + h) else x (d - h) - x d

/-- The same on extended reals. -/
def stepE (h : ℕ) (x : ℕ → EReal) : ℕ → EReal := fun d =>
  if d / h % 2 = 0 then x d + x (d + h) else x (d - h) - x d

theorem stepE_coe (h : ℕ) (x : ℕ → ℝ) (d : ℕ) : stepE h (fun d => ((x d : ℝ) : EReal)) d = ((step h x d : ℝ) : EReal) := by
  unfold stepE step
  split_ifs
  · exact (EReal.coe_add _ _).symm
  · exact (EReal.coe_sub _ _).symm

/-- The sign of entry `(k, d)` of the Hadamard matrix of `2^n` rows: one factor -1 per bit set in both. -/
def sgn : ℕ → ℕ → ℕ → ℤ
  | 0, _, _ => 1
  | n + 1, k, d => (if k.testBit n && d.testBit n then -1 else 1) * sgn n k d

theorem sgn_mod_right (n : ℕ) : ∀ (N k d : ℕ), n ≤ N → sgn n k (d % 2 ^ N) = sgn n k d := by
  induction n with
  | zero => intros; rfl
  | succ n ih =>
    intro N k d h
    have e : (d % 2 ^ N).testBit n = d.testBit n := by
      rw [Nat.testBit_mod_two_pow]; simp; omega
    simp only [sgn, e, ih N k d (by omega)]

theorem sgn_add_left (n : ℕ) : ∀ (N k d : ℕ), n ≤ N → sgn n (2 ^ N + k) d = sgn n k d := by
  induction n with
  | zero => intros; rfl
  | succ n ih =>
    intro N k d h
    have e : (2 ^ N + k).testBit n = k.testBit n := Nat.testBit_two_pow_add_gt h k
    simp only [sgn, e, ih N k d (by omega)]

theorem sgn_congr_right (n : ℕ) (k d d' : ℕ) (h : d % 2 ^ n = d' % 2 ^ n) : sgn n k d = sgn n k d' := by
  rw [← sgn_mod_right n n k d le_rfl, h, sgn_mod_right n n k d' le_rfl]

/-- `n` stages, at distances 1, 2, …, 2^(n-1). -/
def stages : ℕ → (ℕ → ℝ) → ℕ → ℝ
  | 0, x => x
  | n + 1, x => step (2 ^ n) (stages n x)

/-- The stages on extended reals. -/
def stagesE : ℕ → (ℕ → EReal) → ℕ → EReal
  | 0, x => x
  | n + 1, x => stepE (2 ^ n) (stagesE n x)

/-- After `n` stages every aligned run of `2^n` values holds the signed sums of the run. -/
theorem stages_eq (n : ℕ) : ∀ (x : ℕ → ℝ) (d : ℕ), stages n x d
    = ∑ k ∈ Finset.range (2 ^ n), (sgn n k d : ℝ) * x (2 ^ n * (d / 2 ^ n) + k) := by
  induction n with
  | zero => intro x d; simp [stages, sgn]
  | succ n ih =>
    intro x d
    have hp : 0 < 2 ^ n := by positivity
    generalize hP : 2 ^ n = P at hp
    have hP2 : 2 ^ (n + 1) = P + P := by rw [pow_succ, hP]; ring
    have hdd : d / (P + P) = d / P / 2 := by rw [← Nat.mul_two, Nat.div_div_eq_div_mul]
    have hbit : d.testBit n = decide (d / P % 2 = 1) := by rw [Nat.testBit_eq_decide_div_mod_eq, hP]
    have hmd := Nat.div_add_mod d P
    have hlt := Nat.mod_lt d hp
    rw [hP2, Finset.sum_range_add]
    have low : ∀ k ∈ Finset.range P, (sgn (n + 1) k d : ℝ) = sgn n k d := by
      intro k hk
      have : k.testBit n = false := Nat.testBit_lt_two_pow (by rw [hP]; exact Finset.mem_range.1 hk)
      simp [sgn, this]
    have high : ∀ k ∈ Finset.range P, (sgn (n + 1) (P + k) d : ℝ) = (if d / P % 2 = 1 then -1 else 1) * sgn n k d := by
      intro k hk
      have h0 : k.testBit n = false := Nat.testBit_lt_two_pow (by rw [hP]; exact Finset.mem_range.1 hk)
      have h1 : (P + k).testBit n = true := by
        rw [← hP, Nat.testBit_two_pow_add_eq, h0]; rfl
      have h2 : sgn n (P + k) d = sgn n k d := by rw [← hP]; exact sgn_add_left n n k d le_rfl
      simp only [sgn, h1, hbit, h2, Bool.true_and, decide_eq_true_eq]
      push_cast
      split_ifs <;> simp
    rw [Finset.sum_congr rfl (fun k hk => by rw [low k hk]), Finset.sum_congr (s₂ := Finset.range P) (f := fun k => (sgn (n + 1) (P + k) d : ℝ) * _) rfl (fun k hk => by rw [high k hk])]
    show step (2 ^ n) (stages n x) d = _
    unfold step
    rw [hP]
    have s1 : sgn n = fun k d => sgn n k d := rfl
    by_cases hd : d / P % 2 = 0
    · have hd1 : ¬ d / P % 2 = 1 := by rw [hd]; decide
      rw [if_pos hd, ih, ih, hP]
      simp only [if_neg hd1, one_mul]
      have e1 : (d + P) / P = d / P + 1 := Nat.add_div_right d hp
      have e2 : (P + P) * (d / (P + P)) = P * (d / P) := by
        have h2 : ∀ D : ℕ, D % 2 = 0 → 2 * (D / 2) = D := fun D h => by omega
        rw [hdd, ← Nat.mul_two, Nat.mul_assoc, h2 _ hd]
      rw [e1, e2]
      congr 1
      refine Finset.sum_congr rfl fun k _ => ?_
      rw [sgn_congr_right n k (d + P) d (by rw [hP]; exact Nat.add_mod_right d P)]
      congr 2; ring
    · have odd : ∀ D : ℕ, ¬ D % 2 = 0 → D % 2 = 1 := fun D h => by omega
      have hd1 : d / P % 2 = 1 := odd _ hd
      have hge : P ≤ d := by
        by_contra h
        rw [Nat.div_eq_of_lt (by omega)] at hd1; omega
      rw [if_neg hd, ih, ih, hP]
      simp only [if_pos hd1]
      have e1 : (d - P) / P = d / P - 1 := by
        have := Nat.add_div_right (d - P) hp
        rw [Nat.sub_add_cancel hge] at this
        exact (Nat.sub_eq_of_eq_add this).symm
      have e2 : (P + P) * (d / (P + P)) = P * (d / P - 1) := by
        have h2 : ∀ D : ℕ, D % 2 = 1 → 2 * (D / 2) = D - 1 := fun D h => by omega
        rw [hdd, ← Nat.mul_two, Nat.mul_assoc, h2 _ hd1]
      have e3 : P * (d / P) = P * (d / P - 1) + P := by
        have : d / P = (d / P - 1) + 1 := (fun D (h : D % 2 = 1) => by omega : ∀ D : ℕ, D % 2 = 1 → D = D - 1 + 1) _ hd1
        conv_lhs => rw [this]
        ring
      rw [e1, e2, e3, sub_eq_add_neg, ← Finset.sum_neg_distrib]
      congr 1
      · refine Finset.sum_congr rfl fun k _ => ?_
        rw [sgn_congr_right n k (d - P) d (by rw [hP]; exact (Nat.mod_eq_sub_mod hge).symm)]
      · refine Finset.sum_congr rfl fun k _ => ?_
        rw [Nat.add_assoc]; ring

end Cert.Hand

end
-- ==== Proof.Hand.Matrix.lean ====
/- The entries of the signed Hadamard matrices the kernel builds, on exact numbers. -/
module

public import proofs.«01_k».proof.Proof.Hand.Hs
public import proofs.«01_k».proof.Proof.Hand.Butterfly
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Hand (sgn)

/-- The parity word of a masked channel index. -/
def parW (x : BitVec 32) : BitVec 32 :=
  let y := IntOp.xori x (IntOp.shrsi .vector x 4#32)
  let z := IntOp.xori y (IntOp.shrsi .vector y 2#32)
  IntOp.andi (IntOp.xori z (IntOp.shrsi .vector z 1#32)) 1#32

/-- The channel a row of the matrix stands for: even channels first, odd ones after. -/
def chW (a b c d e : BitVec 32) : BitVec 32 :=
  IntOp.addi b (Scalar.select (IntOp.andi (IntOp.cmpi .ne (IntOp.subi d e) 1#32) (IntOp.cmpi .ne (IntOp.remsi .vector a 64#32) 0#32))
    (IntOp.subi c 1#32) c)

/-- The position within its group of 128. -/
def kmW (k : BitVec 32) : BitVec 32 :=
  let m := IntOp.remsi .vector k 128#32
  Scalar.select (IntOp.andi (IntOp.xori (IntOp.cmpi .slt m 0#32) 0#1) (IntOp.cmpi .ne m 0#32)) (IntOp.addi m 128#32) m

theorem p8_split (v793 v809 v827 v829 v832 v835 : IVec S256x256 32) (r k : Fin 256) :
    k0_pay8 v793 v809 v827 64#32 v829 v832 v835 (ix2 r k)
      = parW (IntOp.andi (chW (v809 (ix2 r k)) (v827 (ix2 r k)) (v829 (ix2 r k)) (v832 (ix2 r k)) (v835 (ix2 r k))) (kmW (v793 (ix2 r k)))) := by
  pointwise [k0_pay8]
  rfl

theorem p3_at (r k : Fin 256) : k0_pay3 (ix2 r k) = BitVec.ofNat 32 (r.val % 128) := by
  pointwise [k0_pay3]
  revert r
  decide +kernel

theorem p4_at (r k : Fin 256) : k0_pay4 (ix2 r k) = BitVec.ofNat 32 (r.val % 64 * 2) := by
  pointwise [k0_pay4]
  simp only [p3_at]
  revert r
  decide +kernel

theorem p5_at (r k : Fin 256) : k0_pay5 (ix2 r k) = BitVec.ofNat 32 (r.val % 128 / 64) := by
  pointwise [k0_pay5]
  simp only [p3_at]
  revert r
  decide +kernel

theorem p6_at (r k : Fin 256) : k0_pay6 (ix2 r k) = if r.val % 128 = 0 then 0#32 else 1#32 := by
  pointwise [k0_pay6]
  simp only [p3_at]
  revert r
  decide +kernel

theorem p7_at (r k : Fin 256) : k0_pay7 (ix2 r k) = 0#32 := by
  pointwise [k0_pay7]
  simp only [p3_at]
  revert r
  decide +kernel

theorem ch_at : ∀ r : Fin 256, chW (BitVec.ofNat 32 (r.val % 128)) (BitVec.ofNat 32 (r.val % 64 * 2)) (BitVec.ofNat 32 (r.val % 128 / 64))
    (if r.val % 128 = 0 then 0#32 else 1#32) 0#32 = BitVec.ofNat 32 (r.val % 64 * 2 + r.val % 128 / 64) := by decide +kernel

theorem km_at : ∀ k : Fin 256, kmW (BitVec.ofNat 32 k.val) = BitVec.ofNat 32 (k.val % 128) := by decide +kernel

theorem sgn_word : ∀ k c : Fin 128, (IntOp.subi 1#32 (IntOp.muli 2#32 (parW (IntOp.andi (BitVec.ofNat 32 c.val) (BitVec.ofNat 32 k.val))))).toInt
    = sgn 7 k.val c.val := by decide +kernel

theorem p9_at (r k : Fin 256) :
    k0_pay9 (iota .tc S256x256 32 [0] iota_S256x256_d0_w32) 128#32 (ix2 r k) = BitVec.ofNat 32 (r.val / 128) := by
  pointwise [k0_pay9]
  revert r
  decide +kernel

theorem pk_at (r k : Fin 256) :
    select (k0_pay11 (iota .tc S256x256 32 [1] iota_S256x256_d1_w32)) (k0_pay12 (iota .tc S256x256 32 [1] iota_S256x256_d1_w32))
      (k0_pay10 (iota .tc S256x256 32 [1] iota_S256x256_d1_w32)) (ix2 r k) = BitVec.ofNat 32 (k.val / 128) := by
  pointwise [k0_pay11, k0_pay12, k0_pay10]
  revert k
  decide +kernel

/-- The channel of the matrix's row `r`. -/
def chan (r : ℕ) : ℕ := r % 64 * 2 + r % 128 / 64

theorem word_at (r k : Fin 256) :
    (IntOp.subi 1#32 (IntOp.muli 2#32 (k0_pay8 (iota .tc S256x256 32 [1] iota_S256x256_d1_w32) k0_pay3 k0_pay4 64#32 k0_pay5 k0_pay6 k0_pay7 (ix2 r k)))).toInt
      = sgn 7 (k.val % 128) (chan r.val) := by
  rw [p8_split, p3_at, p4_at, p5_at, p6_at, p7_at, ch_at]
  have e : iota .tc S256x256 32 [1] iota_S256x256_d1_w32 (ix2 r k) = BitVec.ofNat 32 k.val := by pointwise []
  rw [e, km_at]
  exact sgn_word ⟨k.val % 128, Nat.mod_lt _ (by decide)⟩ ⟨r.val % 64 * 2 + r.val % 128 / 64, by omega⟩

theorem eq_word : ∀ a b : Fin 2, IntOp.cmpi .eq (BitVec.ofNat 32 a.val) (BitVec.ofNat 32 b.val) = if a.val = b.val then 1#1 else 0#1 := by decide

/-- Entry `(r, k)` of pair `P`'s matrix: the sign of the Hadamard entry of the row's channel times the channel's own sign,
    zero off the two diagonal blocks. -/
theorem hs_at (x1 : FVec Ideal S32x1x256 .f32) (P : Fin 32) (r k : Fin 256) :
    HSv (F := Ideal) x1 (ix3 P r k)
      = (if r.val / 128 = k.val / 128 then ((sgn 7 (k.val % 128) (chan r.val) : ℝ) : EReal) else 0) * x1 (ix3 P 0 k) := by
  have h1 := word_at r k
  have h2 := p9_at r k
  have h3 := pk_at r k
  pointwise [HSv, hsOf, k0_pay13, sgnRow] at h3 ⊢
  rw [h3, h2, eq_word ⟨r.val / 128, by omega⟩ ⟨k.val / 128, by omega⟩]
  by_cases e : r.val / 128 = k.val / 128
  · rw [if_pos e, if_pos e, ← h1]
    rfl
  · rw [if_neg e, if_neg e, zero_mul]
    rfl

end Cert.KernelIdeal.Hand

end
-- ==== Proof.Hand.Payload.lean ====
/- The values of the kernel's payloads on exact numbers, element by element. -/
module

public import proofs.«01_k».proof.Proof.Hand.Spec
public import Idealize.ShloMosaic.Lib.Pointwise
public import Idealize.ShloMosaic.Lib.BitcastPair

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A value's code before packing: rounded to an integer, clipped to -7 … 7, read as a 32-bit integer. -/
def codeW (v : EReal) : BitVec 32 :=
  Ideal.fptosi 32 (min (Ideal.ofBits .f32 1088421888#32) (max (Ideal.ofBits .f32 3235905536#32)
    (Ideal.liftRound Ideal.roundHalfEven v)))

/-- The pair of 16-bit halves of a packed word. -/
theorem half_low (lo hi : BitVec 16) : (hi ++ lo : BitVec 32).extractLsb' (16 * 0) 16 = lo := by
  apply BitVec.eq_of_getLsbD_eq
  intro i hi'
  rw [BitVec.getLsbD_extractLsb', BitVec.getLsbD_append, if_pos (by omega)]
  simp [hi']

theorem half_high (lo hi : BitVec 16) : (hi ++ lo : BitVec 32).extractLsb' (16 * 1) 16 = hi := by
  apply BitVec.eq_of_getLsbD_eq
  intro i hi'
  rw [BitVec.getLsbD_extractLsb', BitVec.getLsbD_append, if_neg (by omega)]
  simp [hi']

theorem low_nib (lo hi : BitVec 16) : (hi ++ lo : BitVec 32) &&& 15#32 = (lo &&& 15#16).setWidth 32 := by
  apply BitVec.eq_of_getLsbD_eq
  intro i hi'
  have h15 : ∀ i < 32, (15#32).getLsbD i = decide (i < 4) := by decide
  have h16 : ∀ i < 32, (15#16).getLsbD i = decide (i < 4) := by decide
  rw [BitVec.getLsbD_and, BitVec.getLsbD_setWidth, BitVec.getLsbD_and, BitVec.getLsbD_append, h15 i hi', h16 i hi']
  by_cases h : i < 4 <;> simp [h]
  have : i < 16 := by omega
  simp [this]; omega

theorem high_nib (lo hi : BitVec 16) : (hi ++ lo : BitVec 32).sshiftRight 16 &&& 15#32 = (hi &&& 15#16).setWidth 32 := by
  apply BitVec.eq_of_getLsbD_eq
  intro i hi'
  have h15 : ∀ i < 32, (15#32).getLsbD i = decide (i < 4) := by decide
  have h16 : ∀ i < 32, (15#16).getLsbD i = decide (i < 4) := by decide
  rw [BitVec.getLsbD_and, BitVec.getLsbD_setWidth, BitVec.getLsbD_and, BitVec.getLsbD_sshiftRight, BitVec.getLsbD_append, h15 i hi', h16 i hi']
  by_cases h : i < 4 <;> simp [h]
  have : 16 + i < 32 := by omega
  have h1 : i < 32 := by omega
  have h2 : ¬ 32 ≤ i := by omega
  simp [this, h1, h2]

theorem nib_word (x : BitVec 32) : ((((x.setWidth 16).setWidth 8).setWidth 4).signExtend 16 &&& 15#16).setWidth 32
    = (x.setWidth 8).signExtend 32 &&& 15#32 := by
  apply BitVec.eq_of_getLsbD_eq
  intro i hi'
  have h15 : ∀ i < 32, (15#32).getLsbD i = decide (i < 4) := by decide
  have h16 : ∀ i < 32, (15#16).getLsbD i = decide (i < 4) := by decide
  rw [BitVec.getLsbD_and, BitVec.getLsbD_setWidth, BitVec.getLsbD_and, h15 i hi', h16 i hi']
  by_cases h : i < 4
  · have h8 : i < 8 := by omega
    have h16 : i < 16 := by omega
    simp [h, BitVec.getLsbD_signExtend, BitVec.getLsbD_setWidth, BitVec.getElem_signExtend, h8, h16, hi']
  · simp [h]

theorem byte_eq (lo hi : BitVec 32) :
    BitVec.setWidth 8 (IntOp.ori
      (IntOp.andi (((((hi.setWidth 16).setWidth 8).setWidth 4).signExtend 16 ++ (((lo.setWidth 16).setWidth 8).setWidth 4).signExtend 16 : BitVec 32)) 15#32)
      (IntOp.shli ArithUnit.vector (IntOp.andi (IntOp.shrsi ArithUnit.vector
        (((((hi.setWidth 16).setWidth 8).setWidth 4).signExtend 16 ++ (((lo.setWidth 16).setWidth 8).setWidth 4).signExtend 16 : BitVec 32)) 16#32) 15#32) 4#32))
    = BitVec.setWidth 8 (((lo.setWidth 8).signExtend 32 &&& 15#32) ||| (((hi.setWidth 8).signExtend 32 &&& 15#32) <<< 4)) := by
  have e1 : ∀ x : BitVec 32, IntOp.shrsi ArithUnit.vector x 16#32 = x.sshiftRight 16 := fun x => rfl
  have e2 : ∀ x : BitVec 32, IntOp.shli ArithUnit.vector x 4#32 = x <<< 4 := fun x => rfl
  rw [e1, e2]
  unfold IntOp.ori IntOp.andi
  rw [low_nib, high_nib, nib_word, nib_word]

theorem src_lo (a : Fin 256) (b : Fin 128) (p : ℕ) (hp) (h : p < 512) :
    bitcasts_S512x128_w16_S256x128_w32.srcIdx (ix2 a b) p hp = ix2 ⟨p, h⟩ b := by
  funext x
  match x with
  | ⟨0, _⟩ => exact Fin.ext rfl
  | ⟨1, _⟩ => exact Fin.ext rfl

theorem src_hi (a : Fin 512) (b : Fin 128) (p : ℕ) (hp) (h : p < 256) :
    bitcasts_S256x128_w32_S512x128_w16.srcIdx (ix2 a b) p hp = ix2 ⟨p, h⟩ b := by
  funext x
  match x with
  | ⟨0, _⟩ => exact Fin.ext rfl
  | ⟨1, _⟩ => exact Fin.ext rfl

theorem unpack_at (x : IVec S256x128 32) (a : Fin 512) (b : Fin 128) :
    bitcast S512x128 16 x bitcasts_S256x128_w32_S512x128_w16 (ix2 a b)
      = (x (ix2 ⟨a.val / 2, by omega⟩ b)).extractLsb' (16 * (a.val % 2)) 16 := by
  rw [bitcast_32_16]
  exact congrArg (fun i => (x i).extractLsb' (16 * (a.val % 2)) 16) (src_hi a b _ _ (by show a.val / 2 < 256; omega))

theorem repack_at (x : IVec S512x128 16) (a : Fin 256) (b : Fin 128) :
    bitcast S256x128 32 x bitcasts_S512x128_w16_S256x128_w32 (ix2 a b)
      = (x (ix2 ⟨2 * a.val + 1, by omega⟩ b) ++ x (ix2 ⟨2 * a.val, by omega⟩ b) : BitVec 32) := by
  rw [bitcast_16_32]
  exact congrArg₂ (fun i j => (x i ++ x j : BitVec 32)) (src_lo a b _ _ (by show 2 * a.val + 1 < 512; omega)) (src_lo a b _ _ (by show 2 * a.val < 512; omega))

theorem pack_at (Q : IVec S128x256 32) (a : Fin 256) (b : Fin 128) :
    bitcast S256x128 32 (extsi 16 (trunci 4 (trunci 8 (bitcast S512x128 16 (transpose S256x128 [1, 0] Q
      transposes_S128x256_p1_0_S256x128) bitcasts_S256x128_w32_S512x128_w16) natLt_8_16) natLt_4_8) natLt_4_16)
      bitcasts_S512x128_w16_S256x128_w32 (ix2 a b)
    = (((((Q (ix2 b a)).extractLsb' (16 * 1) 16).setWidth 8).setWidth 4).signExtend 16
      ++ ((((Q (ix2 b a)).extractLsb' (16 * 0) 16).setWidth 8).setWidth 4).signExtend 16 : BitVec 32) := by
  have u : ∀ (r : Fin 512) (o : ℕ), r.val / 2 = a.val → r.val % 2 = o →
      (extsi 16 (trunci 4 (trunci 8 (bitcast S512x128 16 (transpose S256x128 [1, 0] Q
        transposes_S128x256_p1_0_S256x128) bitcasts_S256x128_w32_S512x128_w16) natLt_8_16) natLt_4_8) natLt_4_16 : IVec S512x128 16) (ix2 r b)
      = ((((Q (ix2 b a)).extractLsb' (16 * o) 16).setWidth 8).setWidth 4).signExtend 16 := by
    intro r o h1 h2
    subst h2
    have e := unpack_at (transpose S256x128 [1, 0] Q transposes_S128x256_p1_0_S256x128) r b
    rw [show (⟨r.val / 2, by omega⟩ : Fin 256) = a from Fin.ext h1] at e
    pointwise [] at e ⊢
    rw [e]
  rw [repack_at, u _ 1 (by show (2 * a.val + 1) / 2 = _; omega) (by show (2 * a.val + 1) % 2 = _; omega),
    u _ 0 (by show (2 * a.val) / 2 = _; omega) (by show (2 * a.val) % 2 = _; omega)]

/-- The codes of one group of 128 channels, before packing. -/
def quantV (Y : FVec Ideal S128x256 .f32) (r : FVec Ideal S1x1x256 .f32) : IVec S128x256 32 :=
  fptosi 32 (minimumf (broadcast S128x256 (FloatOps.ofBits (F := Ideal) FTy.f32 1088421888#32))
    (maximumf (broadcast S128x256 (FloatOps.ofBits FTy.f32 3235905536#32))
      (roundeven (mulf Y (broadcastTo S128x256 (shapeCast S1x256 r shapeCasts_S1x1x256_S1x256)
        broadcasts_S1x256_S128x256)))))

theorem quantV_at (Y : FVec Ideal S128x256 .f32) (r : FVec Ideal S1x1x256 .f32) (c : Fin 128) (b : Fin 256) :
    quantV Y r (ix2 c b) = codeW (Y (ix2 c b) * r (ix3 0 0 b)) := by
  pointwise [codeW, quantV]
  rfl

/-- A group's packed words: its low 64 channels in the low half, its high 64 in the high half. -/
def packV (q : IVec S128x256 32) : IVec S64x256 32 :=
  packElementwiseI16 (extractStridedSlice S64x256 ![0, 0] q slices_S128x256_o0_0_S64x256)
    (extractStridedSlice S64x256 ![64, 0] q slices_S128x256_o64_0_S64x256)

theorem packV_at (q : IVec S128x256 32) (a : Fin 64) (b : Fin 256) :
    packV q (ix2 a b) = ((q (ix2 ⟨64 + a.val, by omega⟩ b)).setWidth 16 ++ (q (ix2 ⟨a.val, by omega⟩ b)).setWidth 16 : BitVec 32) := by
  pointwise [packV]

theorem bothV_at (p₀ p₁ : IVec S64x256 32) (a : Fin 128) (b : Fin 256) :
    concatenate S128x256 0 [⟨S64x256, p₀⟩, ⟨S64x256, p₁⟩] concatenates_S64x256_S64x256_S128x256_d0 (ix2 a b)
      = if a.val < 64 then p₀ (ix2 ⟨a.val % 64, by omega⟩ b) else p₁ (ix2 ⟨a.val % 64, by omega⟩ b) := by
  pointwise []
  by_cases h : a.val < 64
  · rw [dif_pos h, if_pos h]
    exact congrArg (fun i => p₀ (ix2 i b)) (Fin.ext (Nat.mod_eq_of_lt h).symm)
  · rw [dif_neg h, if_neg h]
    exact congrArg (fun i => p₁ (ix2 i b)) (Fin.ext (by show a.val - 64 = a.val % 64; omega))

theorem pay55_eq (Y : FVec Ideal S256x256 .f32) (ra rb : FVec Ideal S1x1x256 .f32) :
    k0_pay55 (F := Ideal) Y ra rb = bitcast S256x128 32 (extsi 16 (trunci 4 (trunci 8 (bitcast S512x128 16 (transpose S256x128 [1, 0]
      (concatenate S128x256 0 [⟨S64x256, packV (quantV (extractStridedSlice S128x256 ![0, 0] Y slices_S256x256_o0_0_S128x256) ra)⟩,
        ⟨S64x256, packV (quantV (extractStridedSlice S128x256 ![128, 0] Y slices_S256x256_o128_0_S128x256) rb)⟩] concatenates_S64x256_S64x256_S128x256_d0)
      transposes_S128x256_p1_0_S256x128) bitcasts_S256x128_w32_S512x128_w16) natLt_8_16) natLt_4_8) natLt_4_16)
      bitcasts_S512x128_w16_S256x128_w32 := rfl

theorem sliceA_at (Y : FVec Ideal S256x256 .f32) (c : Fin 128) (b : Fin 256) :
    extractStridedSlice S128x256 ![0, 0] Y slices_S256x256_o0_0_S128x256 (ix2 c b) = Y (ix2 ⟨c.val, by omega⟩ b) := by
  pointwise []

theorem sliceB_at (Y : FVec Ideal S256x256 .f32) (c : Fin 128) (b : Fin 256) :
    extractStridedSlice S128x256 ![128, 0] Y slices_S256x256_o128_0_S128x256 (ix2 c b) = Y (ix2 ⟨128 + c.val, by omega⟩ b) := by
  pointwise []

/-- The byte of two codes: the first in the low nibble, the second in the high one. -/
def byteOf (lo hi : BitVec 32) : BitVec 8 :=
  BitVec.setWidth 8 (((lo.setWidth 8).signExtend 32 &&& 15#32) ||| (((hi.setWidth 8).signExtend 32 &&& 15#32) <<< 4))

/-- A byte of the pair's codes: lane `64 g + b` of row `a` packs channels `2 b` and `2 b + 1` of group `g`, which the
    matmul left in rows `128 g + b` and `128 g + 64 + b`. -/
theorem cod_at (Y : FVec Ideal S256x256 .f32) (ra rb : FVec Ideal S1x1x256 .f32) (a : Fin 256) (b : Fin 128) :
    cod (F := Ideal) Y ra rb (ix2 a b)
      = byteOf (codeW (Y (ix2 ⟨128 * (b.val / 64) + b.val % 64, by omega⟩ a) * (if b.val < 64 then ra else rb) (ix3 0 0 a)))
          (codeW (Y (ix2 ⟨128 * (b.val / 64) + (64 + b.val % 64), by omega⟩ a) * (if b.val < 64 then ra else rb) (ix3 0 0 a))) := by
  pointwise [cod, k0_pay58, k0_pay56, k0_pay57]
  rw [pay55_eq, pack_at, bothV_at]
  split_ifs with h
  · rw [packV_at, half_low, half_high, quantV_at, quantV_at, sliceA_at, sliceA_at, byte_eq]
    unfold byteOf
    have e : 128 * (b.val / 64) = 0 := by omega
    simp only [e, Nat.zero_add]
  · rw [packV_at, half_low, half_high, quantV_at, quantV_at, sliceB_at, sliceB_at, byte_eq]
    unfold byteOf
    have e : 128 * (b.val / 64) = 128 := by omega
    simp only [e]

/-- The smallest f32 value word reads as the bottom. -/
theorem ofBits_bot : Ideal.ofBits .f32 4286578688#32 = ⊥ := by
  simp [Ideal.ofBits, Ideal.ieee]

/-- The absolute value of an extended real. -/
def absE (x : EReal) : EReal := max x (-x)

theorem ofBits_seven : Ideal.ofBits .f32 1088421888#32 = ((7 : ℝ) : EReal) := by
  simp [Ideal.ofBits, Ideal.ieee, -EReal.coe_mul]; norm_num

/-- The factor of the transform's normalisation. -/
def nrmR : ℝ := 11863283 * (2 ^ 27 : ℝ)⁻¹

theorem nrmR_pos : 0 < nrmR := by unfold nrmR; positivity

theorem ofBits_nrm : Ideal.ofBits .f32 1035273459#32 = ((nrmR : ℝ) : EReal) := by
  unfold nrmR
  simp [Ideal.ofBits, Ideal.ieee, -EReal.coe_mul]

theorem y_at (w : FVec Ideal S256x256 .bf16) (h : FVec Ideal S1x256x256 .bf16) (r q : Fin 256) :
    k0_pay14 (F := Ideal) w h (ix2 r q) = ∑ k : Fin 256, h (ix3 0 r k) * w (ix2 q k) := by
  pointwise [k0_pay14]

theorem m0_at (w : FVec Ideal S256x256 .bf16) (h : FVec Ideal S1x256x256 .bf16) (t : Fin 8) (q : Fin 256) :
    k0_pay15 (F := Ideal) w h (ix2 t q) = Finset.univ.fold max ⊥
      (fun u : Fin 16 => absE (k0_pay14 (F := Ideal) w h (ix2 ⟨8 * u.val + t.val, by omega⟩ q))) := by
  pointwise [k0_pay15]
  rw [ofBits_bot]
  congr 1
  funext u
  exact congrArg (fun i => absE (k0_pay14 (F := Ideal) w h (ix2 i q))) (Fin.ext (by show u.val * 8 + t.val = 8 * u.val + t.val; omega))

theorem m1_at (w : FVec Ideal S256x256 .bf16) (h : FVec Ideal S1x256x256 .bf16) (t : Fin 8) (q : Fin 256) :
    k0_pay18 (F := Ideal) w h (ix2 t q) = Finset.univ.fold max ⊥
      (fun u : Fin 16 => absE (k0_pay14 (F := Ideal) w h (ix2 ⟨128 + (8 * u.val + t.val), by omega⟩ q))) := by
  pointwise [k0_pay18]
  rw [ofBits_bot]
  congr 1
  funext u
  exact congrArg (fun i => absE (k0_pay14 (F := Ideal) w h (ix2 i q))) (Fin.ext (by show 128 + (u.val * 8 + t.val) = 128 + (8 * u.val + t.val); omega))

/-- A group's scale from its largest absolute value: a seventh, or one for a group of zeros. -/
def scaleE (a : EReal) : EReal := if a = 0 then 1 else Ideal.div a (Ideal.ofBits .f32 1088421888#32)

theorem fold8 (f : Fin 8 → EReal) : Finset.univ.fold max ⊥ f
    = max (max (max (max (max (max (max (f 0) (f 1)) (f 2)) (f 3)) (f 4)) (f 5)) (f 6)) (f 7) := by
  show Finset.univ.sup f = _
  apply le_antisymm
  · refine Finset.sup_le fun i _ => ?_
    fin_cases i <;> simp
  · simp only [max_le_iff]
    refine ⟨⟨⟨⟨⟨⟨⟨?_, ?_⟩, ?_⟩, ?_⟩, ?_⟩, ?_⟩, ?_⟩, ?_⟩ <;> exact Finset.le_sup (f := f) (Finset.mem_univ _)

theorem scl_at (T : Fin 8 → FVec Ideal S1x1x8x128 .f32) (a : Fin 8) (b : Fin 128) :
    sclOf (F := Ideal) T (ix2 a b) = scaleE (Finset.univ.fold max ⊥ (fun t => T t (ix4 0 0 a b)) * Ideal.ofBits .f32 1035273459#32) := by
  pointwise [sclOf, k0_pay47, k0_pay46]
  rw [fold8]
  rfl

theorem pay2_at (S : FVec Ideal S4x16x256 .f32) (a : Fin 64) (b : Fin 256) :
    k0_pay2 (F := Ideal) S (ix3 0 a b) = S (ix3 ⟨a.val / 16, by omega⟩ ⟨a.val % 16, by omega⟩ b) := by
  pointwise [k0_pay2]

end Cert.KernelIdeal.Hand

end
-- ==== Proof.Hand.Sums.lean ====
/- Sums and maxima behind the element equation of the kernel: its signed sum of a group against the butterfly of the reference. -/
module

public import proofs.«01_k».proof.Proof.Hand.Matrix
public import proofs.«01_k».proof.Proof.Hand.Payload

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.Hand (sgn stages stages_eq sgn_congr_right stepE stepE_coe stagesE)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over two blocks of 128 of which only one is not zero. -/
theorem half_sum (f : ℕ → EReal) (h : ℕ) (hh : h < 2) :
    ∑ k ∈ Finset.range 256, (if h = k / 128 then f k else 0) = ∑ k ∈ Finset.range 128, f (128 * h + k) := by
  rw [show 256 = 128 + 128 from rfl, Finset.sum_range_add]
  have e : ∀ b : ℕ, ∑ k ∈ Finset.range 128, (if h = (128 * b + k) / 128 then f (128 * b + k) else 0)
      = if h = b then ∑ k ∈ Finset.range 128, f (128 * b + k) else 0 := fun b => by
    split_ifs with hb
    · refine Finset.sum_congr rfl fun k hk => ?_
      rw [if_pos (by have := Finset.mem_range.mp hk; omega)]
    · refine Finset.sum_eq_zero fun k hk => ?_
      rw [if_neg (by have := Finset.mem_range.mp hk; omega)]
  have e0 := e 0
  have e1 := e 1
  simp only [Nat.mul_zero, Nat.zero_add, Nat.mul_one] at e0 e1
  rw [e0, e1]
  interval_cases h <;> simp

/-- The signed sum of the group of `d`: what the matrix's row against the group comes to. -/
def flat (x : ℕ → EReal) (d : ℕ) : EReal :=
  ∑ k ∈ Finset.range 128, ((sgn 7 k d : ℝ) : EReal) * x (128 * (d / 128) + k)

/-- The matrix's row against a pair of groups: only the row's own group counts. -/
theorem pair_sum (x : ℕ → EReal) (P r : ℕ) (hr : r < 256) :
    ∑ k : Fin 256, (if r / 128 = k.val / 128 then ((sgn 7 (k.val % 128) (chan r) : ℝ) : EReal) else 0) * x (256 * P + k.val)
      = flat x (256 * P + 128 * (r / 128) + chan r) := by
  have hc : chan r < 128 := by unfold chan; omega
  rw [Fin.sum_univ_eq_sum_range (fun k => (if r / 128 = k / 128 then ((sgn 7 (k % 128) (chan r) : ℝ) : EReal) else 0) * x (256 * P + k)) 256]
  have e : ∀ k ∈ Finset.range 256, (if r / 128 = k / 128 then ((sgn 7 (k % 128) (chan r) : ℝ) : EReal) else 0) * x (256 * P + k)
      = (if r / 128 = k / 128 then (fun k => ((sgn 7 (k % 128) (chan r) : ℝ) : EReal) * x (256 * P + k)) k else 0) := fun k _ => by
    split_ifs
    · rfl
    · rw [zero_mul]
  rw [Finset.sum_congr rfl e, half_sum _ _ (by omega)]
  unfold flat
  refine Finset.sum_congr rfl fun k hk => ?_
  have hk' := Finset.mem_range.mp hk
  have ed : (256 * P + 128 * (r / 128) + chan r) / 128 = 2 * P + r / 128 := by omega
  rw [ed, sgn_congr_right 7 k _ (chan r) (by rw [show (2 : ℕ) ^ 7 = 128 from rfl]; omega)]
  show ((sgn 7 ((128 * (r / 128) + k) % 128) (chan r) : ℝ) : EReal) * x (256 * P + (128 * (r / 128) + k)) = _
  rw [show (128 * (r / 128) + k) % 128 = k by omega, show 256 * P + (128 * (r / 128) + k) = 128 * (2 * P + r / 128) + k by omega]

/-- The largest of 8 times 16 values, taken in two steps in the rows' order, is the largest of the group's 128. -/
theorem sup_rows (f : ℕ → EReal) (h : ℕ) :
    Finset.univ.fold max ⊥ (fun t : Fin 8 => Finset.univ.fold max ⊥ (fun u : Fin 16 => f (chan (128 * h + (8 * u.val + t.val)))))
      = Finset.univ.fold max ⊥ (fun k : Fin 128 => f k.val) := by
  show Finset.univ.sup (fun t : Fin 8 => Finset.univ.sup (fun u : Fin 16 => f (chan (128 * h + (8 * u.val + t.val))))) = Finset.univ.sup (fun k : Fin 128 => f k.val)
  apply le_antisymm
  · refine Finset.sup_le fun t _ => Finset.sup_le fun u _ => ?_
    exact Finset.le_sup (f := fun k : Fin 128 => f k.val) (Finset.mem_univ (⟨chan (128 * h + (8 * u.val + t.val)), by unfold chan; omega⟩ : Fin 128))
  · refine Finset.sup_le fun k _ => ?_
    have e : chan (128 * h + (8 * ((k.val / 2 + 64 * (k.val % 2)) / 8) + (k.val / 2 + 64 * (k.val % 2)) % 8)) = k.val := by
      have hk := k.isLt
      rw [Nat.div_add_mod]
      unfold chan
      rcases Nat.mod_two_eq_zero_or_one k.val with h2 | h2 <;> rw [h2] <;> omega
    refine le_trans (le_of_eq (congrArg f e.symm)) ?_
    refine le_trans ?_ (Finset.le_sup (f := fun t : Fin 8 => Finset.univ.sup (fun u : Fin 16 => f (chan (128 * h + (8 * u.val + t.val))))) (Finset.mem_univ (⟨(k.val / 2 + 64 * (k.val % 2)) % 8, Nat.mod_lt _ (by decide)⟩ : Fin 8)))
    exact Finset.le_sup (f := fun u : Fin 16 => f (chan (128 * h + (8 * u.val + (k.val / 2 + 64 * (k.val % 2)) % 8)))) (Finset.mem_univ (⟨(k.val / 2 + 64 * (k.val % 2)) / 8, by omega⟩ : Fin 16))

theorem absE_coe (r : ℝ) : absE (r : EReal) = ((|r| : ℝ) : EReal) := by
  unfold absE
  rw [← EReal.coe_neg]
  rcases le_total 0 r with h | h
  · rw [abs_of_nonneg h, max_eq_left (EReal.coe_le_coe_iff.mpr (by linarith))]
  · rw [abs_of_nonpos h, max_eq_right (EReal.coe_le_coe_iff.mpr (by linarith))]

theorem absE_top (x : EReal) : absE x = ⊤ ↔ x = ⊤ ∨ x = ⊥ := by
  induction x using EReal.rec with
  | bot => simp [absE]
  | top => simp [absE]
  | coe r => rw [absE_coe]; simp

theorem absE_mul (y : EReal) (n : ℝ) (hn : 0 < n) : absE (y * (n : EReal)) = absE y * (n : EReal) := by
  induction y using EReal.rec with
  | bot => simp [absE, EReal.bot_mul_coe_of_pos hn, EReal.top_mul_coe_of_pos hn]
  | top => simp [absE, EReal.bot_mul_coe_of_pos hn, EReal.top_mul_coe_of_pos hn]
  | coe r => rw [← EReal.coe_mul, absE_coe, absE_coe, abs_mul, abs_of_pos hn, EReal.coe_mul]

/-- A positive factor comes out of a largest magnitude. -/
theorem sup_scale (v : Fin 128 → EReal) (n : ℝ) (hn : 0 < n) :
    Finset.univ.fold max ⊥ (fun k => absE (v k)) * (n : EReal) = Finset.univ.fold max ⊥ (fun k => absE (v k * (n : EReal))) := by
  rw [show (fun k => absE (v k * (n : EReal))) = (fun k => absE (v k) * (n : EReal)) from funext fun k => absE_mul _ _ hn]
  show Finset.univ.sup (fun k => absE (v k)) * (n : EReal) = Finset.univ.sup (fun k => absE (v k) * (n : EReal))
  have hm : Monotone (fun y : EReal => y * (n : EReal)) := fun a b hab => mul_le_mul_of_nonneg_right hab (EReal.coe_nonneg.mpr hn.le)
  exact Finset.comp_sup_eq_sup_comp (fun y : EReal => y * (n : EReal)) (fun a b => hm.map_max) (EReal.bot_mul_coe_of_pos hn)

/-- A sum with an infinite term is infinite. -/
theorem absE_add_left (a b : EReal) (h : absE a = ⊤) : absE (a + b) = ⊤ := by
  rw [absE_top] at h ⊢
  rcases h with rfl | rfl
  · induction b using EReal.rec with
    | bot => right; rfl
    | top => left; rfl
    | coe r => left; exact EReal.top_add_coe r
  · right; exact EReal.bot_add b

theorem absE_add_right (a b : EReal) (h : absE b = ⊤) : absE (a + b) = ⊤ := by
  rw [add_comm]; exact absE_add_left b a h

theorem absE_neg (a : EReal) : absE (-a) = absE a := by
  unfold absE; rw [neg_neg, max_comm]

theorem absE_sub_left (a b : EReal) (h : absE a = ⊤) : absE (a - b) = ⊤ := by
  rw [sub_eq_add_neg]; exact absE_add_left _ _ h

theorem absE_sub_right (a b : EReal) (h : absE b = ⊤) : absE (a - b) = ⊤ := by
  rw [sub_eq_add_neg]; exact absE_add_right _ _ ((absE_neg b).trans h)

theorem absE_sum (s : Finset ℕ) (f : ℕ → EReal) (k : ℕ) (hk : k ∈ s) (h : absE (f k) = ⊤) : absE (∑ i ∈ s, f i) = ⊤ := by
  classical
  rw [← Finset.add_sum_erase s f hk]; exact absE_add_left _ _ h

theorem sgn_one (n k d : ℕ) : sgn n k d = 1 ∨ sgn n k d = -1 := by
  induction n with
  | zero => left; rfl
  | succ n ih =>
    unfold sgn
    rcases ih with h | h <;> rw [h] <;> split_ifs <;> simp

theorem absE_sgn (n k d : ℕ) (a : EReal) : absE (((sgn n k d : ℝ) : EReal) * a) = absE a := by
  rcases sgn_one n k d with h | h <;> rw [h]
  · simp
  · rw [show ((((-1 : ℤ) : ℝ)) : EReal) = -1 by norm_num, neg_one_mul, absE_neg]

/-- The butterfly's one step over a run keeps an infinite value in each of the two places it reaches. -/
theorem stepE_inf (n : ℕ) (hn : n < 7) (y : ℕ → EReal) (d k : ℕ) (hk : k / 2 ^ (n + 1) = d / 2 ^ (n + 1))
    (h : ∀ e, k / 2 ^ n = e / 2 ^ n → absE (y e) = ⊤) : absE (stepE (2 ^ n) y d) = ⊤ := by
  unfold stepE
  split_ifs with hd
  · have : k / 2 ^ n = d / 2 ^ n ∨ k / 2 ^ n = (d + 2 ^ n) / 2 ^ n := by interval_cases n <;> norm_num at hk hd ⊢ <;> omega
    rcases this with e | e
    · exact absE_add_left _ _ (h _ e)
    · exact absE_add_right _ _ (h _ e)
  · have : k / 2 ^ n = d / 2 ^ n ∨ k / 2 ^ n = (d - 2 ^ n) / 2 ^ n := by interval_cases n <;> norm_num at hk hd ⊢ <;> omega
    rcases this with e | e
    · exact absE_sub_right _ _ (h _ e)
    · exact absE_sub_left _ _ (h _ e)

theorem stagesE_inf (x : ℕ → EReal) (k : ℕ) (h : absE (x k) = ⊤) (n : ℕ) :
    n ≤ 7 → ∀ d, k / 2 ^ n = d / 2 ^ n → absE (stagesE n x d) = ⊤ := by
  induction n with
  | zero => intro _ d hd; rw [Nat.pow_zero, Nat.div_one, Nat.div_one] at hd; rw [← hd]; exact h
  | succ n ih => intro hn d hd; exact stepE_inf n (by omega) _ d k hd (ih (by omega))

/-- Over a group of real values the butterfly is the real one. -/
theorem stagesE_real (x : ℕ → EReal) (r : ℕ → ℝ) (G : ℕ) (h : ∀ k, k / 128 = G → x k = ((r k : ℝ) : EReal)) (n : ℕ) :
    n ≤ 7 → ∀ d, d / 128 = G → stagesE n x d = ((stages n r d : ℝ) : EReal) := by
  induction n with
  | zero => intro _ d hd; exact h d hd
  | succ n ih =>
    intro hn d hd
    refine Eq.trans ?_ (stepE_coe (2 ^ n) (stages n r) d)
    show stepE (2 ^ n) (stagesE n x) d = _
    unfold stepE
    have hn7 : n < 7 := hn
    split_ifs with hp
    · rw [ih (by omega) d hd, ih (by omega) (d + 2 ^ n) (by interval_cases n <;> norm_num at hp ⊢ <;> omega)]
    · rw [ih (by omega) d hd, ih (by omega) (d - 2 ^ n) (by interval_cases n <;> norm_num at hp ⊢ <;> omega)]

theorem real_or_inf (x : EReal) : absE x = ⊤ ∨ x = ((x.toReal : ℝ) : EReal) := by
  induction x using EReal.rec with
  | bot => left; simp [absE]
  | top => left; simp [absE]
  | coe r => right; rfl

/-- The signed sum and the butterfly are the same value, or both infinite with their whole group. -/
theorem flat_stages (x : ℕ → EReal) (d : ℕ) : flat x d = stagesE 7 x d
    ∨ ∀ e, e / 128 = d / 128 → absE (flat x e) = ⊤ ∧ absE (stagesE 7 x e) = ⊤ := by
  by_cases hx : ∃ k, k / 128 = d / 128 ∧ absE (x k) = ⊤
  · right
    intro e he
    obtain ⟨k, hk, h⟩ := hx
    refine ⟨?_, stagesE_inf x k h 7 le_rfl e (hk.trans he.symm)⟩
    unfold flat
    refine absE_sum _ _ (k % 128) (Finset.mem_range.mpr (Nat.mod_lt _ (by decide))) ?_
    rw [absE_sgn, he, ← hk, Nat.div_add_mod]
    exact h
  · left
    have hr : ∀ k, k / 128 = d / 128 → x k = (((x k).toReal : ℝ) : EReal) := fun k hk =>
      (real_or_inf (x k)).resolve_left fun h => hx ⟨k, hk, h⟩
    rw [stagesE_real x (fun k => (x k).toReal) _ hr 7 le_rfl d rfl, stages_eq, coe_sum]
    unfold flat
    refine Finset.sum_congr rfl fun k hk => ?_
    have hk' := Finset.mem_range.mp hk
    rw [EReal.coe_mul, show (2 : ℕ) ^ 7 = 128 from rfl, ← hr _ (by omega)]

theorem absE_flat (x : ℕ → EReal) (d : ℕ) : absE (flat x d) = absE (stagesE 7 x d) := by
  rcases flat_stages x d with h | h
  · rw [h]
  · rw [(h d rfl).1, (h d rfl).2]

theorem scaleE_ne (a : EReal) : scaleE a ≠ 0 := by
  unfold scaleE
  split_ifs with h
  · exact one_ne_zero
  · rw [ofBits_seven]
    unfold Ideal.div
    rw [if_neg (by norm_num)]
    rw [← EReal.coe_inv]
    exact mul_ne_zero h (by norm_num)

theorem div_top (y : EReal) : Ideal.div y ⊤ = 0 := by
  unfold Ideal.div
  rw [if_neg (by simp), EReal.inv_top, mul_zero]

theorem scaleE_top : scaleE ⊤ = ⊤ := by
  unfold scaleE
  rw [if_neg (by simp), ofBits_seven]
  unfold Ideal.div
  rw [if_neg (by norm_num), ← EReal.coe_inv]
  exact EReal.top_mul_coe_of_pos (by norm_num)

/-- The scale of group G of transformed values `v`. -/
def grpScale (v : ℕ → EReal) (G : ℕ) : EReal :=
  scaleE (Finset.univ.fold max ⊥ (fun k : Fin 128 => absE (v (128 * G + k.val) * Ideal.ofBits .f32 1035273459#32)))

/-- The code of value `d` of the transformed values `v`: the value over its group's scale. -/
def codeR (v : ℕ → EReal) (d : ℕ) : BitVec 32 :=
  codeW (Ideal.div (v d * Ideal.ofBits .f32 1035273459#32) (grpScale v (d / 128)))

/-- The signed sums and the butterfly have the same scales. -/
theorem grpScale_flat (x : ℕ → EReal) (G : ℕ) : grpScale (flat x) G = grpScale (stagesE 7 x) G := by
  unfold grpScale
  refine congrArg (fun z => scaleE (Finset.univ.fold max ⊥ z)) (funext fun k => ?_)
  rw [ofBits_nrm, absE_mul _ _ nrmR_pos, absE_mul _ _ nrmR_pos, absE_flat]

/-- A group with an infinite transformed value has an infinite scale. -/
theorem grpScale_inf (v : ℕ → EReal) (d : ℕ) (h : absE (v d) = ⊤) : grpScale v (d / 128) = ⊤ := by
  unfold grpScale
  refine (congrArg scaleE (top_le_iff.mp ?_)).trans scaleE_top
  show _ ≤ Finset.univ.sup (fun k : Fin 128 => absE (v (128 * (d / 128) + k.val) * Ideal.ofBits .f32 1035273459#32))
  refine le_trans (le_of_eq ?_) (Finset.le_sup (f := fun k : Fin 128 => absE (v (128 * (d / 128) + k.val) * Ideal.ofBits .f32 1035273459#32)) (Finset.mem_univ (⟨d % 128, Nat.mod_lt _ (by decide)⟩ : Fin 128)))
  show ⊤ = absE (v (128 * (d / 128) + d % 128) * Ideal.ofBits .f32 1035273459#32)
  rw [Nat.div_add_mod, ofBits_nrm, absE_mul _ _ nrmR_pos, h, EReal.top_mul_coe_of_pos nrmR_pos]

/-- The signed sums and the butterfly have the same codes: in a group with an infinite value every code is that of 0. -/
theorem codeR_flat (x : ℕ → EReal) (d : ℕ) : codeR (flat x) d = codeR (stagesE 7 x) d := by
  unfold codeR
  rcases flat_stages x d with h | h
  · rw [grpScale_flat, h]
  · rw [grpScale_inf _ d (h d rfl).1, grpScale_inf _ d (h d rfl).2, div_top, div_top]

/-- Multiplying by the quotient of the factor and the scale is scaling and dividing. -/
theorem mul_div (y n s : EReal) (hs : s ≠ 0) : y * Ideal.div n s = Ideal.div (y * n) s := by
  unfold Ideal.div
  rw [if_neg hs, if_neg hs, mul_assoc]

end Cert.KernelIdeal.Hand

end
-- ==== Proof.Hand.Final.lean ====
/- What the kernel leaves in its two results, element by element, over what each grid point writes. -/
module

public import proofs.«01_k».proof.Proof.Hand.Launch
public import proofs.«01_k».proof.Proof.Hand.Payload
public import Idealize.ShloMosaic.Lib.Claim
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Which block of its array each window takes at a point. -/
theorem idx0 : ∀ t : Fin grid0.N, win0_0.index t 0 = t.val / 4 ∧ win0_0.index t 1 = t.val % 4 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val / 4 ∧ win0_2.index t 1 = t.val % 4 := by decide +kernel
theorem idx3 : ∀ t : Fin grid0.N, win0_3.index t 0 = t.val / 16 ∧ win0_3.index t 1 = 0 ∧ win0_3.index t 2 = t.val / 4 % 4 := by decide +kernel

theorem host_v0 (W : Valuation τ sig (Elt F)) : StableHlo.after (List.flatten [hostOps0]) W (Proc.devRef .tc main_v0) = shapeCast S2048x8192 (W (Proc.devRef .tc main_arg0)) shapeCasts_S2x1024x8192_S2048x8192 := by
  show (StableHlo.after [((StableHlo.reshape main_arg0 main_v0 (rfl : (.bf16 : EltTy) = .bf16) shapeCasts_S2x1024x8192_S2048x8192) : HloOp τ sig (Elt F)), ((StableHlo.reshape main_arg1 main_v1 (rfl : (.f32 : EltTy) = .f32) shapeCasts_S8192_S32x1x256) : HloOp τ sig (Elt F))] W) (Proc.devRef .tc main_v0) = _
  after_results
  try rfl

theorem host_v1 (W : Valuation τ sig (Elt F)) : StableHlo.after (List.flatten [hostOps0]) W (Proc.devRef .tc main_v1) = shapeCast S32x1x256 (W (Proc.devRef .tc main_arg1)) shapeCasts_S8192_S32x1x256 := by
  show (StableHlo.after [((StableHlo.reshape main_arg0 main_v0 (rfl : (.bf16 : EltTy) = .bf16) shapeCasts_S2x1024x8192_S2048x8192) : HloOp τ sig (Elt F)), ((StableHlo.reshape main_arg1 main_v1 (rfl : (.f32 : EltTy) = .f32) shapeCasts_S8192_S32x1x256) : HloOp τ sig (Elt F))] W) (Proc.devRef .tc main_v1) = _
  after_results
  try rfl

theorem host_v3 (W : Valuation τ sig (Elt F)) : StableHlo.after (List.flatten [hostOps1]) W (Proc.devRef .tc main_v3) = shapeCast S2x1024x4096 (W (Proc.devRef .tc main_v2_0)) shapeCasts_S2048x4096_S2x1024x4096 := by
  show (StableHlo.after [((StableHlo.reshape main_v2_0 main_v3 (rfl : (.i8 : EltTy) = .i8) shapeCasts_S2048x4096_S2x1024x4096) : HloOp τ sig (Elt F)), ((StableHlo.unary main_v2_1 main_v4 ((transpose S2x1024x64 [0, 2, 1] · transposes_S2x64x1024_S2x1024x64_0_2_1) : (⟨S2x64x1024, .f32⟩ : BufTy).Contents (Elt F) → (⟨S2x1024x64, .f32⟩ : BufTy).Contents (Elt F))) : HloOp τ sig (Elt F))] W) (Proc.devRef .tc main_v3) = _
  after_results
  try rfl

theorem host_v4 (W : Valuation τ sig (Elt F)) : StableHlo.after (List.flatten [hostOps1]) W (Proc.devRef .tc main_v4) = transpose S2x1024x64 [0, 2, 1] (W (Proc.devRef .tc main_v2_1)) transposes_S2x64x1024_S2x1024x64_0_2_1 := by
  show (StableHlo.after [((StableHlo.reshape main_v2_0 main_v3 (rfl : (.i8 : EltTy) = .i8) shapeCasts_S2048x4096_S2x1024x4096) : HloOp τ sig (Elt F)), ((StableHlo.unary main_v2_1 main_v4 ((transpose S2x1024x64 [0, 2, 1] · transposes_S2x64x1024_S2x1024x64_0_2_1) : (⟨S2x64x1024, .f32⟩ : BufTy).Contents (Elt F) → (⟨S2x1024x64, .f32⟩ : BufTy).Contents (Elt F))) : HloOp τ sig (Elt F))] W) (Proc.devRef .tc main_v4) = _
  after_results
  try rfl

theorem V_v0 (c : Dev nD) : V m c main_v0 = shapeCast S2048x8192 (m ((c : Thread nD τ).loc main_arg0)) shapeCasts_S2x1024x8192_S2048x8192 := host_v0 _
theorem V_v1 (c : Dev nD) : V m c main_v1 = shapeCast S32x1x256 (m ((c : Thread nD τ).loc main_arg1)) shapeCasts_S8192_S32x1x256 := host_v1 _

theorem flat_w (X : FVec F S2x1024x8192 .bf16) (r : Fin 2048) (d : Fin 8192) :
    shapeCast S2048x8192 X shapeCasts_S2x1024x8192_S2048x8192 (ix2 r d) = X (ix3 ⟨r.val / 1024, by omega⟩ ⟨r.val % 1024, Nat.mod_lt _ (by decide)⟩ d) := by
  pointwise []
theorem flat_s (X : FVec F S8192 .f32) (p : Fin 32) (z : Fin 1) (k : Fin 256) :
    shapeCast S32x1x256 X shapeCasts_S8192_S32x1x256 (ix3 p z k) = X (ix1 ⟨256 * p.val + k.val, by omega⟩) := by
  pointwise []
  exact congrArg (fun a => X (ix1 a)) (Fin.ext (by show p.val * 256 + k.val = 256 * p.val + k.val; omega))

theorem lt32 (t : Fin grid0.N) : t.val < 32 := lt_of_lt_of_eq t.isLt N_0

theorem iblk0 (c : Dev nD) (t : Fin cfg0.N) (a : Fin 256) (b : Fin 2048) :
    iblk m c 0 t (ix2 a b) = (m ((c : Thread nD τ).loc main_arg0) : FVec F S2x1024x8192 .bf16)
      (ix3 ⟨(256 * (t.val / 4) + a.val) / 1024, by have := lt32 t; omega⟩ ⟨(256 * (t.val / 4) + a.val) % 1024, Nat.mod_lt _ (by decide)⟩ ⟨2048 * (t.val % 4) + b.val, by omega⟩) := by
  have e : iblk m c 0 t (ix2 a b) = V m c main_v0 (ix2 ⟨256 * (t.val / 4) + a.val, by have := lt32 t; omega⟩ ⟨2048 * (t.val % 4) + b.val, by omega⟩) := by
    blk_ext [iblk, idx0 t]
  rw [e, V_v0, flat_w]

theorem iblk1 (c : Dev nD) (t : Fin cfg0.N) (p : Fin 32) (z : Fin 1) (k : Fin 256) :
    iblk m c 1 t (ix3 p z k) = (m ((c : Thread nD τ).loc main_arg1) : FVec F S8192 .f32) (ix1 ⟨256 * p.val + k.val, by omega⟩) := by
  have e : iblk m c 1 t (ix3 p z k) = V m c main_v1 (ix3 p z k) := by
    blk_ext [iblk, idx1 t]
  rw [e, V_v1, flat_s]

theorem after_codes (c : Dev nD) :
    Pipeline.afterTail₀ cfgs (dats m) 0 (V0 m) [hostOps1] c main_v3 = shapeCast S2x1024x4096 ((dats m 0 c).arrAt 2 cfg0.N) shapeCasts_S2048x4096_S2x1024x4096 := by
  unfold Pipeline.afterTail₀
  exact (host_v3 _).trans (congrArg (fun X => shapeCast S2x1024x4096 X shapeCasts_S2048x4096_S2x1024x4096) (Pipeline.withArrays_arr (cfgs 0).spec launch0.win.arr_inj c (V0 m c) _ 2))

theorem after_scales (c : Dev nD) :
    Pipeline.afterTail₀ cfgs (dats m) 0 (V0 m) [hostOps1] c main_v4 = transpose S2x1024x64 [0, 2, 1] ((dats m 0 c).arrAt 3 cfg0.N) transposes_S2x64x1024_S2x1024x64_0_2_1 := by
  unfold Pipeline.afterTail₀
  exact (host_v4 _).trans (congrArg (fun X => transpose S2x1024x64 [0, 2, 1] X transposes_S2x64x1024_S2x1024x64_0_2_1) (Pipeline.withArrays_arr (cfgs 0).spec launch0.win.arr_inj c (V0 m c) _ 3))

/-- The codes of the whole array, element by element: what the point owning the element wrote. -/
def codesAll (c : Dev nD) : IVec S2048x4096 8 := fun y =>
  coAt m c ⟨4 * ((y 0).val / 256) + (y 1).val / 1024, lt_of_lt_of_eq (by have := Fin.isLt (n := 2048) (y 0); have := Fin.isLt (n := 4096) (y 1); omega) N_0.symm⟩
    (ix2 ⟨(y 0).val % 256, Nat.mod_lt _ (by decide)⟩ ⟨(y 1).val % 1024, Nat.mod_lt _ (by decide)⟩)

def scalesAll (c : Dev nD) : FVec F S2x64x1024 .f32 := fun y =>
  scAt m c ⟨16 * (y 0).val + 4 * ((y 2).val / 256) + 3, lt_of_lt_of_eq (by have := Fin.isLt (n := 2) (y 0); have := Fin.isLt (n := 1024) (y 2); omega) N_0.symm⟩
    (ix3 0 (y 1) ⟨(y 2).val % 256, Nat.mod_lt _ (by decide)⟩)

theorem coAt_congr (c : Dev nD) (t t' : Fin cfg0.N) (y y' : S256x1024.Idx) (ht : t = t') (hy : y = y') : coAt m c t y = coAt m c t' y' := by
  rw [ht, hy]
theorem scAt_congr (c : Dev nD) (t t' : Fin cfg0.N) (y y' : S1x64x256.Idx) (ht : t = t') (hy : y = y') : scAt m c t y = scAt m c t' y' := by
  rw [ht, hy]

/-- The codes after the run. -/
theorem arr2 (c : Dev nD) : (dats m 0 c).arrAt 2 cfg0.N = codesAll m c := by
  refine (dats m 0 c).arrAt_eq_of_covers 2 _ (by decide +kernel) fun t hf y => ?_
  blk_simp
  rw [after0_2]
  blk_simp [codesAll, idx2 t]
  have h0 : (y 0).val < 256 := Fin.isLt (n := 256) (y 0)
  have h1 : (y 1).val < 1024 := Fin.isLt (n := 1024) (y 1)
  refine coAt_congr m c _ _ _ _ (Fin.ext ?_) (funext fun a => ?_)
  · show t.val = 4 * ((t.val / 4 * 256 + (y 0).val) / 256) + (t.val % 4 * 1024 + (y 1).val) / 1024
    omega
  · match a with
    | ⟨0, _⟩ => exact Fin.ext (by show (y 0).val = (t.val / 4 * 256 + (y 0).val) % 256; omega)
    | ⟨1, _⟩ => exact Fin.ext (by show (y 1).val = (t.val % 4 * 1024 + (y 1).val) % 1024; omega)

/-- The scales after the run. -/
theorem arr3 (c : Dev nD) : (dats m 0 c).arrAt 3 cfg0.N = scalesAll m c := by
  refine (dats m 0 c).arrAt_eq_of_covers 3 _ (by decide +kernel) fun t hf y => ?_
  have hm : t.val % 4 = 3 := (flush0_3 t).mp hf
  blk_simp
  rw [after0_3]
  unfold scalesAll
  have h0 : (y 0).val < 1 := Fin.isLt (n := 1) (y 0)
  have h1 : (y 1).val < 64 := Fin.isLt (n := 64) (y 1)
  have h2 : (y 2).val < 256 := Fin.isLt (n := 256) (y 2)
  have e0 : (((win0_3.blk t).view.emb y) 0).val = t.val / 16 := by blk_simp [idx3 t]; try omega
  have e1 : (((win0_3.blk t).view.emb y) 1).val = (y 1).val := by blk_simp [idx3 t]; try omega
  have e2 : (((win0_3.blk t).view.emb y) 2).val = t.val / 4 % 4 * 256 + (y 2).val := by blk_simp [idx3 t]; try omega
  refine scAt_congr m c _ _ _ _ (Fin.ext ?_) (funext fun a => ?_)
  · show t.val = 16 * (((win0_3.blk t).view.emb y) 0).val + 4 * ((((win0_3.blk t).view.emb y) 2).val / 256) + 3
    rw [e0, e2]; omega
  · match a with
    | ⟨0, _⟩ => exact Fin.ext (by show (y 0).val = 0; omega)
    | ⟨1, _⟩ => exact Fin.ext e1.symm
    | ⟨2, _⟩ => exact Fin.ext (by show (y 2).val = (((win0_3.blk t).view.emb y) 2).val % 256; rw [e2]; omega)

theorem unflat_c (X : IVec S2048x4096 8) (b : Fin 2) (s : Fin 1024) (n : Fin 4096) :
    shapeCast S2x1024x4096 X shapeCasts_S2048x4096_S2x1024x4096 (ix3 b s n) = X (ix2 ⟨1024 * b.val + s.val, by omega⟩ n) := by
  pointwise []
  exact congrArg (fun a => X (ix2 a n)) (Fin.ext (by show b.val * 1024 + s.val = 1024 * b.val + s.val; omega))

theorem turn_s (X : FVec F S2x64x1024 .f32) (b : Fin 2) (s : Fin 1024) (g : Fin 64) :
    transpose S2x1024x64 [0, 2, 1] X transposes_S2x64x1024_S2x1024x64_0_2_1 (ix3 b s g) = X (ix3 b g s) := by
  pointwise []

/-- The codes the kernel leaves: element (b, s, n) is element (1024 b + s, n) of the flat array. -/
theorem codes_eq (c : Dev nD) :
    Pipeline.afterTail₀ cfgs (dats m) 0 (V0 m) [hostOps1] c main_v3 = shapeCast S2x1024x4096 (codesAll m c) shapeCasts_S2048x4096_S2x1024x4096 :=
  (after_codes m c).trans (congrArg (fun X => shapeCast S2x1024x4096 X shapeCasts_S2048x4096_S2x1024x4096) (arr2 m c))

/-- The scales the kernel leaves are the transposed array. -/
theorem scales_eq (c : Dev nD) :
    Pipeline.afterTail₀ cfgs (dats m) 0 (V0 m) [hostOps1] c main_v4 = transpose S2x1024x64 [0, 2, 1] (scalesAll m c) transposes_S2x64x1024_S2x1024x64_0_2_1 :=
  (after_scales m c).trans (congrArg (fun X => transpose S2x1024x64 [0, 2, 1] X transposes_S2x64x1024_S2x1024x64_0_2_1) (arr3 m c))

end Cert.KernelIdeal.Hand

end
-- ==== Proof.Hand.Elem.lean ====
/- What the kernel leaves, element by element. -/
module

public import proofs.«01_k».proof.Proof.Hand.Sums
public import proofs.«01_k».proof.Proof.Hand.Final

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.Hand (sgn)

/-- The weights and the signs as the program finds them. -/
abbrev Wm (c : Dev nD) : FVec Ideal S2x1024x8192 .bf16 := m ((c : Thread nD τ).loc main_arg0)
abbrev Gm (c : Dev nD) : FVec Ideal S8192 .f32 := m ((c : Thread nD τ).loc main_arg1)

theorem HS_at (c : Dev nD) (P : Fin 32) (r k : Fin 256) :
    HS m c (ix3 P r k) = (if r.val / 128 = k.val / 128 then ((sgn 7 (k.val % 128) (chan r.val) : ℝ) : EReal) else 0)
      * Gm m c (ix1 ⟨256 * P.val + k.val, by omega⟩) := by
  unfold HS
  rw [hs_at]
  exact congrArg _ (iblk1 m c _ P 0 k)

/-- The transformed pair: row r holds channel `chan r` of its group. -/
theorem Yv_at (c : Dev nD) (t : Fin cfg0.N) (p : ℕ) (hp : p < 8) (r q : Fin 256) (x : ℕ → EReal) (b : Fin 2) (s : Fin 1024)
    (hb : b.val = (256 * (t.val / 4) + q.val) / 1024) (hs : s.val = (256 * (t.val / 4) + q.val) % 1024)
    (hx : ∀ n : Fin 8192, Wm m c (ix3 b s n) * Gm m c (ix1 n) = x n.val) :
    Yv (grid0.coords t) (iblk m c 0 t) (HS m c) p (ix2 r q) = flat x (256 * (8 * (t.val % 4) + p) + 128 * (r.val / 128) + chan r.val) := by
  have hi := coords1 t
  have hN : ∀ k : Fin 256, 256 * (8 * (t.val % 4) + p) + k.val < 8192 := fun k => by omega
  unfold Yv
  rw [y_at, ← pair_sum _ _ _ r.isLt]
  refine Finset.sum_congr rfl fun k _ => ?_
  have e1 : hS (grid0.coords t) (HS m c) p (ix3 0 r k) = (if r.val / 128 = k.val / 128 then ((sgn 7 (k.val % 128) (chan r.val) : ℝ) : EReal) else 0) * Gm m c (ix1 ⟨256 * (8 * (t.val % 4) + p) + k.val, hN k⟩) := by
    show HS m c (ix3 ⟨(8 * (grid0.coords t 1).val + p) % 32, Nat.mod_lt _ (by decide)⟩ r k) = _
    rw [HS_at]
    refine congrArg (fun n => _ * Gm m c (ix1 n)) (Fin.ext ?_)
    show 256 * ((8 * (grid0.coords t 1).val + p) % 32) + k.val = 256 * (8 * (t.val % 4) + p) + k.val
    rw [hi]; omega
  have e2 : wS (iblk m c 0 t) p (ix2 q k) = Wm m c (ix3 b s ⟨256 * (8 * (t.val % 4) + p) + k.val, hN k⟩) := by
    show iblk m c 0 t (ix2 q ⟨(256 * p + k.val) % 2048, Nat.mod_lt _ (by decide)⟩) = _
    rw [iblk0]
    rw [show (⟨(256 * (t.val / 4) + q.val) / 1024, by have := lt32 t; omega⟩ : Fin 2) = b from Fin.ext hb.symm,
      show (⟨(256 * (t.val / 4) + q.val) % 1024, Nat.mod_lt _ (by decide)⟩ : Fin 1024) = s from Fin.ext hs.symm]
    refine congrArg (fun n => Wm m c (ix3 b s n)) (Fin.ext ?_)
    show 2048 * (t.val % 4) + (256 * p + k.val) % 2048 = 256 * (8 * (t.val % 4) + p) + k.val
    omega
  rw [e1, e2, mul_assoc, mul_comm (Gm m c _) (Wm m c _), hx]

/-- The scale of a group from the transformed values: the two-step maximum over the rows. -/
theorem sclV_at (i : grid0.Coords) (x0 : Vec Ideal S256x2048 .bf16) (hs : Vec Ideal S32x256x256 .bf16) (q l : Fin 2) (A : Fin 8) (B : Fin 128) :
    sclV i x0 hs q l (ix2 A B) = scaleE (Finset.univ.fold max ⊥ (fun t : Fin 8 => Finset.univ.fold max ⊥ (fun u : Fin 16 =>
      absE (Yv i x0 hs (4 * q.val + A.val / 2) (ix2 ⟨128 * (A.val % 2) + (8 * u.val + t.val), by omega⟩ ⟨128 * l.val + B.val, by omega⟩))))
        * Ideal.ofBits .f32 1035273459#32) := by
  unfold sclV
  rw [scl_at]
  refine congrArg (fun z => scaleE (Finset.univ.fold max ⊥ z * Ideal.ofBits .f32 1035273459#32)) (funext fun t => ?_)
  have m9 : (9 * t.val + A.val) % 9 = A.val := by omega
  have d9 : (9 * t.val + A.val) / 9 = t.val := by omega
  show Mx (wS x0 (4 * q.val + ((9 * t.val + A.val) % 9) / 2)) (hS i hs (4 * q.val + ((9 * t.val + A.val) % 9) / 2)) (((9 * t.val + A.val) % 9) % 2)
    (ix2 ⟨(9 * t.val + A.val) / 9, by omega⟩ ⟨128 * l.val + B.val, by omega⟩) = _
  rw [m9, show (⟨(9 * t.val + A.val) / 9, by omega⟩ : Fin 8) = t from Fin.ext d9]
  rcases Nat.mod_two_eq_zero_or_one A.val with h | h
  · rw [show Mx (wS x0 (4 * q.val + A.val / 2)) (hS i hs (4 * q.val + A.val / 2)) (A.val % 2) = k0_pay15 (wS x0 (4 * q.val + A.val / 2)) (hS i hs (4 * q.val + A.val / 2)) from by rw [h]; rfl, m0_at]
    refine congrArg (fun z => Finset.univ.fold max ⊥ z) (funext fun u => congrArg absE ?_)
    exact congrArg (fun r => Yv i x0 hs (4 * q.val + A.val / 2) (ix2 r ⟨128 * l.val + B.val, by omega⟩)) (Fin.ext (by show 8 * u.val + t.val = 128 * (A.val % 2) + (8 * u.val + t.val); omega))
  · rw [show Mx (wS x0 (4 * q.val + A.val / 2)) (hS i hs (4 * q.val + A.val / 2)) (A.val % 2) = k0_pay18 (wS x0 (4 * q.val + A.val / 2)) (hS i hs (4 * q.val + A.val / 2)) from by rw [h]; rfl, m1_at]
    refine congrArg (fun z => Finset.univ.fold max ⊥ z) (funext fun u => congrArg absE ?_)
    exact congrArg (fun r => Yv i x0 hs (4 * q.val + A.val / 2) (ix2 r ⟨128 * l.val + B.val, by omega⟩)) (Fin.ext (by show 128 + (8 * u.val + t.val) = 128 * (A.val % 2) + (8 * u.val + t.val); omega))

/-- The kernel's scale of a group is that of the signed sums. -/
theorem sclV_flat (c : Dev nD) (t : Fin cfg0.N) (q l : Fin 2) (A : Fin 8) (B : Fin 128) (x : ℕ → EReal) (b : Fin 2) (s : Fin 1024)
    (hb : b.val = (256 * (t.val / 4) + (128 * l.val + B.val)) / 1024) (hs : s.val = (256 * (t.val / 4) + (128 * l.val + B.val)) % 1024)
    (hx : ∀ n : Fin 8192, Wm m c (ix3 b s n) * Gm m c (ix1 n) = x n.val) :
    sclV (grid0.coords t) (iblk m c 0 t) (HS m c) q l (ix2 A B) = grpScale (flat x) (16 * (t.val % 4) + 8 * q.val + A.val) := by
  rw [sclV_at]
  unfold grpScale
  refine congrArg scaleE ?_
  rw [ofBits_nrm, ← sup_scale _ _ nrmR_pos]
  refine congrArg (fun z => z * (nrmR : EReal)) ?_
  rw [← sup_rows (fun k => absE (flat x (128 * (16 * (t.val % 4) + 8 * q.val + A.val) + k))) (A.val % 2)]
  refine congrArg (fun z => Finset.univ.fold max ⊥ z) (funext fun t' => congrArg (fun z => Finset.univ.fold max ⊥ z) (funext fun u => congrArg absE ?_))
  rw [Yv_at m c t _ (by omega) _ _ x b s hb hs hx]
  refine congrArg (flat x) ?_
  show 256 * (8 * (t.val % 4) + (4 * q.val + A.val / 2)) + 128 * ((128 * (A.val % 2) + (8 * u.val + t'.val)) / 128) + chan (128 * (A.val % 2) + (8 * u.val + t'.val))
    = 128 * (16 * (t.val % 4) + 8 * q.val + A.val) + chan (128 * (A.val % 2) + (8 * u.val + t'.val))
  generalize chan _ = z
  omega

/-- The kernel's scales, element by element. -/
theorem scales_flat (c : Dev nD) (b : Fin 2) (s : Fin 1024) (G : Fin 64) (x : ℕ → EReal)
    (hx : ∀ n : Fin 8192, Wm m c (ix3 b s n) * Gm m c (ix1 n) = x n.val) :
    scalesAll m c (ix3 b G s) = grpScale (flat x) G.val := by
  have hb := b.isLt
  have hs := s.isLt
  have hG := G.isLt
  unfold scalesAll scAt
  rw [show (ix3 0 ((ix3 b G s : S2x64x1024.Idx) 1) ⟨((ix3 b G s : S2x64x1024.Idx) 2).val % 256, Nat.mod_lt _ (by decide)⟩ : S1x64x256.Idx) = ix3 0 G ⟨s.val % 256, Nat.mod_lt _ (by decide)⟩ from rfl, pay2_at]
  unfold stFull Sp stV
  refine (sclV_flat m c _ _ _ _ _ x b s ?_ ?_ hx).trans (congrArg _ ?_)
  · show b.val = (256 * ((4 * ((16 * b.val + 4 * (s.val / 256) + 3) / 4) + G.val / 16) / 4) + (128 * (s.val % 256 / 128) + s.val % 256 % 128)) / 1024
    omega
  · show s.val = (256 * ((4 * ((16 * b.val + 4 * (s.val / 256) + 3) / 4) + G.val / 16) / 4) + (128 * (s.val % 256 / 128) + s.val % 256 % 128)) % 1024
    omega
  · show 16 * ((4 * ((16 * b.val + 4 * (s.val / 256) + 3) / 4) + G.val / 16) % 4) + 8 * (G.val % 16 / 8) + G.val % 16 % 8 = G.val
    omega

/-- One code of a point's block is that of the signed sums. -/
theorem code_flat (c : Dev nD) (t : Fin cfg0.N) (p : Fin 8) (r a : Fin 256) (q : Fin 2) (A : Fin 8) (hq : q.val = p.val / 4) (hA : A.val = 2 * (p.val % 4) + r.val / 128)
    (x : ℕ → EReal) (b : Fin 2) (s : Fin 1024) (hb : b.val = (256 * (t.val / 4) + a.val) / 1024) (hs : s.val = (256 * (t.val / 4) + a.val) % 1024)
    (hx : ∀ n : Fin 8192, Wm m c (ix3 b s n) * Gm m c (ix1 n) = x n.val)
    (d : ℕ) (hd : d = 256 * (8 * (t.val % 4) + p.val) + 128 * (r.val / 128) + chan r.val) :
    codeW (Yv (grid0.coords t) (iblk m c 0 t) (HS m c) p.val (ix2 r a) * rRow (grid0.coords t) (iblk m c 0 t) (HS m c) q A (ix3 0 0 a))
      = codeR (flat x) d := by
  subst hd
  have hc : chan r.val < 128 := by unfold chan; omega
  unfold codeR
  refine congrArg codeW ?_
  rw [Yv_at m c t _ p.isLt _ _ x b s hb hs hx]
  show _ * Ideal.div (Ideal.ofBits .f32 1035273459#32) (sclV (grid0.coords t) (iblk m c 0 t) (HS m c) q ⟨a.val / 128, by omega⟩ (ix2 A ⟨a.val % 128, Nat.mod_lt _ (by decide)⟩)) = _
  rw [sclV_flat m c t q _ A _ x b s (by show b.val = (256 * (t.val / 4) + (128 * (a.val / 128) + a.val % 128)) / 1024; omega)
    (by show s.val = (256 * (t.val / 4) + (128 * (a.val / 128) + a.val % 128)) % 1024; omega) hx]
  rw [show 16 * (t.val % 4) + 8 * q.val + A.val = (256 * (8 * (t.val % 4) + p.val) + 128 * (r.val / 128) + chan r.val) / 128 by omega]
  exact mul_div _ _ _ (scaleE_ne _)

/-- The kernel's bytes, element by element. -/
theorem codes_flat (c : Dev nD) (b : Fin 2) (s : Fin 1024) (n : Fin 4096) (x : ℕ → EReal)
    (hx : ∀ n : Fin 8192, Wm m c (ix3 b s n) * Gm m c (ix1 n) = x n.val) :
    codesAll m c (ix2 ⟨1024 * b.val + s.val, by omega⟩ n) = byteOf (codeR (flat x) (2 * n.val)) (codeR (flat x) (2 * n.val + 1)) := by
  have hb := b.isLt
  have hs := s.isLt
  have hn := n.isLt
  unfold codesAll coAt codesV codP
  refine (cod_at _ _ _ _ _).trans ?_
  have sel : ∀ (β : Prop) [Decidable β] (i : grid0.Coords) (x0 : Vec Ideal S256x2048 .bf16) (h : Vec Ideal S32x256x256 .bf16) (q : Fin 2) (A A' : Fin 8) (z : S1x1x256.Idx),
      (if β then rRow i x0 h q A else rRow i x0 h q A') z = rRow i x0 h q (if β then A else A') z := fun β _ i x0 h q A A' z => by split_ifs <;> rfl
  rw [sel]
  have hA : ((if n.val % 1024 % 128 < 64 then (⟨2 * (n.val % 1024 / 128 % 4), by omega⟩ : Fin 8) else ⟨2 * (n.val % 1024 / 128 % 4) + 1, by omega⟩) : Fin 8).val = 2 * (n.val % 1024 / 128 % 4) + n.val % 1024 % 128 / 64 := by
    split_ifs
    · show 2 * (n.val % 1024 / 128 % 4) = _; omega
    · show 2 * (n.val % 1024 / 128 % 4) + 1 = _; omega
  refine congrArg₂ byteOf ?_ ?_
  · refine code_flat m c _ _ _ _ _ _ rfl (hA.trans ?_) x b s ?_ ?_ hx _ ?_
    · show _ = 2 * (n.val % 1024 / 128 % 4) + (128 * (n.val % 1024 % 128 / 64) + n.val % 1024 % 128 % 64) / 128
      omega
    · show b.val = (256 * ((4 * ((1024 * b.val + s.val) / 256) + n.val / 1024) / 4) + (1024 * b.val + s.val) % 256) / 1024
      omega
    · show s.val = (256 * ((4 * ((1024 * b.val + s.val) / 256) + n.val / 1024) / 4) + (1024 * b.val + s.val) % 256) % 1024
      omega
    · show 2 * n.val = 256 * (8 * ((4 * ((1024 * b.val + s.val) / 256) + n.val / 1024) % 4) + n.val % 1024 / 128) + 128 * ((128 * (n.val % 1024 % 128 / 64) + n.val % 1024 % 128 % 64) / 128) + chan (128 * (n.val % 1024 % 128 / 64) + n.val % 1024 % 128 % 64)
      have hc : chan (128 * (n.val % 1024 % 128 / 64) + n.val % 1024 % 128 % 64) = n.val % 64 * 2 := by unfold chan; omega
      rw [hc]; omega
  · refine code_flat m c _ _ _ _ _ _ rfl (hA.trans ?_) x b s ?_ ?_ hx _ ?_
    · show _ = 2 * (n.val % 1024 / 128 % 4) + (128 * (n.val % 1024 % 128 / 64) + (64 + n.val % 1024 % 128 % 64)) / 128
      omega
    · show b.val = (256 * ((4 * ((1024 * b.val + s.val) / 256) + n.val / 1024) / 4) + (1024 * b.val + s.val) % 256) / 1024
      omega
    · show s.val = (256 * ((4 * ((1024 * b.val + s.val) / 256) + n.val / 1024) / 4) + (1024 * b.val + s.val) % 256) % 1024
      omega
    · show 2 * n.val + 1 = 256 * (8 * ((4 * ((1024 * b.val + s.val) / 256) + n.val / 1024) % 4) + n.val % 1024 / 128) + 128 * ((128 * (n.val % 1024 % 128 / 64) + (64 + n.val % 1024 % 128 % 64)) / 128) + chan (128 * (n.val % 1024 % 128 / 64) + (64 + n.val % 1024 % 128 % 64))
      have hc : chan (128 * (n.val % 1024 % 128 / 64) + (64 + n.val % 1024 % 128 % 64)) = n.val % 64 * 2 + 1 := by unfold chan; omega
      rw [hc]; omega

end Cert.KernelIdeal.Hand

end
-- ==== Proof.Hand.RefVal.lean ====
/- The reference of the kernel, read off element by element. -/
module

public import proofs.«01_k».proof.Proof.Gen.ReferenceIdeal.Run
public import proofs.«01_k».proof.Proof.Hand.Butterfly
public import proofs.«01_k».proof.Proof.Hand.Payload
public import Idealize.ShloMosaic.Lib.Pointwise

@[expose] public section

-- membership in a rectangle of production extents (`View.cover_of_tiled`): the elaborator's structural look
-- recurses once per coordinate of the long axes
set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Hand (stepE)

/-- The first halves of the pairs of blocks at distance 1. -/
def half0a (X : FVec Ideal S2x1024x4096x2x1 .f32) : FVec Ideal S2x1024x4096x1 .f32 :=
  shapeCast S2x1024x4096x1 (extractStridedSlice S2x1024x4096x1x1 ![0, 0, 0, 0, 0] X slices_S2x1024x4096x2x1_S2x1024x4096x1x1_0_0_0_0_0) shapeCasts_S2x1024x4096x1x1_S2x1024x4096x1

/-- The second halves. -/
def half0b (X : FVec Ideal S2x1024x4096x2x1 .f32) : FVec Ideal S2x1024x4096x1 .f32 :=
  shapeCast S2x1024x4096x1 (extractStridedSlice S2x1024x4096x1x1 ![0, 0, 0, 1, 0] X slices_S2x1024x4096x2x1_S2x1024x4096x1x1_0_0_0_1_0) shapeCasts_S2x1024x4096x1x1_S2x1024x4096x1

/-- The stage at distance 1. -/
def stage0 (X : FVec Ideal S2x1024x4096x2x1 .f32) : FVec Ideal S2x1024x2048x2x2 .f32 :=
  shapeCast S2x1024x2048x2x2 (shapeCast S2x1024x8192 (concatenate S2x1024x4096x2x1 3 [⟨S2x1024x4096x1x1, (broadcastInDim S2x1024x4096x1x1 ![0, 1, 2, 4] bcast_S2x1024x4096x1_S2x1024x4096x1x1_0_1_2_4 (addf (half0a X) (half0b X)))⟩, ⟨S2x1024x4096x1x1, (broadcastInDim S2x1024x4096x1x1 ![0, 1, 2, 4] bcast_S2x1024x4096x1_S2x1024x4096x1x1_0_1_2_4 (subf (half0a X) (half0b X)))⟩] concatenates_S2x1024x4096x1x1_S2x1024x4096x1x1_S2x1024x4096x2x1_d3) shapeCasts_S2x1024x4096x2x1_S2x1024x8192) shapeCasts_S2x1024x8192_S2x1024x2048x2x2

theorem stage0_at (X : FVec Ideal S2x1024x4096x2x1 .f32) (x : ℕ → EReal) (b : Fin 2) (s : Fin 1024)
    (hx : ∀ (j : Fin 4096) (p : Fin 2) (l : Fin 1), X (ix5 b s j p l) = x (2 * j.val + 1 * p.val + l.val))
    (j : Fin 2048) (p : Fin 2) (l : Fin 2) :
    stage0 X (ix5 b s j p l) = stepE 1 x (4 * j.val + 2 * p.val + l.val) := by
  pointwise [stage0, half0a, half0b]
  simp only [hx, Fin.val_zero, Fin.val_one]
  unfold stepE
  by_cases h : l.val < 1
  · first | rw [dif_pos h] | rw [dif_pos (show l.val / 1 < 1 by omega)]
    rw [if_pos (by omega)]
    exact congrArg₂ (fun a b => x a + x b) (by omega) (by omega)
  · first | rw [dif_neg h] | rw [dif_neg (show ¬ l.val / 1 < 1 by omega)]
    rw [if_neg (by omega)]
    exact congrArg₂ (fun a b => x a - x b) (by omega) (by omega)

/-- The first halves of the pairs of blocks at distance 2. -/
def half1a (X : FVec Ideal S2x1024x2048x2x2 .f32) : FVec Ideal S2x1024x2048x2 .f32 :=
  shapeCast S2x1024x2048x2 (extractStridedSlice S2x1024x2048x1x2 ![0, 0, 0, 0, 0] X slices_S2x1024x2048x2x2_S2x1024x2048x1x2_0_0_0_0_0) shapeCasts_S2x1024x2048x1x2_S2x1024x2048x2

/-- The second halves. -/
def half1b (X : FVec Ideal S2x1024x2048x2x2 .f32) : FVec Ideal S2x1024x2048x2 .f32 :=
  shapeCast S2x1024x2048x2 (extractStridedSlice S2x1024x2048x1x2 ![0, 0, 0, 1, 0] X slices_S2x1024x2048x2x2_S2x1024x2048x1x2_0_0_0_1_0) shapeCasts_S2x1024x2048x1x2_S2x1024x2048x2

/-- The stage at distance 2. -/
def stage1 (X : FVec Ideal S2x1024x2048x2x2 .f32) : FVec Ideal S2x1024x1024x2x4 .f32 :=
  shapeCast S2x1024x1024x2x4 (shapeCast S2x1024x8192 (concatenate S2x1024x2048x2x2 3 [⟨S2x1024x2048x1x2, (broadcastInDim S2x1024x2048x1x2 ![0, 1, 2, 4] bcast_S2x1024x2048x2_S2x1024x2048x1x2_0_1_2_4 (addf (half1a X) (half1b X)))⟩, ⟨S2x1024x2048x1x2, (broadcastInDim S2x1024x2048x1x2 ![0, 1, 2, 4] bcast_S2x1024x2048x2_S2x1024x2048x1x2_0_1_2_4 (subf (half1a X) (half1b X)))⟩] concatenates_S2x1024x2048x1x2_S2x1024x2048x1x2_S2x1024x2048x2x2_d3) shapeCasts_S2x1024x2048x2x2_S2x1024x8192) shapeCasts_S2x1024x8192_S2x1024x1024x2x4

theorem stage1_at (X : FVec Ideal S2x1024x2048x2x2 .f32) (x : ℕ → EReal) (b : Fin 2) (s : Fin 1024)
    (hx : ∀ (j : Fin 2048) (p : Fin 2) (l : Fin 2), X (ix5 b s j p l) = x (4 * j.val + 2 * p.val + l.val))
    (j : Fin 1024) (p : Fin 2) (l : Fin 4) :
    stage1 X (ix5 b s j p l) = stepE 2 x (8 * j.val + 4 * p.val + l.val) := by
  pointwise [stage1, half1a, half1b]
  simp only [hx, Fin.val_zero, Fin.val_one]
  unfold stepE
  by_cases h : l.val < 2
  · first | rw [dif_pos h] | rw [dif_pos (show l.val / 2 < 1 by omega)]
    rw [if_pos (by omega)]
    exact congrArg₂ (fun a b => x a + x b) (by omega) (by omega)
  · first | rw [dif_neg h] | rw [dif_neg (show ¬ l.val / 2 < 1 by omega)]
    rw [if_neg (by omega)]
    exact congrArg₂ (fun a b => x a - x b) (by omega) (by omega)

/-- The first halves of the pairs of blocks at distance 4. -/
def half2a (X : FVec Ideal S2x1024x1024x2x4 .f32) : FVec Ideal S2x1024x1024x4 .f32 :=
  shapeCast S2x1024x1024x4 (extractStridedSlice S2x1024x1024x1x4 ![0, 0, 0, 0, 0] X slices_S2x1024x1024x2x4_S2x1024x1024x1x4_0_0_0_0_0) shapeCasts_S2x1024x1024x1x4_S2x1024x1024x4

/-- The second halves. -/
def half2b (X : FVec Ideal S2x1024x1024x2x4 .f32) : FVec Ideal S2x1024x1024x4 .f32 :=
  shapeCast S2x1024x1024x4 (extractStridedSlice S2x1024x1024x1x4 ![0, 0, 0, 1, 0] X slices_S2x1024x1024x2x4_S2x1024x1024x1x4_0_0_0_1_0) shapeCasts_S2x1024x1024x1x4_S2x1024x1024x4

/-- The stage at distance 4. -/
def stage2 (X : FVec Ideal S2x1024x1024x2x4 .f32) : FVec Ideal S2x1024x512x2x8 .f32 :=
  shapeCast S2x1024x512x2x8 (shapeCast S2x1024x8192 (concatenate S2x1024x1024x2x4 3 [⟨S2x1024x1024x1x4, (broadcastInDim S2x1024x1024x1x4 ![0, 1, 2, 4] bcast_S2x1024x1024x4_S2x1024x1024x1x4_0_1_2_4 (addf (half2a X) (half2b X)))⟩, ⟨S2x1024x1024x1x4, (broadcastInDim S2x1024x1024x1x4 ![0, 1, 2, 4] bcast_S2x1024x1024x4_S2x1024x1024x1x4_0_1_2_4 (subf (half2a X) (half2b X)))⟩] concatenates_S2x1024x1024x1x4_S2x1024x1024x1x4_S2x1024x1024x2x4_d3) shapeCasts_S2x1024x1024x2x4_S2x1024x8192) shapeCasts_S2x1024x8192_S2x1024x512x2x8

theorem stage2_at (X : FVec Ideal S2x1024x1024x2x4 .f32) (x : ℕ → EReal) (b : Fin 2) (s : Fin 1024)
    (hx : ∀ (j : Fin 1024) (p : Fin 2) (l : Fin 4), X (ix5 b s j p l) = x (8 * j.val + 4 * p.val + l.val))
    (j : Fin 512) (p : Fin 2) (l : Fin 8) :
    stage2 X (ix5 b s j p l) = stepE 4 x (16 * j.val + 8 * p.val + l.val) := by
  pointwise [stage2, half2a, half2b]
  simp only [hx, Fin.val_zero, Fin.val_one]
  unfold stepE
  by_cases h : l.val < 4
  · first | rw [dif_pos h] | rw [dif_pos (show l.val / 4 < 1 by omega)]
    rw [if_pos (by omega)]
    exact congrArg₂ (fun a b => x a + x b) (by omega) (by omega)
  · first | rw [dif_neg h] | rw [dif_neg (show ¬ l.val / 4 < 1 by omega)]
    rw [if_neg (by omega)]
    exact congrArg₂ (fun a b => x a - x b) (by omega) (by omega)

/-- The first halves of the pairs of blocks at distance 8. -/
def half3a (X : FVec Ideal S2x1024x512x2x8 .f32) : FVec Ideal S2x1024x512x8 .f32 :=
  shapeCast S2x1024x512x8 (extractStridedSlice S2x1024x512x1x8 ![0, 0, 0, 0, 0] X slices_S2x1024x512x2x8_S2x1024x512x1x8_0_0_0_0_0) shapeCasts_S2x1024x512x1x8_S2x1024x512x8

/-- The second halves. -/
def half3b (X : FVec Ideal S2x1024x512x2x8 .f32) : FVec Ideal S2x1024x512x8 .f32 :=
  shapeCast S2x1024x512x8 (extractStridedSlice S2x1024x512x1x8 ![0, 0, 0, 1, 0] X slices_S2x1024x512x2x8_S2x1024x512x1x8_0_0_0_1_0) shapeCasts_S2x1024x512x1x8_S2x1024x512x8

/-- The stage at distance 8. -/
def stage3 (X : FVec Ideal S2x1024x512x2x8 .f32) : FVec Ideal S2x1024x256x2x16 .f32 :=
  shapeCast S2x1024x256x2x16 (shapeCast S2x1024x8192 (concatenate S2x1024x512x2x8 3 [⟨S2x1024x512x1x8, (broadcastInDim S2x1024x512x1x8 ![0, 1, 2, 4] bcast_S2x1024x512x8_S2x1024x512x1x8_0_1_2_4 (addf (half3a X) (half3b X)))⟩, ⟨S2x1024x512x1x8, (broadcastInDim S2x1024x512x1x8 ![0, 1, 2, 4] bcast_S2x1024x512x8_S2x1024x512x1x8_0_1_2_4 (subf (half3a X) (half3b X)))⟩] concatenates_S2x1024x512x1x8_S2x1024x512x1x8_S2x1024x512x2x8_d3) shapeCasts_S2x1024x512x2x8_S2x1024x8192) shapeCasts_S2x1024x8192_S2x1024x256x2x16

theorem stage3_at (X : FVec Ideal S2x1024x512x2x8 .f32) (x : ℕ → EReal) (b : Fin 2) (s : Fin 1024)
    (hx : ∀ (j : Fin 512) (p : Fin 2) (l : Fin 8), X (ix5 b s j p l) = x (16 * j.val + 8 * p.val + l.val))
    (j : Fin 256) (p : Fin 2) (l : Fin 16) :
    stage3 X (ix5 b s j p l) = stepE 8 x (32 * j.val + 16 * p.val + l.val) := by
  pointwise [stage3, half3a, half3b]
  simp only [hx, Fin.val_zero, Fin.val_one]
  unfold stepE
  by_cases h : l.val < 8
  · first | rw [dif_pos h] | rw [dif_pos (show l.val / 8 < 1 by omega)]
    rw [if_pos (by omega)]
    exact congrArg₂ (fun a b => x a + x b) (by omega) (by omega)
  · first | rw [dif_neg h] | rw [dif_neg (show ¬ l.val / 8 < 1 by omega)]
    rw [if_neg (by omega)]
    exact congrArg₂ (fun a b => x a - x b) (by omega) (by omega)

/-- The first halves of the pairs of blocks at distance 16. -/
def half4a (X : FVec Ideal S2x1024x256x2x16 .f32) : FVec Ideal S2x1024x256x16 .f32 :=
  shapeCast S2x1024x256x16 (extractStridedSlice S2x1024x256x1x16 ![0, 0, 0, 0, 0] X slices_S2x1024x256x2x16_S2x1024x256x1x16_0_0_0_0_0) shapeCasts_S2x1024x256x1x16_S2x1024x256x16

/-- The second halves. -/
def half4b (X : FVec Ideal S2x1024x256x2x16 .f32) : FVec Ideal S2x1024x256x16 .f32 :=
  shapeCast S2x1024x256x16 (extractStridedSlice S2x1024x256x1x16 ![0, 0, 0, 1, 0] X slices_S2x1024x256x2x16_S2x1024x256x1x16_0_0_0_1_0) shapeCasts_S2x1024x256x1x16_S2x1024x256x16

/-- The stage at distance 16. -/
def stage4 (X : FVec Ideal S2x1024x256x2x16 .f32) : FVec Ideal S2x1024x128x2x32 .f32 :=
  shapeCast S2x1024x128x2x32 (shapeCast S2x1024x8192 (concatenate S2x1024x256x2x16 3 [⟨S2x1024x256x1x16, (broadcastInDim S2x1024x256x1x16 ![0, 1, 2, 4] bcast_S2x1024x256x16_S2x1024x256x1x16_0_1_2_4 (addf (half4a X) (half4b X)))⟩, ⟨S2x1024x256x1x16, (broadcastInDim S2x1024x256x1x16 ![0, 1, 2, 4] bcast_S2x1024x256x16_S2x1024x256x1x16_0_1_2_4 (subf (half4a X) (half4b X)))⟩] concatenates_S2x1024x256x1x16_S2x1024x256x1x16_S2x1024x256x2x16_d3) shapeCasts_S2x1024x256x2x16_S2x1024x8192) shapeCasts_S2x1024x8192_S2x1024x128x2x32

theorem stage4_at (X : FVec Ideal S2x1024x256x2x16 .f32) (x : ℕ → EReal) (b : Fin 2) (s : Fin 1024)
    (hx : ∀ (j : Fin 256) (p : Fin 2) (l : Fin 16), X (ix5 b s j p l) = x (32 * j.val + 16 * p.val + l.val))
    (j : Fin 128) (p : Fin 2) (l : Fin 32) :
    stage4 X (ix5 b s j p l) = stepE 16 x (64 * j.val + 32 * p.val + l.val) := by
  pointwise [stage4, half4a, half4b]
  simp only [hx, Fin.val_zero, Fin.val_one]
  unfold stepE
  by_cases h : l.val < 16
  · first | rw [dif_pos h] | rw [dif_pos (show l.val / 16 < 1 by omega)]
    rw [if_pos (by omega)]
    exact congrArg₂ (fun a b => x a + x b) (by omega) (by omega)
  · first | rw [dif_neg h] | rw [dif_neg (show ¬ l.val / 16 < 1 by omega)]
    rw [if_neg (by omega)]
    exact congrArg₂ (fun a b => x a - x b) (by omega) (by omega)

/-- The first halves of the pairs of blocks at distance 32. -/
def half5a (X : FVec Ideal S2x1024x128x2x32 .f32) : FVec Ideal S2x1024x128x32 .f32 :=
  shapeCast S2x1024x128x32 (extractStridedSlice S2x1024x128x1x32 ![0, 0, 0, 0, 0] X slices_S2x1024x128x2x32_S2x1024x128x1x32_0_0_0_0_0) shapeCasts_S2x1024x128x1x32_S2x1024x128x32

/-- The second halves. -/
def half5b (X : FVec Ideal S2x1024x128x2x32 .f32) : FVec Ideal S2x1024x128x32 .f32 :=
  shapeCast S2x1024x128x32 (extractStridedSlice S2x1024x128x1x32 ![0, 0, 0, 1, 0] X slices_S2x1024x128x2x32_S2x1024x128x1x32_0_0_0_1_0) shapeCasts_S2x1024x128x1x32_S2x1024x128x32

/-- The stage at distance 32. -/
def stage5 (X : FVec Ideal S2x1024x128x2x32 .f32) : FVec Ideal S2x1024x64x2x64 .f32 :=
  shapeCast S2x1024x64x2x64 (shapeCast S2x1024x8192 (concatenate S2x1024x128x2x32 3 [⟨S2x1024x128x1x32, (broadcastInDim S2x1024x128x1x32 ![0, 1, 2, 4] bcast_S2x1024x128x32_S2x1024x128x1x32_0_1_2_4 (addf (half5a X) (half5b X)))⟩, ⟨S2x1024x128x1x32, (broadcastInDim S2x1024x128x1x32 ![0, 1, 2, 4] bcast_S2x1024x128x32_S2x1024x128x1x32_0_1_2_4 (subf (half5a X) (half5b X)))⟩] concatenates_S2x1024x128x1x32_S2x1024x128x1x32_S2x1024x128x2x32_d3) shapeCasts_S2x1024x128x2x32_S2x1024x8192) shapeCasts_S2x1024x8192_S2x1024x64x2x64

theorem stage5_at (X : FVec Ideal S2x1024x128x2x32 .f32) (x : ℕ → EReal) (b : Fin 2) (s : Fin 1024)
    (hx : ∀ (j : Fin 128) (p : Fin 2) (l : Fin 32), X (ix5 b s j p l) = x (64 * j.val + 32 * p.val + l.val))
    (j : Fin 64) (p : Fin 2) (l : Fin 64) :
    stage5 X (ix5 b s j p l) = stepE 32 x (128 * j.val + 64 * p.val + l.val) := by
  pointwise [stage5, half5a, half5b]
  simp only [hx, Fin.val_zero, Fin.val_one]
  unfold stepE
  by_cases h : l.val < 32
  · first | rw [dif_pos h] | rw [dif_pos (show l.val / 32 < 1 by omega)]
    rw [if_pos (by omega)]
    exact congrArg₂ (fun a b => x a + x b) (by omega) (by omega)
  · first | rw [dif_neg h] | rw [dif_neg (show ¬ l.val / 32 < 1 by omega)]
    rw [if_neg (by omega)]
    exact congrArg₂ (fun a b => x a - x b) (by omega) (by omega)

/-- The first halves of the pairs of blocks at distance 64. -/
def half6a (X : FVec Ideal S2x1024x64x2x64 .f32) : FVec Ideal S2x1024x64x64 .f32 :=
  shapeCast S2x1024x64x64 (extractStridedSlice S2x1024x64x1x64 ![0, 0, 0, 0, 0] X slices_S2x1024x64x2x64_S2x1024x64x1x64_0_0_0_0_0) shapeCasts_S2x1024x64x1x64_S2x1024x64x64

/-- The second halves. -/
def half6b (X : FVec Ideal S2x1024x64x2x64 .f32) : FVec Ideal S2x1024x64x64 .f32 :=
  shapeCast S2x1024x64x64 (extractStridedSlice S2x1024x64x1x64 ![0, 0, 0, 1, 0] X slices_S2x1024x64x2x64_S2x1024x64x1x64_0_0_0_1_0) shapeCasts_S2x1024x64x1x64_S2x1024x64x64

/-- The last stage, before the normalisation. -/
def flat6 (X : FVec Ideal S2x1024x64x2x64 .f32) : FVec Ideal S2x1024x8192 .f32 :=
  shapeCast S2x1024x8192 (concatenate S2x1024x64x2x64 3 [⟨S2x1024x64x1x64, (broadcastInDim S2x1024x64x1x64 ![0, 1, 2, 4] bcast_S2x1024x64x64_S2x1024x64x1x64_0_1_2_4 (addf (half6a X) (half6b X)))⟩, ⟨S2x1024x64x1x64, (broadcastInDim S2x1024x64x1x64 ![0, 1, 2, 4] bcast_S2x1024x64x64_S2x1024x64x1x64_0_1_2_4 (subf (half6a X) (half6b X)))⟩] concatenates_S2x1024x64x1x64_S2x1024x64x1x64_S2x1024x64x2x64_d3) shapeCasts_S2x1024x64x2x64_S2x1024x8192

/-- The transform's result in groups of 128, normalised. -/
def stage6 (Y : FVec Ideal S2x1024x8192 .f32) : FVec Ideal S2x1024x64x128 .f32 :=
  shapeCast S2x1024x64x128 (mulf (Y) (broadcastInDim S2x1024x8192 ![] bcast_S_S2x1024x8192 (constant S_ .f32 0x3DB504F3#32))) shapeCasts_S2x1024x8192_S2x1024x64x128

theorem flat6_at (X : FVec Ideal S2x1024x64x2x64 .f32) (b : Fin 2) (s : Fin 1024) (d : Fin 8192) :
    flat6 X (ix3 b s d) = if d.val / 64 % 2 = 0
      then X (ix5 b s ⟨d.val / 128, by omega⟩ 0 ⟨d.val % 64, Nat.mod_lt _ (by decide)⟩) + X (ix5 b s ⟨d.val / 128, by omega⟩ 1 ⟨d.val % 64, Nat.mod_lt _ (by decide)⟩)
      else X (ix5 b s ⟨d.val / 128, by omega⟩ 0 ⟨d.val % 64, Nat.mod_lt _ (by decide)⟩) - X (ix5 b s ⟨d.val / 128, by omega⟩ 1 ⟨d.val % 64, Nat.mod_lt _ (by decide)⟩) := by
  pointwise [flat6, half6a, half6b]
  split_ifs with h1 h2 h3
  · rfl
  · exact absurd (show d.val / 64 % 2 = 0 by omega) h2
  · exact absurd h3 (by decide)
  · exact (if_neg (fun h : d.val / 64 % 2 = 0 => h1 (show d.val / 64 % 2 < 1 by omega))).symm

theorem stage6_at (Y : FVec Ideal S2x1024x8192 .f32) (b : Fin 2) (s : Fin 1024) (j : Fin 64) (l : Fin 128) :
    stage6 Y (ix4 b s j l) = Y (ix3 b s ⟨128 * j.val + l.val, by omega⟩) * Ideal.ofBits .f32 1035273459#32 := by
  pointwise [stage6]
  exact congrArg (fun a => Y (ix3 b s a) * Ideal.ofBits .f32 1035273459#32) (Fin.ext (by show j.val * 128 + l.val = 128 * j.val + l.val; omega))

open Cert.Hand (stagesE)
open Cert.KernelIdeal.Hand (codeW byteOf absE scaleE ofBits_bot)

/-- The weights times the signs, in pairs. -/
def start (W : FVec Ideal S2x1024x8192 .bf16) (G : FVec Ideal S8192 .f32) : FVec Ideal S2x1024x4096x2x1 .f32 :=
  shapeCast S2x1024x4096x2x1 (mulf (extf .f32 W bitsLt_bf16_f32) (broadcastInDim S2x1024x8192 ![0, 1, 2] bcast_S1x1x8192_S2x1024x8192_0_1_2 (broadcastInDim S1x1x8192 ![2] bcast_S8192_S1x1x8192_2 G))) shapeCasts_S2x1024x8192_S2x1024x4096x2x1

theorem start_at (W : FVec Ideal S2x1024x8192 .bf16) (G : FVec Ideal S8192 .f32) (b : Fin 2) (s : Fin 1024)
    (j : Fin 4096) (p : Fin 2) (l : Fin 1) :
    start W G (ix5 b s j p l) = W (ix3 b s ⟨2 * j.val + p.val, by omega⟩) * G (ix1 ⟨2 * j.val + p.val, by omega⟩) := by
  pointwise [start]
  exact congrArg (fun a => W (ix3 b s a) * G (ix1 a)) (Fin.ext (by show j.val * 2 + p.val = 2 * j.val + p.val; omega))

/-- The largest magnitude of a group. -/
def amax (X : FVec Ideal S2x1024x64x128 .f32) : FVec Ideal S2x1024x64 .f32 :=
  Host.reduce FloatOps.maximumf (Host.absf X) (constant S_ .f32 0xFF800000#32) reducesTo_S2x1024x64x128_S2x1024x64_d3 h_S_

theorem amax_at (X : FVec Ideal S2x1024x64x128 .f32) (b : Fin 2) (s : Fin 1024) (j : Fin 64) :
    amax X (ix3 b s j) = Finset.univ.fold max ⊥ (fun k : Fin 128 => absE (X (ix4 b s j k))) := by
  pointwise [amax]
  rw [ofBits_bot]
  rfl

/-- The scale of a group out of its largest magnitude. -/
def scales (Y : FVec Ideal S2x1024x64 .f32) : FVec Ideal S2x1024x64 .f32 :=
  select (cmpf .oeq Y (broadcastInDim S2x1024x64 ![] bcast_S_S2x1024x64 (constant S_ .f32 0x00000000#32))) (broadcastInDim S2x1024x64 ![] bcast_S_S2x1024x64 (constant S_ .f32 0x3F800000#32)) (Host.divf Y (broadcastInDim S2x1024x64 ![] bcast_S_S2x1024x64 (constant S_ .f32 0x40E00000#32)))

theorem scales_at (Y : FVec Ideal S2x1024x64 .f32) (b : Fin 2) (s : Fin 1024) (j : Fin 64) :
    scales Y (ix3 b s j) = scaleE (Y (ix3 b s j)) := by
  pointwise [scales]
  rfl

/-- The code of an element out of its group's scale. -/
def quant (X : FVec Ideal S2x1024x64x128 .f32) (S : FVec Ideal S2x1024x64 .f32) : IVec S2x1024x64x128 8 :=
  (trunci 8 (fptosi 32 (minimumf (broadcastInDim S2x1024x64x128 ![] bcast_S_S2x1024x64x128 (id (constant S_ .f32 0x40E00000#32))) (maximumf (broadcastInDim S2x1024x64x128 ![] bcast_S_S2x1024x64x128 (id (constant S_ .f32 0xC0E00000#32))) (Host.roundeven (Host.divf X (broadcastInDim S2x1024x64x128 ![0, 1, 2, 3] bcast_S2x1024x64x1_S2x1024x64x128_0_1_2_3 (broadcastInDim S2x1024x64x1 ![0, 1, 2] bcast_S2x1024x64_S2x1024x64x1_0_1_2 S))))))) natLt_8_32)

theorem quant_at (X : FVec Ideal S2x1024x64x128 .f32) (S : FVec Ideal S2x1024x64 .f32) (b : Fin 2) (s : Fin 1024)
    (j : Fin 64) (p : Fin 128) :
    quant X S (ix4 b s j p) = (codeW (Ideal.div (X (ix4 b s j p)) (S (ix3 b s j)))).setWidth 8 := by
  pointwise [quant]
  rfl

/-- The low four bits of the codes, in pairs. -/
def nibs (Z : IVec S2x1024x64x128 8) : IVec S2x1024x4096x2 32 :=
  shapeCast S2x1024x4096x2 (andi (extsi 32 (shapeCast S2x1024x8192 Z shapeCasts_S2x1024x64x128_S2x1024x8192) natLt_8_32) (broadcastInDim S2x1024x8192 ![] bcast_S_S2x1024x8192 (constantI S_ 32 15#32))) shapeCasts_S2x1024x8192_S2x1024x4096x2

theorem nibs_at (Z : IVec S2x1024x64x128 8) (b : Fin 2) (s : Fin 1024) (j : Fin 4096) (p : Fin 2) :
    nibs Z (ix4 b s j p) = IntOp.andi ((Z (ix4 b s ⟨(2 * j.val + p.val) / 128, by omega⟩ ⟨(2 * j.val + p.val) % 128, Nat.mod_lt _ (by decide)⟩)).signExtend 32) 15#32 := by
  pointwise [nibs]
  exact congrArg₂ (fun u v => IntOp.andi ((Z (ix4 b s u v)).signExtend 32) 15#32)
    (Fin.ext (by show (j.val * 2 + p.val) / 128 = (2 * j.val + p.val) / 128; omega))
    (Fin.ext (by show (j.val * 2 + p.val) % 128 = (2 * j.val + p.val) % 128; omega))

/-- Two codes in a byte. -/
def pack (N : IVec S2x1024x4096x2 32) : IVec S2x1024x4096 8 :=
  trunci 8 (ori (shapeCast S2x1024x4096 (extractStridedSlice S2x1024x4096x1 ![0, 0, 0, 0] N slices_S2x1024x4096x2_S2x1024x4096x1_0_0_0_0) shapeCasts_S2x1024x4096x1_S2x1024x4096) (Host.shli (shapeCast S2x1024x4096 (extractStridedSlice S2x1024x4096x1 ![0, 0, 0, 1] N slices_S2x1024x4096x2_S2x1024x4096x1_0_0_0_1) shapeCasts_S2x1024x4096x1_S2x1024x4096) (broadcastInDim S2x1024x4096 ![] bcast_S_S2x1024x4096 (constantI S_ 32 4#32)))) natLt_8_32

theorem pack_at (N : IVec S2x1024x4096x2 32) (b : Fin 2) (s : Fin 1024) (j : Fin 4096) :
    pack N (ix3 b s j) = (N (ix4 b s j 0) ||| (N (ix4 b s j 1) <<< 4)).setWidth 8 := by
  pointwise [pack]
  rfl

/-- The transform's result, from the two arguments. -/
def had (W : FVec Ideal S2x1024x8192 .bf16) (G : FVec Ideal S8192 .f32) : FVec Ideal S2x1024x64x128 .f32 :=
  stage6 (flat6 (stage5 (stage4 (stage3 (stage2 (stage1 (stage0 (start W G))))))))

/-- The seven stages of pairs are the butterfly. -/
theorem had_at (W : FVec Ideal S2x1024x8192 .bf16) (G : FVec Ideal S8192 .f32) (b : Fin 2) (s : Fin 1024) (x : ℕ → EReal)
    (hx : ∀ n : Fin 8192, W (ix3 b s n) * G (ix1 n) = x n.val) (j : Fin 64) (l : Fin 128) :
    had W G (ix4 b s j l) = stagesE 7 x (128 * j.val + l.val) * Ideal.ofBits .f32 1035273459#32 := by
  have h0 : ∀ j p l, start W G (ix5 b s j p l) = ((stagesE 0 x) (2 * 1 * j.val + 1 * p.val + l.val)) := fun j p l => by
    rw [start_at, hx]
    show x (2 * j.val + p.val) = x (2 * 1 * j.val + 1 * p.val + l.val)
    rw [show 2 * 1 * j.val + 1 * p.val + l.val = 2 * j.val + p.val by omega]
  have h1 : ∀ j p l, stage0 (start W G) (ix5 b s j p l) = ((stagesE 1 x) (2 * 2 * j.val + 2 * p.val + l.val)) := fun j p l => by
    have e := stage0_at _ (stagesE 0 x) b s (fun (j : Fin 4096) (p : Fin 2) (l : Fin 1) => (h0 j p l).trans (congrArg (stagesE 0 x) (by omega))) j p l
    exact e.trans (congrArg (stagesE 1 x) (by omega))
  have h2 : ∀ j p l, stage1 (stage0 (start W G)) (ix5 b s j p l) = ((stagesE 2 x) (2 * 4 * j.val + 4 * p.val + l.val)) := fun j p l => by
    have e := stage1_at _ (stagesE 1 x) b s (fun (j : Fin 2048) (p : Fin 2) (l : Fin 2) => (h1 j p l).trans (congrArg (stagesE 1 x) (by omega))) j p l
    exact e.trans (congrArg (stagesE 2 x) (by omega))
  have h3 : ∀ j p l, stage2 (stage1 (stage0 (start W G))) (ix5 b s j p l) = ((stagesE 3 x) (2 * 8 * j.val + 8 * p.val + l.val)) := fun j p l => by
    have e := stage2_at _ (stagesE 2 x) b s (fun (j : Fin 1024) (p : Fin 2) (l : Fin 4) => (h2 j p l).trans (congrArg (stagesE 2 x) (by omega))) j p l
    exact e.trans (congrArg (stagesE 3 x) (by omega))
  have h4 : ∀ j p l, stage3 (stage2 (stage1 (stage0 (start W G)))) (ix5 b s j p l) = ((stagesE 4 x) (2 * 16 * j.val + 16 * p.val + l.val)) := fun j p l => by
    have e := stage3_at _ (stagesE 3 x) b s (fun (j : Fin 512) (p : Fin 2) (l : Fin 8) => (h3 j p l).trans (congrArg (stagesE 3 x) (by omega))) j p l
    exact e.trans (congrArg (stagesE 4 x) (by omega))
  have h5 : ∀ j p l, stage4 (stage3 (stage2 (stage1 (stage0 (start W G))))) (ix5 b s j p l) = ((stagesE 5 x) (2 * 32 * j.val + 32 * p.val + l.val)) := fun j p l => by
    have e := stage4_at _ (stagesE 4 x) b s (fun (j : Fin 256) (p : Fin 2) (l : Fin 16) => (h4 j p l).trans (congrArg (stagesE 4 x) (by omega))) j p l
    exact e.trans (congrArg (stagesE 5 x) (by omega))
  have h6 : ∀ j p l, stage5 (stage4 (stage3 (stage2 (stage1 (stage0 (start W G)))))) (ix5 b s j p l) = ((stagesE 6 x) (2 * 64 * j.val + 64 * p.val + l.val)) := fun j p l => by
    have e := stage5_at _ (stagesE 5 x) b s (fun (j : Fin 128) (p : Fin 2) (l : Fin 32) => (h5 j p l).trans (congrArg (stagesE 5 x) (by omega))) j p l
    exact e.trans (congrArg (stagesE 6 x) (by omega))
  unfold had
  rw [stage6_at, flat6_at]
  refine congrArg (· * Ideal.ofBits .f32 1035273459#32) ?_
  rw [h6, h6]
  show _ = stepE 64 (stagesE 6 x) _
  unfold stepE
  by_cases h : (128 * j.val + l.val) / 64 % 2 = 0
  · rw [if_pos h, if_pos h]
    refine congrArg₂ (fun a b => stagesE 6 x a + stagesE 6 x b) ?_ ?_
    · show 2 * 64 * ((128 * j.val + l.val) / 128) + 64 * 0 + (128 * j.val + l.val) % 64 = _; omega
    · show 2 * 64 * ((128 * j.val + l.val) / 128) + 64 * 1 + (128 * j.val + l.val) % 64 = _; omega
  · rw [if_neg h, if_neg h]
    refine congrArg₂ (fun a b => stagesE 6 x a - stagesE 6 x b) ?_ ?_
    · show 2 * 64 * ((128 * j.val + l.val) / 128) + 64 * 0 + (128 * j.val + l.val) % 64 = _; omega
    · show 2 * 64 * ((128 * j.val + l.val) / 128) + 64 * 1 + (128 * j.val + l.val) % 64 = _; omega

end Cert.ReferenceIdeal.Hand

end
-- ==== Proof.Hand.RefRun.lean ====
/- The two results of the reference. -/
module

public import proofs.«01_k».proof.Proof.Hand.RefVal

@[expose] public section

-- membership in a rectangle of production extents (`View.cover_of_tiled`): the elaborator's structural look
-- recurses once per coordinate of the long axes
set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The reference's results, from its two arguments. -/
def refScales (W : FVec Ideal S2x1024x8192 .bf16) (G : FVec Ideal S8192 .f32) : FVec Ideal S2x1024x64 .f32 :=
  scales (amax (had W G))

def refCodes (W : FVec Ideal S2x1024x8192 .bf16) (G : FVec Ideal S8192 .f32) : IVec S2x1024x4096 8 :=
  pack (nibs (quant (had W G) (refScales W G)))

variable (V0 : Valuation τ sig (Elt Ideal))

theorem v83_eq : res_main_v83 V0 = had (V0 (Proc.devRef .tc main_arg0)) (V0 (Proc.devRef .tc main_arg1)) := rfl

theorem v102_eq : res_main_v102 V0 = nibs (quant (had (V0 (Proc.devRef .tc main_arg0)) (V0 (Proc.devRef .tc main_arg1)))
    (refScales (V0 (Proc.devRef .tc main_arg0)) (V0 (Proc.devRef .tc main_arg1)))) := rfl

/-- Every run of the reference leaves these two results. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110) = refCodes (m ((c.tc : Thread nD τ).loc main_arg0)) (m ((c.tc : Thread nD τ).loc main_arg1))
      ∧ r.2.mem ((c.tc : Thread nD τ).loc main_v90) = refScales (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => h c) (Cert.ReferenceIdeal.Value.run m ρ)

end Cert.ReferenceIdeal.Hand

end
-- ==== Proof.Hand.Match.lean ====
/- The two results of the kernel and of its reference are the same. -/
module

public import proofs.«01_k».proof.Proof.Hand.Elem
public import proofs.«01_k».proof.Proof.Hand.RefRun

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.Hand (stagesE)
open Cert.ReferenceIdeal.Hand (refScales refCodes had had_at amax_at scales_at quant_at nibs_at)

/-- The reference's scales. -/
theorem ref_scales_at (W : FVec Ideal S2x1024x8192 .bf16) (G : FVec Ideal S8192 .f32) (b : Fin 2) (s : Fin 1024) (j : Fin 64) (x : ℕ → EReal)
    (hx : ∀ n : Fin 8192, W (ix3 b s n) * G (ix1 n) = x n.val) :
    refScales W G (ix3 b s j) = grpScale (stagesE 7 x) j.val := by
  unfold refScales grpScale
  rw [scales_at, amax_at]
  refine congrArg (fun z => scaleE (Finset.univ.fold max ⊥ z)) (funext fun k => congrArg absE ?_)
  exact had_at W G b s x hx j k

/-- The reference's bytes. -/
theorem ref_codes_at (W : FVec Ideal S2x1024x8192 .bf16) (G : FVec Ideal S8192 .f32) (b : Fin 2) (s : Fin 1024) (n : Fin 4096) (x : ℕ → EReal)
    (hx : ∀ n : Fin 8192, W (ix3 b s n) * G (ix1 n) = x n.val) :
    refCodes W G (ix3 b s n) = byteOf (codeR (stagesE 7 x) (2 * n.val)) (codeR (stagesE 7 x) (2 * n.val + 1)) := by
  have key : ∀ p : Fin 2, Cert.ReferenceIdeal.Hand.nibs (Cert.ReferenceIdeal.Hand.quant (had W G) (refScales W G)) (ix4 b s n p)
      = ((codeR (stagesE 7 x) (2 * n.val + p.val)).setWidth 8).signExtend 32 &&& 15#32 := fun p => by
    rw [nibs_at, quant_at, ref_scales_at W G b s _ x hx,
      had_at W G b s x hx]
    unfold codeR
    rw [show 128 * ((2 * n.val + p.val) / 128) + (2 * n.val + p.val) % 128 = 2 * n.val + p.val from Nat.div_add_mod _ _]
    rfl
  unfold refCodes
  rw [Cert.ReferenceIdeal.Hand.pack_at, key, key]
  rfl

/-- The products of one row of weights with the signs. -/
theorem row_products (c : Dev nD) (b : Fin 2) (s : Fin 1024) :
    ∃ x : ℕ → EReal, ∀ n : Fin 8192, Wm m c (ix3 b s n) * Gm m c (ix1 n) = x n.val :=
  ⟨fun k => if h : k < 8192 then Wm m c (ix3 b s ⟨k, h⟩) * Gm m c (ix1 ⟨k, h⟩) else 0, fun n => by simp only [n.isLt, dif_pos]⟩

/-- The kernel leaves the reference's scales. -/
theorem scales_match (c : Dev nD) :
    Pipeline.afterTail₀ cfgs (dats m) 0 (V0 m) [hostOps1] c main_v4 = refScales (Wm m c) (Gm m c) := by
  rw [scales_eq]
  funext y
  obtain ⟨b, s, j, rfl⟩ : ∃ (b : Fin 2) (s : Fin 1024) (j : Fin 64), y = ix3 b s j := ⟨y 0, y 1, y 2, by funext a; fin_cases a <;> rfl⟩
  obtain ⟨x, hx⟩ := row_products m c b s
  exact (turn_s (scalesAll m c) b s j).trans ((scales_flat m c b s j x hx).trans ((grpScale_flat x j.val).trans (ref_scales_at _ _ b s j x hx).symm))

/-- The kernel leaves the reference's packed codes. -/
theorem codes_match (c : Dev nD) :
    Pipeline.afterTail₀ cfgs (dats m) 0 (V0 m) [hostOps1] c main_v3 = refCodes (Wm m c) (Gm m c) := by
  rw [codes_eq]
  funext y
  obtain ⟨b, s, n, rfl⟩ : ∃ (b : Fin 2) (s : Fin 1024) (n : Fin 4096), y = ix3 b s n := ⟨y 0, y 1, y 2, by funext a; fin_cases a <;> rfl⟩
  obtain ⟨x, hx⟩ := row_products m c b s
  refine (unflat_c (codesAll m c) b s n).trans ((codes_flat m c b s n x hx).trans (Eq.trans ?_ (ref_codes_at _ _ b s n x hx).symm))
  rw [codeR_flat, codeR_flat]

end Cert.KernelIdeal.Hand

end
-- ==== Proof.Hand.Algebra.lean ====
/- The claim that the kernel and its reference leave the same results. -/
module

public import proofs.«01_k».proof.Defs
public import proofs.«01_k».proof.Proof.Hand.Match
public import proofs.«01_k».proof.Proof.Hand.RefRun
public import Idealize.ShloMosaic.Lib.Pointwise
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.ReferenceIdeal.Hand (refScales refCodes)

/-- The kernel and the reference leave the same two results. -/
theorem algebraic : @Cert.algebraic_KernelIdeal_ReferenceIdeal Cert.KernelIdeal.Gen.facts Cert.ReferenceIdeal.Gen.facts := by
  intro m g m' g' hpre hargs
  refine ⟨fun c => refCodes (Wm m c) (Gm m c), fun c => refScales (Wm m c) (Gm m c), ?_, ?_⟩
  · refine (θ_run defs _ _).mono (fun r h c => ⟨?_, ?_, ?_⟩) (θ_run_and (run_main m g) (frame m g))
    · exact ((h.1 c).2 main_v3 (Pipeline.mem_restRefs_of main_v3 (by decide) (by decide))).trans (codes_match m c)
    · exact ((h.1 c).2 main_v4 (Pipeline.mem_restRefs_of main_v4 (by decide) (by decide))).trans (scales_match m c)
    · exact h.2.1 c
  · refine (θ_run Cert.ReferenceIdeal.defs _ _).mono (fun r h c => ?_) (Cert.ReferenceIdeal.Hand.run_ref m' g')
    obtain ⟨h1, h2, h3, h4⟩ := h c
    exact ⟨h1.trans (by rw [(hargs c).1, (hargs c).2]), h2.trans (by rw [(hargs c).1, (hargs c).2]), h3, h4⟩

end Cert.KernelIdeal.Hand

end
-- ==== Proof.HandR.Facts.lean ====
/- The side conditions that the reference states, proved. -/
module

public import proofs.«01_k».proof.Reference
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096
-- one theorem at a time: the kernel's `decide` over every grid point of a production-shape program holds
-- gigabytes while it runs, and run in parallel (Lean's default) a module of fifty such closed forms passed
-- 10 GiB resident (a 224-point ring kernel's); in turn it peaks near 2 GiB and finishes no later
set_option Elab.async false

namespace Cert.Reference.Gen

open Idealize.ShloMosaic Idealize.SL.Sem
/-! ## The facts over the vocabulary (`Facts₀`) -/

theorem bitsLt_bf16_f32 : FTy.bits .bf16 < FTy.bits .f32 := by decide
theorem bcast_S8192_S1x1x8192_2 : S8192.BroadcastsInDim S1x1x8192 (![2] : Fin 1 → Fin S1x1x8192.rank) := by decide
theorem bcast_S1x1x8192_S2x1024x8192_0_1_2 : S1x1x8192.BroadcastsInDim S2x1024x8192 (![0, 1, 2] : Fin 3 → Fin S2x1024x8192.rank) := by decide
theorem shapeCasts_S2x1024x8192_S2x1024x4096x2x1 : S2x1024x8192.ShapeCasts S2x1024x4096x2x1 := by decide
theorem slices_S2x1024x4096x2x1_S2x1024x4096x1x1_0_0_0_0_0 : S2x1024x4096x2x1.Slices ![0, 0, 0, 0, 0] S2x1024x4096x1x1 := by decide
theorem shapeCasts_S2x1024x4096x1x1_S2x1024x4096x1 : S2x1024x4096x1x1.ShapeCasts S2x1024x4096x1 := by decide
theorem slices_S2x1024x4096x2x1_S2x1024x4096x1x1_0_0_0_1_0 : S2x1024x4096x2x1.Slices ![0, 0, 0, 1, 0] S2x1024x4096x1x1 := by decide
theorem bcast_S2x1024x4096x1_S2x1024x4096x1x1_0_1_2_4 : S2x1024x4096x1.BroadcastsInDim S2x1024x4096x1x1 (![0, 1, 2, 4] : Fin 4 → Fin S2x1024x4096x1x1.rank) := by decide
theorem concatenates_S2x1024x4096x1x1_S2x1024x4096x1x1_S2x1024x4096x2x1_d3 : Shape.Concatenates [S2x1024x4096x1x1, S2x1024x4096x1x1] S2x1024x4096x2x1 3 := by decide
theorem shapeCasts_S2x1024x4096x2x1_S2x1024x8192 : S2x1024x4096x2x1.ShapeCasts S2x1024x8192 := by decide
theorem shapeCasts_S2x1024x8192_S2x1024x2048x2x2 : S2x1024x8192.ShapeCasts S2x1024x2048x2x2 := by decide
theorem slices_S2x1024x2048x2x2_S2x1024x2048x1x2_0_0_0_0_0 : S2x1024x2048x2x2.Slices ![0, 0, 0, 0, 0] S2x1024x2048x1x2 := by decide
theorem shapeCasts_S2x1024x2048x1x2_S2x1024x2048x2 : S2x1024x2048x1x2.ShapeCasts S2x1024x2048x2 := by decide
theorem slices_S2x1024x2048x2x2_S2x1024x2048x1x2_0_0_0_1_0 : S2x1024x2048x2x2.Slices ![0, 0, 0, 1, 0] S2x1024x2048x1x2 := by decide
theorem bcast_S2x1024x2048x2_S2x1024x2048x1x2_0_1_2_4 : S2x1024x2048x2.BroadcastsInDim S2x1024x2048x1x2 (![0, 1, 2, 4] : Fin 4 → Fin S2x1024x2048x1x2.rank) := by decide
theorem concatenates_S2x1024x2048x1x2_S2x1024x2048x1x2_S2x1024x2048x2x2_d3 : Shape.Concatenates [S2x1024x2048x1x2, S2x1024x2048x1x2] S2x1024x2048x2x2 3 := by decide
theorem shapeCasts_S2x1024x2048x2x2_S2x1024x8192 : S2x1024x2048x2x2.ShapeCasts S2x1024x8192 := by decide
theorem shapeCasts_S2x1024x8192_S2x1024x1024x2x4 : S2x1024x8192.ShapeCasts S2x1024x1024x2x4 := by decide
theorem slices_S2x1024x1024x2x4_S2x1024x1024x1x4_0_0_0_0_0 : S2x1024x1024x2x4.Slices ![0, 0, 0, 0, 0] S2x1024x1024x1x4 := by decide
theorem shapeCasts_S2x1024x1024x1x4_S2x1024x1024x4 : S2x1024x1024x1x4.ShapeCasts S2x1024x1024x4 := by decide
theorem slices_S2x1024x1024x2x4_S2x1024x1024x1x4_0_0_0_1_0 : S2x1024x1024x2x4.Slices ![0, 0, 0, 1, 0] S2x1024x1024x1x4 := by decide
theorem bcast_S2x1024x1024x4_S2x1024x1024x1x4_0_1_2_4 : S2x1024x1024x4.BroadcastsInDim S2x1024x1024x1x4 (![0, 1, 2, 4] : Fin 4 → Fin S2x1024x1024x1x4.rank) := by decide
theorem concatenates_S2x1024x1024x1x4_S2x1024x1024x1x4_S2x1024x1024x2x4_d3 : Shape.Concatenates [S2x1024x1024x1x4, S2x1024x1024x1x4] S2x1024x1024x2x4 3 := by decide
theorem shapeCasts_S2x1024x1024x2x4_S2x1024x8192 : S2x1024x1024x2x4.ShapeCasts S2x1024x8192 := by decide
theorem shapeCasts_S2x1024x8192_S2x1024x512x2x8 : S2x1024x8192.ShapeCasts S2x1024x512x2x8 := by decide
theorem slices_S2x1024x512x2x8_S2x1024x512x1x8_0_0_0_0_0 : S2x1024x512x2x8.Slices ![0, 0, 0, 0, 0] S2x1024x512x1x8 := by decide
theorem shapeCasts_S2x1024x512x1x8_S2x1024x512x8 : S2x1024x512x1x8.ShapeCasts S2x1024x512x8 := by decide
theorem slices_S2x1024x512x2x8_S2x1024x512x1x8_0_0_0_1_0 : S2x1024x512x2x8.Slices ![0, 0, 0, 1, 0] S2x1024x512x1x8 := by decide
theorem bcast_S2x1024x512x8_S2x1024x512x1x8_0_1_2_4 : S2x1024x512x8.BroadcastsInDim S2x1024x512x1x8 (![0, 1, 2, 4] : Fin 4 → Fin S2x1024x512x1x8.rank) := by decide
theorem concatenates_S2x1024x512x1x8_S2x1024x512x1x8_S2x1024x512x2x8_d3 : Shape.Concatenates [S2x1024x512x1x8, S2x1024x512x1x8] S2x1024x512x2x8 3 := by decide
theorem shapeCasts_S2x1024x512x2x8_S2x1024x8192 : S2x1024x512x2x8.ShapeCasts S2x1024x8192 := by decide
theorem shapeCasts_S2x1024x8192_S2x1024x256x2x16 : S2x1024x8192.ShapeCasts S2x1024x256x2x16 := by decide
theorem slices_S2x1024x256x2x16_S2x1024x256x1x16_0_0_0_0_0 : S2x1024x256x2x16.Slices ![0, 0, 0, 0, 0] S2x1024x256x1x16 := by decide
theorem shapeCasts_S2x1024x256x1x16_S2x1024x256x16 : S2x1024x256x1x16.ShapeCasts S2x1024x256x16 := by decide
theorem slices_S2x1024x256x2x16_S2x1024x256x1x16_0_0_0_1_0 : S2x1024x256x2x16.Slices ![0, 0, 0, 1, 0] S2x1024x256x1x16 := by decide
theorem bcast_S2x1024x256x16_S2x1024x256x1x16_0_1_2_4 : S2x1024x256x16.BroadcastsInDim S2x1024x256x1x16 (![0, 1, 2, 4] : Fin 4 → Fin S2x1024x256x1x16.rank) := by decide
theorem concatenates_S2x1024x256x1x16_S2x1024x256x1x16_S2x1024x256x2x16_d3 : Shape.Concatenates [S2x1024x256x1x16, S2x1024x256x1x16] S2x1024x256x2x16 3 := by decide
theorem shapeCasts_S2x1024x256x2x16_S2x1024x8192 : S2x1024x256x2x16.ShapeCasts S2x1024x8192 := by decide
theorem shapeCasts_S2x1024x8192_S2x1024x128x2x32 : S2x1024x8192.ShapeCasts S2x1024x128x2x32 := by decide
theorem slices_S2x1024x128x2x32_S2x1024x128x1x32_0_0_0_0_0 : S2x1024x128x2x32.Slices ![0, 0, 0, 0, 0] S2x1024x128x1x32 := by decide
theorem shapeCasts_S2x1024x128x1x32_S2x1024x128x32 : S2x1024x128x1x32.ShapeCasts S2x1024x128x32 := by decide
theorem slices_S2x1024x128x2x32_S2x1024x128x1x32_0_0_0_1_0 : S2x1024x128x2x32.Slices ![0, 0, 0, 1, 0] S2x1024x128x1x32 := by decide
theorem bcast_S2x1024x128x32_S2x1024x128x1x32_0_1_2_4 : S2x1024x128x32.BroadcastsInDim S2x1024x128x1x32 (![0, 1, 2, 4] : Fin 4 → Fin S2x1024x128x1x32.rank) := by decide
theorem concatenates_S2x1024x128x1x32_S2x1024x128x1x32_S2x1024x128x2x32_d3 : Shape.Concatenates [S2x1024x128x1x32, S2x1024x128x1x32] S2x1024x128x2x32 3 := by decide
theorem shapeCasts_S2x1024x128x2x32_S2x1024x8192 : S2x1024x128x2x32.ShapeCasts S2x1024x8192 := by decide
theorem shapeCasts_S2x1024x8192_S2x1024x64x2x64 : S2x1024x8192.ShapeCasts S2x1024x64x2x64 := by decide
theorem slices_S2x1024x64x2x64_S2x1024x64x1x64_0_0_0_0_0 : S2x1024x64x2x64.Slices ![0, 0, 0, 0, 0] S2x1024x64x1x64 := by decide
theorem shapeCasts_S2x1024x64x1x64_S2x1024x64x64 : S2x1024x64x1x64.ShapeCasts S2x1024x64x64 := by decide
theorem slices_S2x1024x64x2x64_S2x1024x64x1x64_0_0_0_1_0 : S2x1024x64x2x64.Slices ![0, 0, 0, 1, 0] S2x1024x64x1x64 := by decide
theorem bcast_S2x1024x64x64_S2x1024x64x1x64_0_1_2_4 : S2x1024x64x64.BroadcastsInDim S2x1024x64x1x64 (![0, 1, 2, 4] : Fin 4 → Fin S2x1024x64x1x64.rank) := by decide
theorem concatenates_S2x1024x64x1x64_S2x1024x64x1x64_S2x1024x64x2x64_d3 : Shape.Concatenates [S2x1024x64x1x64, S2x1024x64x1x64] S2x1024x64x2x64 3 := by decide
theorem shapeCasts_S2x1024x64x2x64_S2x1024x8192 : S2x1024x64x2x64.ShapeCasts S2x1024x8192 := by decide
theorem bcast_S_S2x1024x8192 : S_.BroadcastsInDim S2x1024x8192 (![] : Fin 0 → Fin S2x1024x8192.rank) := by decide
theorem shapeCasts_S2x1024x8192_S2x1024x64x128 : S2x1024x8192.ShapeCasts S2x1024x64x128 := by decide
theorem reducesTo_S2x1024x64x128_S2x1024x64_d3 : S2x1024x64x128.ReducesTo [3] S2x1024x64 := by decide
theorem h_S_ : 0 < S_.numel := by decide
theorem bcast_S_S2x1024x64 : S_.BroadcastsInDim S2x1024x64 (![] : Fin 0 → Fin S2x1024x64.rank) := by decide
theorem bcast_S2x1024x64_S2x1024x64x1_0_1_2 : S2x1024x64.BroadcastsInDim S2x1024x64x1 (![0, 1, 2] : Fin 3 → Fin S2x1024x64x1.rank) := by decide
theorem bcast_S2x1024x64x1_S2x1024x64x128_0_1_2_3 : S2x1024x64x1.BroadcastsInDim S2x1024x64x128 (![0, 1, 2, 3] : Fin 4 → Fin S2x1024x64x128.rank) := by decide
theorem bcast_S_S2x1024x64x128 : S_.BroadcastsInDim S2x1024x64x128 (![] : Fin 0 → Fin S2x1024x64x128.rank) := by decide
theorem natLt_8_32 : 8 < 32 := by decide
theorem shapeCasts_S2x1024x64x128_S2x1024x8192 : S2x1024x64x128.ShapeCasts S2x1024x8192 := by decide
theorem shapeCasts_S2x1024x8192_S2x1024x4096x2 : S2x1024x8192.ShapeCasts S2x1024x4096x2 := by decide
theorem slices_S2x1024x4096x2_S2x1024x4096x1_0_0_0_0 : S2x1024x4096x2.Slices ![0, 0, 0, 0] S2x1024x4096x1 := by decide
theorem shapeCasts_S2x1024x4096x1_S2x1024x4096 : S2x1024x4096x1.ShapeCasts S2x1024x4096 := by decide
theorem slices_S2x1024x4096x2_S2x1024x4096x1_0_0_0_1 : S2x1024x4096x2.Slices ![0, 0, 0, 1] S2x1024x4096x1 := by decide
theorem bcast_S_S2x1024x4096 : S_.BroadcastsInDim S2x1024x4096 (![] : Fin 0 → Fin S2x1024x4096.rank) := by decide

/-- The program's facts over its vocabulary, proved: the instance its windows take. -/
instance facts₀ : Cert.Reference.Facts₀ where
  bitsLt_bf16_f32 := @bitsLt_bf16_f32
  bcast_S8192_S1x1x8192_2 := @bcast_S8192_S1x1x8192_2
  bcast_S1x1x8192_S2x1024x8192_0_1_2 := @bcast_S1x1x8192_S2x1024x8192_0_1_2
  shapeCasts_S2x1024x8192_S2x1024x4096x2x1 := @shapeCasts_S2x1024x8192_S2x1024x4096x2x1
  slices_S2x1024x4096x2x1_S2x1024x4096x1x1_0_0_0_0_0 := @slices_S2x1024x4096x2x1_S2x1024x4096x1x1_0_0_0_0_0
  shapeCasts_S2x1024x4096x1x1_S2x1024x4096x1 := @shapeCasts_S2x1024x4096x1x1_S2x1024x4096x1
  slices_S2x1024x4096x2x1_S2x1024x4096x1x1_0_0_0_1_0 := @slices_S2x1024x4096x2x1_S2x1024x4096x1x1_0_0_0_1_0
  bcast_S2x1024x4096x1_S2x1024x4096x1x1_0_1_2_4 := @bcast_S2x1024x4096x1_S2x1024x4096x1x1_0_1_2_4
  concatenates_S2x1024x4096x1x1_S2x1024x4096x1x1_S2x1024x4096x2x1_d3 := @concatenates_S2x1024x4096x1x1_S2x1024x4096x1x1_S2x1024x4096x2x1_d3
  shapeCasts_S2x1024x4096x2x1_S2x1024x8192 := @shapeCasts_S2x1024x4096x2x1_S2x1024x8192
  shapeCasts_S2x1024x8192_S2x1024x2048x2x2 := @shapeCasts_S2x1024x8192_S2x1024x2048x2x2
  slices_S2x1024x2048x2x2_S2x1024x2048x1x2_0_0_0_0_0 := @slices_S2x1024x2048x2x2_S2x1024x2048x1x2_0_0_0_0_0
  shapeCasts_S2x1024x2048x1x2_S2x1024x2048x2 := @shapeCasts_S2x1024x2048x1x2_S2x1024x2048x2
  slices_S2x1024x2048x2x2_S2x1024x2048x1x2_0_0_0_1_0 := @slices_S2x1024x2048x2x2_S2x1024x2048x1x2_0_0_0_1_0
  bcast_S2x1024x2048x2_S2x1024x2048x1x2_0_1_2_4 := @bcast_S2x1024x2048x2_S2x1024x2048x1x2_0_1_2_4
  concatenates_S2x1024x2048x1x2_S2x1024x2048x1x2_S2x1024x2048x2x2_d3 := @concatenates_S2x1024x2048x1x2_S2x1024x2048x1x2_S2x1024x2048x2x2_d3
  shapeCasts_S2x1024x2048x2x2_S2x1024x8192 := @shapeCasts_S2x1024x2048x2x2_S2x1024x8192
  shapeCasts_S2x1024x8192_S2x1024x1024x2x4 := @shapeCasts_S2x1024x8192_S2x1024x1024x2x4
  slices_S2x1024x1024x2x4_S2x1024x1024x1x4_0_0_0_0_0 := @slices_S2x1024x1024x2x4_S2x1024x1024x1x4_0_0_0_0_0
  shapeCasts_S2x1024x1024x1x4_S2x1024x1024x4 := @shapeCasts_S2x1024x1024x1x4_S2x1024x1024x4
  slices_S2x1024x1024x2x4_S2x1024x1024x1x4_0_0_0_1_0 := @slices_S2x1024x1024x2x4_S2x1024x1024x1x4_0_0_0_1_0
  bcast_S2x1024x1024x4_S2x1024x1024x1x4_0_1_2_4 := @bcast_S2x1024x1024x4_S2x1024x1024x1x4_0_1_2_4
  concatenates_S2x1024x1024x1x4_S2x1024x1024x1x4_S2x1024x1024x2x4_d3 := @concatenates_S2x1024x1024x1x4_S2x1024x1024x1x4_S2x1024x1024x2x4_d3
  shapeCasts_S2x1024x1024x2x4_S2x1024x8192 := @shapeCasts_S2x1024x1024x2x4_S2x1024x8192
  shapeCasts_S2x1024x8192_S2x1024x512x2x8 := @shapeCasts_S2x1024x8192_S2x1024x512x2x8
  slices_S2x1024x512x2x8_S2x1024x512x1x8_0_0_0_0_0 := @slices_S2x1024x512x2x8_S2x1024x512x1x8_0_0_0_0_0
  shapeCasts_S2x1024x512x1x8_S2x1024x512x8 := @shapeCasts_S2x1024x512x1x8_S2x1024x512x8
  slices_S2x1024x512x2x8_S2x1024x512x1x8_0_0_0_1_0 := @slices_S2x1024x512x2x8_S2x1024x512x1x8_0_0_0_1_0
  bcast_S2x1024x512x8_S2x1024x512x1x8_0_1_2_4 := @bcast_S2x1024x512x8_S2x1024x512x1x8_0_1_2_4
  concatenates_S2x1024x512x1x8_S2x1024x512x1x8_S2x1024x512x2x8_d3 := @concatenates_S2x1024x512x1x8_S2x1024x512x1x8_S2x1024x512x2x8_d3
  shapeCasts_S2x1024x512x2x8_S2x1024x8192 := @shapeCasts_S2x1024x512x2x8_S2x1024x8192
  shapeCasts_S2x1024x8192_S2x1024x256x2x16 := @shapeCasts_S2x1024x8192_S2x1024x256x2x16
  slices_S2x1024x256x2x16_S2x1024x256x1x16_0_0_0_0_0 := @slices_S2x1024x256x2x16_S2x1024x256x1x16_0_0_0_0_0
  shapeCasts_S2x1024x256x1x16_S2x1024x256x16 := @shapeCasts_S2x1024x256x1x16_S2x1024x256x16
  slices_S2x1024x256x2x16_S2x1024x256x1x16_0_0_0_1_0 := @slices_S2x1024x256x2x16_S2x1024x256x1x16_0_0_0_1_0
  bcast_S2x1024x256x16_S2x1024x256x1x16_0_1_2_4 := @bcast_S2x1024x256x16_S2x1024x256x1x16_0_1_2_4
  concatenates_S2x1024x256x1x16_S2x1024x256x1x16_S2x1024x256x2x16_d3 := @concatenates_S2x1024x256x1x16_S2x1024x256x1x16_S2x1024x256x2x16_d3
  shapeCasts_S2x1024x256x2x16_S2x1024x8192 := @shapeCasts_S2x1024x256x2x16_S2x1024x8192
  shapeCasts_S2x1024x8192_S2x1024x128x2x32 := @shapeCasts_S2x1024x8192_S2x1024x128x2x32
  slices_S2x1024x128x2x32_S2x1024x128x1x32_0_0_0_0_0 := @slices_S2x1024x128x2x32_S2x1024x128x1x32_0_0_0_0_0
  shapeCasts_S2x1024x128x1x32_S2x1024x128x32 := @shapeCasts_S2x1024x128x1x32_S2x1024x128x32
  slices_S2x1024x128x2x32_S2x1024x128x1x32_0_0_0_1_0 := @slices_S2x1024x128x2x32_S2x1024x128x1x32_0_0_0_1_0
  bcast_S2x1024x128x32_S2x1024x128x1x32_0_1_2_4 := @bcast_S2x1024x128x32_S2x1024x128x1x32_0_1_2_4
  concatenates_S2x1024x128x1x32_S2x1024x128x1x32_S2x1024x128x2x32_d3 := @concatenates_S2x1024x128x1x32_S2x1024x128x1x32_S2x1024x128x2x32_d3
  shapeCasts_S2x1024x128x2x32_S2x1024x8192 := @shapeCasts_S2x1024x128x2x32_S2x1024x8192
  shapeCasts_S2x1024x8192_S2x1024x64x2x64 := @shapeCasts_S2x1024x8192_S2x1024x64x2x64
  slices_S2x1024x64x2x64_S2x1024x64x1x64_0_0_0_0_0 := @slices_S2x1024x64x2x64_S2x1024x64x1x64_0_0_0_0_0
  shapeCasts_S2x1024x64x1x64_S2x1024x64x64 := @shapeCasts_S2x1024x64x1x64_S2x1024x64x64
  slices_S2x1024x64x2x64_S2x1024x64x1x64_0_0_0_1_0 := @slices_S2x1024x64x2x64_S2x1024x64x1x64_0_0_0_1_0
  bcast_S2x1024x64x64_S2x1024x64x1x64_0_1_2_4 := @bcast_S2x1024x64x64_S2x1024x64x1x64_0_1_2_4
  concatenates_S2x1024x64x1x64_S2x1024x64x1x64_S2x1024x64x2x64_d3 := @concatenates_S2x1024x64x1x64_S2x1024x64x1x64_S2x1024x64x2x64_d3
  shapeCasts_S2x1024x64x2x64_S2x1024x8192 := @shapeCasts_S2x1024x64x2x64_S2x1024x8192
  bcast_S_S2x1024x8192 := @bcast_S_S2x1024x8192
  shapeCasts_S2x1024x8192_S2x1024x64x128 := @shapeCasts_S2x1024x8192_S2x1024x64x128
  reducesTo_S2x1024x64x128_S2x1024x64_d3 := @reducesTo_S2x1024x64x128_S2x1024x64_d3
  h_S_ := @h_S_
  bcast_S_S2x1024x64 := @bcast_S_S2x1024x64
  bcast_S2x1024x64_S2x1024x64x1_0_1_2 := @bcast_S2x1024x64_S2x1024x64x1_0_1_2
  bcast_S2x1024x64x1_S2x1024x64x128_0_1_2_3 := @bcast_S2x1024x64x1_S2x1024x64x128_0_1_2_3
  bcast_S_S2x1024x64x128 := @bcast_S_S2x1024x64x128
  natLt_8_32 := @natLt_8_32
  shapeCasts_S2x1024x64x128_S2x1024x8192 := @shapeCasts_S2x1024x64x128_S2x1024x8192
  shapeCasts_S2x1024x8192_S2x1024x4096x2 := @shapeCasts_S2x1024x8192_S2x1024x4096x2
  slices_S2x1024x4096x2_S2x1024x4096x1_0_0_0_0 := @slices_S2x1024x4096x2_S2x1024x4096x1_0_0_0_0
  shapeCasts_S2x1024x4096x1_S2x1024x4096 := @shapeCasts_S2x1024x4096x1_S2x1024x4096
  slices_S2x1024x4096x2_S2x1024x4096x1_0_0_0_1 := @slices_S2x1024x4096x2_S2x1024x4096x1_0_0_0_1
  bcast_S_S2x1024x4096 := @bcast_S_S2x1024x4096

/-! ## The facts over the windows (`Facts`) -/

/-- Every fact the program states, proved: the instance its functions and a certificate's claims take. -/
instance facts : Cert.Reference.Facts where

end Cert.Reference.Gen
-- ==== Proof.HandR.Run.lean ====
/- The reference as a list of its host operations, and its run read back. -/
module

public import proofs.«01_k».proof.Proof.HandR.Facts
public import Idealize.ShloMosaic.Lib.StableHlo.Run
public import Idealize.ShloMosaic.Lib.Pipeline.Frame

@[expose] public section

set_option Elab.async false

noncomputable section

namespace Cert.Reference.Value

open Cert.Reference Cert.Reference.Gen Idealize.ShloMosaic Idealize.ShloMosaic.TcCoe Idealize.SL.Sem Idealize.ShloMosaic.StableHlo

variable {F : FTy → Type} [FloatOps F]

/-- The function of the operation that writes `main_v13`, named. It packs its operands into a list of dependent pairs
    whose shapes a later argument's type mentions, so `simp` cannot rewrite an operand where it stands; applied by
    name, the operands are plain arguments, which the window lemmas below rewrite before the name unfolds. -/
def fn_main_v13 : (⟨S2x1024x4096x1x1, .f32⟩ : BufTy).Contents (Elt F) → (⟨S2x1024x4096x1x1, .f32⟩ : BufTy).Contents (Elt F) → (⟨S2x1024x4096x2x1, .f32⟩ : BufTy).Contents (Elt F) :=
  (fun a b => concatenate S2x1024x4096x2x1 3 [⟨S2x1024x4096x1x1, a⟩, ⟨S2x1024x4096x1x1, b⟩] concatenates_S2x1024x4096x1x1_S2x1024x4096x1x1_S2x1024x4096x2x1_d3)

/-- The function of the operation that writes `main_v24`, named. It packs its operands into a list of dependent pairs
    whose shapes a later argument's type mentions, so `simp` cannot rewrite an operand where it stands; applied by
    name, the operands are plain arguments, which the window lemmas below rewrite before the name unfolds. -/
def fn_main_v24 : (⟨S2x1024x2048x1x2, .f32⟩ : BufTy).Contents (Elt F) → (⟨S2x1024x2048x1x2, .f32⟩ : BufTy).Contents (Elt F) → (⟨S2x1024x2048x2x2, .f32⟩ : BufTy).Contents (Elt F) :=
  (fun a b => concatenate S2x1024x2048x2x2 3 [⟨S2x1024x2048x1x2, a⟩, ⟨S2x1024x2048x1x2, b⟩] concatenates_S2x1024x2048x1x2_S2x1024x2048x1x2_S2x1024x2048x2x2_d3)

/-- The function of the operation that writes `main_v35`, named. It packs its operands into a list of dependent pairs
    whose shapes a later argument's type mentions, so `simp` cannot rewrite an operand where it stands; applied by
    name, the operands are plain arguments, which the window lemmas below rewrite before the name unfolds. -/
def fn_main_v35 : (⟨S2x1024x1024x1x4, .f32⟩ : BufTy).Contents (Elt F) → (⟨S2x1024x1024x1x4, .f32⟩ : BufTy).Contents (Elt F) → (⟨S2x1024x1024x2x4, .f32⟩ : BufTy).Contents (Elt F) :=
  (fun a b => concatenate S2x1024x1024x2x4 3 [⟨S2x1024x1024x1x4, a⟩, ⟨S2x1024x1024x1x4, b⟩] concatenates_S2x1024x1024x1x4_S2x1024x1024x1x4_S2x1024x1024x2x4_d3)

/-- The function of the operation that writes `main_v46`, named. It packs its operands into a list of dependent pairs
    whose shapes a later argument's type mentions, so `simp` cannot rewrite an operand where it stands; applied by
    name, the operands are plain arguments, which the window lemmas below rewrite before the name unfolds. -/
def fn_main_v46 : (⟨S2x1024x512x1x8, .f32⟩ : BufTy).Contents (Elt F) → (⟨S2x1024x512x1x8, .f32⟩ : BufTy).Contents (Elt F) → (⟨S2x1024x512x2x8, .f32⟩ : BufTy).Contents (Elt F) :=
  (fun a b => concatenate S2x1024x512x2x8 3 [⟨S2x1024x512x1x8, a⟩, ⟨S2x1024x512x1x8, b⟩] concatenates_S2x1024x512x1x8_S2x1024x512x1x8_S2x1024x512x2x8_d3)

/-- The function of the operation that writes `main_v57`, named. It packs its operands into a list of dependent pairs
    whose shapes a later argument's type mentions, so `simp` cannot rewrite an operand where it stands; applied by
    name, the operands are plain arguments, which the window lemmas below rewrite before the name unfolds. -/
def fn_main_v57 : (⟨S2x1024x256x1x16, .f32⟩ : BufTy).Contents (Elt F) → (⟨S2x1024x256x1x16, .f32⟩ : BufTy).Contents (Elt F) → (⟨S2x1024x256x2x16, .f32⟩ : BufTy).Contents (Elt F) :=
  (fun a b => concatenate S2x1024x256x2x16 3 [⟨S2x1024x256x1x16, a⟩, ⟨S2x1024x256x1x16, b⟩] concatenates_S2x1024x256x1x16_S2x1024x256x1x16_S2x1024x256x2x16_d3)

/-- The function of the operation that writes `main_v68`, named. It packs its operands into a list of dependent pairs
    whose shapes a later argument's type mentions, so `simp` cannot rewrite an operand where it stands; applied by
    name, the operands are plain arguments, which the window lemmas below rewrite before the name unfolds. -/
def fn_main_v68 : (⟨S2x1024x128x1x32, .f32⟩ : BufTy).Contents (Elt F) → (⟨S2x1024x128x1x32, .f32⟩ : BufTy).Contents (Elt F) → (⟨S2x1024x128x2x32, .f32⟩ : BufTy).Contents (Elt F) :=
  (fun a b => concatenate S2x1024x128x2x32 3 [⟨S2x1024x128x1x32, a⟩, ⟨S2x1024x128x1x32, b⟩] concatenates_S2x1024x128x1x32_S2x1024x128x1x32_S2x1024x128x2x32_d3)

/-- The function of the operation that writes `main_v79`, named. It packs its operands into a list of dependent pairs
    whose shapes a later argument's type mentions, so `simp` cannot rewrite an operand where it stands; applied by
    name, the operands are plain arguments, which the window lemmas below rewrite before the name unfolds. -/
def fn_main_v79 : (⟨S2x1024x64x1x64, .f32⟩ : BufTy).Contents (Elt F) → (⟨S2x1024x64x1x64, .f32⟩ : BufTy).Contents (Elt F) → (⟨S2x1024x64x2x64, .f32⟩ : BufTy).Contents (Elt F) :=
  (fun a b => concatenate S2x1024x64x2x64 3 [⟨S2x1024x64x1x64, a⟩, ⟨S2x1024x64x1x64, b⟩] concatenates_S2x1024x64x1x64_S2x1024x64x1x64_S2x1024x64x2x64_d3)

/-- @main's operations 1 … 60 of 126 (window `main_part0`). -/
abbrev ops_part0 : List (HloOp τ sig (Elt F)) :=
  [ unary main_arg0 main_v0 ((extf .f32 · bitsLt_bf16_f32) : (⟨S2x1024x8192, .bf16⟩ : BufTy).Contents (Elt F) → (⟨S2x1024x8192, .f32⟩ : BufTy).Contents (Elt F)),
    unary main_arg1 main_v1 (broadcastInDim S1x1x8192 ![2] bcast_S8192_S1x1x8192_2 : (⟨S8192, .f32⟩ : BufTy).Contents (Elt F) → (⟨S1x1x8192, .f32⟩ : BufTy).Contents (Elt F)),
    unary main_v1 main_v2 (broadcastInDim S2x1024x8192 ![0, 1, 2] bcast_S1x1x8192_S2x1024x8192_0_1_2 : (⟨S1x1x8192, .f32⟩ : BufTy).Contents (Elt F) → (⟨S2x1024x8192, .f32⟩ : BufTy).Contents (Elt F)),
    binary main_v0 main_v2 main_v3 (mulf : (⟨S2x1024x8192, .f32⟩ : BufTy).Contents (Elt F) → (⟨S2x1024x8192, .f32⟩ : BufTy).Contents (Elt F) → (⟨S2x1024x8192, .f32⟩ : BufTy).Contents (Elt F)),
    reshape main_v3 main_v4 (rfl : (.f32 : EltTy) = .f32) shapeCasts_S2x1024x8192_S2x1024x4096x2x1,
    unary main_v4 main_v5 ((extractStridedSlice S2x1024x4096x1x1 ![0, 0, 0, 0, 0] · slices_S2x1024x4096x2x1_S2x1024x4096x1x1_0_0_0_0_0) : (⟨S2x1024x4096x2x1, .f32⟩ : BufTy).Contents (Elt F) → (⟨S2x1024x4096x1x1, .f32⟩ : BufTy).Contents (Elt F)),
    reshape main_v5 main_v6 (rfl : (.f32 : EltTy) = .f32) shapeCasts_S2x1024x4096x1x1_S2x1024x4096x1,
    unary main_v4 main_v7 ((extractStridedSlice S2x1024x4096x1x1 ![0, 0, 0, 1, 0] · slices_S2x1024x4096x2x1_S2x1024x4096x1x1_0_0_0_1_0) : (⟨S2x1024x4096x2x1, .f32⟩ : BufTy).Contents (Elt F) → (⟨S2x1024x4096x1x1, .f32⟩ : BufTy).Contents (Elt F)),
    reshape main_v7 main_v8 (rfl : (.f32 : EltTy) = .f32) shapeCasts_S2x1024x4096x1x1_S2x1024x4096x1,
    binary main_v6 main_v8 main_v9 (addf : (⟨S2x1024x4096x1, .f32⟩ : BufTy).Contents (Elt F) → (⟨S2x1024x4096x1, .f32⟩ : BufTy).Contents (Elt F) → (⟨S2x1024x4096x1, .f32⟩ : BufTy).Contents (Elt F)),
    binary main_v6 main_v8 main_v10 (subf : (⟨S2x1024x4096x1, .f32⟩ : BufTy).Contents (Elt F) → (⟨S2x1024x4096x1, .f32⟩ : BufTy).Contents (Elt F) → (⟨S2x1024x4096x1, .f32⟩ : BufTy).Contents (Elt F)),
    unary main_v9 main_v11 (broadcastInDim S2x1024x4096x1x1 ![0, 1, 2, 4] bcast_S2x1024x4096x1_S2x1024x4096x1x1_0_1_2_4 : (⟨S2x1024x4096x1, .f32⟩ : BufTy).Contents (Elt F) → (⟨S2x1024x4096x1x1, .f32⟩ : BufTy).Contents (Elt F)),
    unary main_v10 main_v12 (broadcastInDim S2x1024x4096x1x1 ![0, 1, 2, 4] bcast_S2x1024x4096x1_S2x1024x4096x1x1_0_1_2_4 : (⟨S2x1024x4096x1, .f32⟩ : BufTy).Contents (Elt F) → (⟨S2x1024x4096x1x1, .f32⟩ : BufTy).Contents (Elt F)),
    binary main_v11 main_v12 main_v13 (fn_main_v13 (F := F)),
    reshape main_v13 main_v14 (rfl : (.f32 : EltTy) = .f32) shapeCasts_S2x1024x4096x2x1_S2x1024x8192,
    reshape main_v14 main_v15 (rfl : (.f32 : EltTy) = .f32) shapeCasts_S2x1024x8192_S2x1024x2048x2x2,
    unary main_v15 main_v16 ((extractStridedSlice S2x1024x2048x1x2 ![0, 0, 0, 0, 0] · slices_S2x1024x2048x2x2_S2x1024x2048x1x2_0_0_0_0_0) : (⟨S2x1024x2048x2x2, .f32⟩ : BufTy).Contents (Elt F) → (⟨S2x1024x2048x1x2, .f32⟩ : BufTy).Contents (Elt F)),
    reshape main_v16 main_v17 (rfl : (.f32 : EltTy) = .f32) shapeCasts_S2x1024x2048x1x2_S2x1024x2048x2,
    unary main_v15 main_v18 ((extractStridedSlice S2x1024x2048x1x2 ![0, 0, 0, 1, 0] · slices_S2x1024x2048x2x2_S2x1024x2048x1x2_0_0_0_1_0) : (⟨S2x1024x2048x2x2, .f32⟩ : BufTy).Contents (Elt F) → (⟨S2x1024x2048x1x2, .f32⟩ : BufTy).Contents (Elt F)),
    reshape main_v18 main_v19 (rfl : (.f32 : EltTy) = .f32) shapeCasts_S2x1024x2048x1x2_S2x1024x2048x2,
    binary main_v17 main_v19 main_v20 (addf : (⟨S2x1024x2048x2, .f32⟩ : BufTy).Contents (Elt F) → (⟨S2x1024x2048x2, .f32⟩ : BufTy).Contents (Elt F) → (⟨S2x1024x2048x2, .f32⟩ : BufTy).Contents (Elt F)),
    binary main_v17 main_v19 main_v21 (subf : (⟨S2x1024x2048x2, .f32⟩ : BufTy).Contents (Elt F) → (⟨S2x1024x2048x2, .f32⟩ : BufTy).Contents (Elt F) → (⟨S2x1024x2048x2, .f32⟩ : BufTy).Contents (Elt F)),
    unary main_v20 main_v22 (broadcastInDim S2x1024x2048x1x2 ![0, 1, 2, 4] bcast_S2x1024x2048x2_S2x1024x2048x1x2_0_1_2_4 : (⟨S2x1024x2048x2, .f32⟩ : BufTy).Contents (Elt F) → (⟨S2x1024x2048x1x2, .f32⟩ : BufTy).Contents (Elt F)),
    unary main_v21 main_v23 (broadcastInDim S2x1024x2048x1x2 ![0, 1, 2, 4] bcast_S2x1024x2048x2_S2x1024x2048x1x2_0_1_2_4 : (⟨S2x1024x2048x2, .f32⟩ : BufTy).Contents (Elt F) → (⟨S2x1024x2048x1x2, .f32⟩ : BufTy).Contents (Elt F)),
    binary main_v22 main_v23 main_v24 (fn_main_v24 (F := F)),
    reshape main_v24 main_v25 (rfl : (.f32 : EltTy) = .f32) shapeCasts_S2x1024x2048x2x2_S2x1024x8192,
    reshape main_v25 main_v26 (rfl : (.f32 : EltTy) = .f32) shapeCasts_S2x1024x8192_S2x1024x1024x2x4,
    unary main_v26 main_v27 ((extractStridedSlice S2x1024x1024x1x4 ![0, 0, 0, 0, 0] · slices_S2x1024x1024x2x4_S2x1024x1024x1x4_0_0_0_0_0) : (⟨S2x1024x1024x2x4, .f32⟩ : BufTy).Contents (Elt F) → (⟨S2x1024x1024x1x4, .f32⟩ : BufTy).Contents (Elt F)),
    reshape main_v27 main_v28 (rfl : (.f32 : EltTy) = .f32) shapeCasts_S2x1024x1024x1x4_S2x1024x1024x4,
    unary main_v26 main_v29 ((extractStridedSlice S2x1024x1024x1x4 ![0, 0, 0, 1, 0] · slices_S2x1024x1024x2x4_S2x1024x1024x1x4_0_0_0_1_0) : (⟨S2x1024x1024x2x4, .f32⟩ : BufTy).Contents (Elt F) → (⟨S2x1024x1024x1x4, .f32⟩ : BufTy).Contents (Elt F)),
    reshape main_v29 main_v30 (rfl : (.f32 : EltTy) = .f32) shapeCasts_S2x1024x1024x1x4_S2x1024x1024x4,
    binary main_v28 main_v30 main_v31 (addf : (⟨S2x1024x1024x4, .f32⟩ : BufTy).Contents (Elt F) → (⟨S2x1024x1024x4, .f32⟩ : BufTy).Contents (Elt F) → (⟨S2x1024x1024x4, .f32⟩ : BufTy).Contents (Elt F)),
    binary main_v28 main_v30 main_v32 (subf : (⟨S2x1024x1024x4, .f32⟩ : BufTy).Contents (Elt F) → (⟨S2x1024x1024x4, .f32⟩ : BufTy).Contents (Elt F) → (⟨S2x1024x1024x4, .f32⟩ : BufTy).Contents (Elt F)),
    unary main_v31 main_v33 (broadcastInDim S2x1024x1024x1x4 ![0, 1, 2, 4] bcast_S2x1024x1024x4_S2x1024x1024x1x4_0_1_2_4 : (⟨S2x1024x1024x4, .f32⟩ : BufTy).Contents (Elt F) → (⟨S2x1024x1024x1x4, .f32⟩ : BufTy).Contents (Elt F)),
    unary main_v32 main_v34 (broadcastInDim S2x1024x1024x1x4 ![0, 1, 2, 4] bcast_S2x1024x1024x4_S2x1024x1024x1x4_0_1_2_4 : (⟨S2x1024x1024x4, .f32⟩ : BufTy).Contents (Elt F) → (⟨S2x1024x1024x1x4, .f32⟩ : BufTy).Contents (Elt F)),
    binary main_v33 main_v34 main_v35 (fn_main_v35 (F := F)),
    reshape main_v35 main_v36 (rfl : (.f32 : EltTy) = .f32) shapeCasts_S2x1024x1024x2x4_S2x1024x8192,
    reshape main_v36 main_v37 (rfl : (.f32 : EltTy) = .f32) shapeCasts_S2x1024x8192_S2x1024x512x2x8,
    unary main_v37 main_v38 ((extractStridedSlice S2x1024x512x1x8 ![0, 0, 0, 0, 0] · slices_S2x1024x512x2x8_S2x1024x512x1x8_0_0_0_0_0) : (⟨S2x1024x512x2x8, .f32⟩ : BufTy).Contents (Elt F) → (⟨S2x1024x512x1x8, .f32⟩ : BufTy).Contents (Elt F)),
    reshape main_v38 main_v39 (rfl : (.f32 : EltTy) = .f32) shapeCasts_S2x1024x512x1x8_S2x1024x512x8,
    unary main_v37 main_v40 ((extractStridedSlice S2x1024x512x1x8 ![0, 0, 0, 1, 0] · slices_S2x1024x512x2x8_S2x1024x512x1x8_0_0_0_1_0) : (⟨S2x1024x512x2x8, .f32⟩ : BufTy).Contents (Elt F) → (⟨S2x1024x512x1x8, .f32⟩ : BufTy).Contents (Elt F)),
    reshape main_v40 main_v41 (rfl : (.f32 : EltTy) = .f32) shapeCasts_S2x1024x512x1x8_S2x1024x512x8,
    binary main_v39 main_v41 main_v42 (addf : (⟨S2x1024x512x8, .f32⟩ : BufTy).Contents (Elt F) → (⟨S2x1024x512x8, .f32⟩ : BufTy).Contents (Elt F) → (⟨S2x1024x512x8, .f32⟩ : BufTy).Contents (Elt F)),
    binary main_v39 main_v41 main_v43 (subf : (⟨S2x1024x512x8, .f32⟩ : BufTy).Contents (Elt F) → (⟨S2x1024x512x8, .f32⟩ : BufTy).Contents (Elt F) → (⟨S2x1024x512x8, .f32⟩ : BufTy).Contents (Elt F)),
    unary main_v42 main_v44 (broadcastInDim S2x1024x512x1x8 ![0, 1, 2, 4] bcast_S2x1024x512x8_S2x1024x512x1x8_0_1_2_4 : (⟨S2x1024x512x8, .f32⟩ : BufTy).Contents (Elt F) → (⟨S2x1024x512x1x8, .f32⟩ : BufTy).Contents (Elt F)),
    unary main_v43 main_v45 (broadcastInDim S2x1024x512x1x8 ![0, 1, 2, 4] bcast_S2x1024x512x8_S2x1024x512x1x8_0_1_2_4 : (⟨S2x1024x512x8, .f32⟩ : BufTy).Contents (Elt F) → (⟨S2x1024x512x1x8, .f32⟩ : BufTy).Contents (Elt F)),
    binary main_v44 main_v45 main_v46 (fn_main_v46 (F := F)),
    reshape main_v46 main_v47 (rfl : (.f32 : EltTy) = .f32) shapeCasts_S2x1024x512x2x8_S2x1024x8192,
    reshape main_v47 main_v48 (rfl : (.f32 : EltTy) = .f32) shapeCasts_S2x1024x8192_S2x1024x256x2x16,
    unary main_v48 main_v49 ((extractStridedSlice S2x1024x256x1x16 ![0, 0, 0, 0, 0] · slices_S2x1024x256x2x16_S2x1024x256x1x16_0_0_0_0_0) : (⟨S2x1024x256x2x16, .f32⟩ : BufTy).Contents (Elt F) → (⟨S2x1024x256x1x16, .f32⟩ : BufTy).Contents (Elt F)),
    reshape main_v49 main_v50 (rfl : (.f32 : EltTy) = .f32) shapeCasts_S2x1024x256x1x16_S2x1024x256x16,
    unary main_v48 main_v51 ((extractStridedSlice S2x1024x256x1x16 ![0, 0, 0, 1, 0] · slices_S2x1024x256x2x16_S2x1024x256x1x16_0_0_0_1_0) : (⟨S2x1024x256x2x16, .f32⟩ : BufTy).Contents (Elt F) → (⟨S2x1024x256x1x16, .f32⟩ : BufTy).Contents (Elt F)),
    reshape main_v51 main_v52 (rfl : (.f32 : EltTy) = .f32) shapeCasts_S2x1024x256x1x16_S2x1024x256x16,
    binary main_v50 main_v52 main_v53 (addf : (⟨S2x1024x256x16, .f32⟩ : BufTy).Contents (Elt F) → (⟨S2x1024x256x16, .f32⟩ : BufTy).Contents (Elt F) → (⟨S2x1024x256x16, .f32⟩ : BufTy).Contents (Elt F)),
    binary main_v50 main_v52 main_v54 (subf : (⟨S2x1024x256x16, .f32⟩ : BufTy).Contents (Elt F) → (⟨S2x1024x256x16, .f32⟩ : BufTy).Contents (Elt F) → (⟨S2x1024x256x16, .f32⟩ : BufTy).Contents (Elt F)),
    unary main_v53 main_v55 (broadcastInDim S2x1024x256x1x16 ![0, 1, 2, 4] bcast_S2x1024x256x16_S2x1024x256x1x16_0_1_2_4 : (⟨S2x1024x256x16, .f32⟩ : BufTy).Contents (Elt F) → (⟨S2x1024x256x1x16, .f32⟩ : BufTy).Contents (Elt F)),
    unary main_v54 main_v56 (broadcastInDim S2x1024x256x1x16 ![0, 1, 2, 4] bcast_S2x1024x256x16_S2x1024x256x1x16_0_1_2_4 : (⟨S2x1024x256x16, .f32⟩ : BufTy).Contents (Elt F) → (⟨S2x1024x256x1x16, .f32⟩ : BufTy).Contents (Elt F)),
    binary main_v55 main_v56 main_v57 (fn_main_v57 (F := F)),
    reshape main_v57 main_v58 (rfl : (.f32 : EltTy) = .f32) shapeCasts_S2x1024x256x2x16_S2x1024x8192,
    reshape main_v58 main_v59 (rfl : (.f32 : EltTy) = .f32) shapeCasts_S2x1024x8192_S2x1024x128x2x32 ]

/-- @main's operations 61 … 90 of 126 (window `main_part1`). -/
abbrev ops_part1_0 : List (HloOp τ sig (Elt F)) :=
  [ unary main_v59 main_v60 ((extractStridedSlice S2x1024x128x1x32 ![0, 0, 0, 0, 0] · slices_S2x1024x128x2x32_S2x1024x128x1x32_0_0_0_0_0) : (⟨S2x1024x128x2x32, .f32⟩ : BufTy).Contents (Elt F) → (⟨S2x1024x128x1x32, .f32⟩ : BufTy).Contents (Elt F)),
    reshape main_v60 main_v61 (rfl : (.f32 : EltTy) = .f32) shapeCasts_S2x1024x128x1x32_S2x1024x128x32,
    unary main_v59 main_v62 ((extractStridedSlice S2x1024x128x1x32 ![0, 0, 0, 1, 0] · slices_S2x1024x128x2x32_S2x1024x128x1x32_0_0_0_1_0) : (⟨S2x1024x128x2x32, .f32⟩ : BufTy).Contents (Elt F) → (⟨S2x1024x128x1x32, .f32⟩ : BufTy).Contents (Elt F)),
    reshape main_v62 main_v63 (rfl : (.f32 : EltTy) = .f32) shapeCasts_S2x1024x128x1x32_S2x1024x128x32,
    binary main_v61 main_v63 main_v64 (addf : (⟨S2x1024x128x32, .f32⟩ : BufTy).Contents (Elt F) → (⟨S2x1024x128x32, .f32⟩ : BufTy).Contents (Elt F) → (⟨S2x1024x128x32, .f32⟩ : BufTy).Contents (Elt F)),
    binary main_v61 main_v63 main_v65 (subf : (⟨S2x1024x128x32, .f32⟩ : BufTy).Contents (Elt F) → (⟨S2x1024x128x32, .f32⟩ : BufTy).Contents (Elt F) → (⟨S2x1024x128x32, .f32⟩ : BufTy).Contents (Elt F)),
    unary main_v64 main_v66 (broadcastInDim S2x1024x128x1x32 ![0, 1, 2, 4] bcast_S2x1024x128x32_S2x1024x128x1x32_0_1_2_4 : (⟨S2x1024x128x32, .f32⟩ : BufTy).Contents (Elt F) → (⟨S2x1024x128x1x32, .f32⟩ : BufTy).Contents (Elt F)),
    unary main_v65 main_v67 (broadcastInDim S2x1024x128x1x32 ![0, 1, 2, 4] bcast_S2x1024x128x32_S2x1024x128x1x32_0_1_2_4 : (⟨S2x1024x128x32, .f32⟩ : BufTy).Contents (Elt F) → (⟨S2x1024x128x1x32, .f32⟩ : BufTy).Contents (Elt F)),
    binary main_v66 main_v67 main_v68 (fn_main_v68 (F := F)),
    reshape main_v68 main_v69 (rfl : (.f32 : EltTy) = .f32) shapeCasts_S2x1024x128x2x32_S2x1024x8192,
    reshape main_v69 main_v70 (rfl : (.f32 : EltTy) = .f32) shapeCasts_S2x1024x8192_S2x1024x64x2x64,
    unary main_v70 main_v71 ((extractStridedSlice S2x1024x64x1x64 ![0, 0, 0, 0, 0] · slices_S2x1024x64x2x64_S2x1024x64x1x64_0_0_0_0_0) : (⟨S2x1024x64x2x64, .f32⟩ : BufTy).Contents (Elt F) → (⟨S2x1024x64x1x64, .f32⟩ : BufTy).Contents (Elt F)),
    reshape main_v71 main_v72 (rfl : (.f32 : EltTy) = .f32) shapeCasts_S2x1024x64x1x64_S2x1024x64x64,
    unary main_v70 main_v73 ((extractStridedSlice S2x1024x64x1x64 ![0, 0, 0, 1, 0] · slices_S2x1024x64x2x64_S2x1024x64x1x64_0_0_0_1_0) : (⟨S2x1024x64x2x64, .f32⟩ : BufTy).Contents (Elt F) → (⟨S2x1024x64x1x64, .f32⟩ : BufTy).Contents (Elt F)),
    reshape main_v73 main_v74 (rfl : (.f32 : EltTy) = .f32) shapeCasts_S2x1024x64x1x64_S2x1024x64x64,
    binary main_v72 main_v74 main_v75 (addf : (⟨S2x1024x64x64, .f32⟩ : BufTy).Contents (Elt F) → (⟨S2x1024x64x64, .f32⟩ : BufTy).Contents (Elt F) → (⟨S2x1024x64x64, .f32⟩ : BufTy).Contents (Elt F)),
    binary main_v72 main_v74 main_v76 (subf : (⟨S2x1024x64x64, .f32⟩ : BufTy).Contents (Elt F) → (⟨S2x1024x64x64, .f32⟩ : BufTy).Contents (Elt F) → (⟨S2x1024x64x64, .f32⟩ : BufTy).Contents (Elt F)),
    unary main_v75 main_v77 (broadcastInDim S2x1024x64x1x64 ![0, 1, 2, 4] bcast_S2x1024x64x64_S2x1024x64x1x64_0_1_2_4 : (⟨S2x1024x64x64, .f32⟩ : BufTy).Contents (Elt F) → (⟨S2x1024x64x1x64, .f32⟩ : BufTy).Contents (Elt F)),
    unary main_v76 main_v78 (broadcastInDim S2x1024x64x1x64 ![0, 1, 2, 4] bcast_S2x1024x64x64_S2x1024x64x1x64_0_1_2_4 : (⟨S2x1024x64x64, .f32⟩ : BufTy).Contents (Elt F) → (⟨S2x1024x64x1x64, .f32⟩ : BufTy).Contents (Elt F)),
    binary main_v77 main_v78 main_v79 (fn_main_v79 (F := F)),
    reshape main_v79 main_v80 (rfl : (.f32 : EltTy) = .f32) shapeCasts_S2x1024x64x2x64_S2x1024x8192,
    nullary main_cst (constant S_ .f32 0x3DB504F3#32),
    unary main_cst main_v81 (broadcastInDim S2x1024x8192 ![] bcast_S_S2x1024x8192 : (⟨S_, .f32⟩ : BufTy).Contents (Elt F) → (⟨S2x1024x8192, .f32⟩ : BufTy).Contents (Elt F)),
    binary main_v80 main_v81 main_v82 (mulf : (⟨S2x1024x8192, .f32⟩ : BufTy).Contents (Elt F) → (⟨S2x1024x8192, .f32⟩ : BufTy).Contents (Elt F) → (⟨S2x1024x8192, .f32⟩ : BufTy).Contents (Elt F)),
    reshape main_v82 main_v83 (rfl : (.f32 : EltTy) = .f32) shapeCasts_S2x1024x8192_S2x1024x64x128,
    unary main_v83 main_v84 (Host.absf : (⟨S2x1024x64x128, .f32⟩ : BufTy).Contents (Elt F) → (⟨S2x1024x64x128, .f32⟩ : BufTy).Contents (Elt F)),
    nullary main_cst_0 (constant S_ .f32 0xFF800000#32),
    binary main_v84 main_cst_0 main_v85 ((fun x v => Host.reduce FloatOps.maximumf x v reducesTo_S2x1024x64x128_S2x1024x64_d3 h_S_) : (⟨S2x1024x64x128, .f32⟩ : BufTy).Contents (Elt F) → (⟨S_, .f32⟩ : BufTy).Contents (Elt F) → (⟨S2x1024x64, .f32⟩ : BufTy).Contents (Elt F)),
    nullary main_cst_1 (constant S_ .f32 0x00000000#32),
    unary main_cst_1 main_v86 (broadcastInDim S2x1024x64 ![] bcast_S_S2x1024x64 : (⟨S_, .f32⟩ : BufTy).Contents (Elt F) → (⟨S2x1024x64, .f32⟩ : BufTy).Contents (Elt F)) ]

/-- @main's operations 91 … 120 of 126 (window `main_part1`). -/
abbrev ops_part1_1 : List (HloOp τ sig (Elt F)) :=
  [ binary main_v85 main_v86 main_v87 (cmpf .oeq : (⟨S2x1024x64, .f32⟩ : BufTy).Contents (Elt F) → (⟨S2x1024x64, .f32⟩ : BufTy).Contents (Elt F) → (⟨S2x1024x64, .i1⟩ : BufTy).Contents (Elt F)),
    nullary main_cst_2 (constant S_ .f32 0x40E00000#32),
    unary main_cst_2 main_v88 (broadcastInDim S2x1024x64 ![] bcast_S_S2x1024x64 : (⟨S_, .f32⟩ : BufTy).Contents (Elt F) → (⟨S2x1024x64, .f32⟩ : BufTy).Contents (Elt F)),
    binary main_v85 main_v88 main_v89 (Host.divf : (⟨S2x1024x64, .f32⟩ : BufTy).Contents (Elt F) → (⟨S2x1024x64, .f32⟩ : BufTy).Contents (Elt F) → (⟨S2x1024x64, .f32⟩ : BufTy).Contents (Elt F)),
    nullary main_cst_3 (constant S_ .f32 0x3F800000#32),
    TRef.unary (TRef.of (T := ⟨S_, .f32⟩) main_cst_3) (TRef.of (T := ⟨S2x1024x64, .f32⟩) main_call0_v0) (broadcastInDim S2x1024x64 ![] bcast_S_S2x1024x64),
    TRef.ternary (TRef.of (T := ⟨S2x1024x64, .i1⟩) main_v87) (TRef.of (T := ⟨S2x1024x64, .f32⟩) main_call0_v0) (TRef.of (T := ⟨S2x1024x64, .f32⟩) main_v89) (TRef.of (T := ⟨S2x1024x64, .f32⟩) main_v90) select,
    unary main_v90 main_v91 (broadcastInDim S2x1024x64x1 ![0, 1, 2] bcast_S2x1024x64_S2x1024x64x1_0_1_2 : (⟨S2x1024x64, .f32⟩ : BufTy).Contents (Elt F) → (⟨S2x1024x64x1, .f32⟩ : BufTy).Contents (Elt F)),
    unary main_v91 main_v92 (broadcastInDim S2x1024x64x128 ![0, 1, 2, 3] bcast_S2x1024x64x1_S2x1024x64x128_0_1_2_3 : (⟨S2x1024x64x1, .f32⟩ : BufTy).Contents (Elt F) → (⟨S2x1024x64x128, .f32⟩ : BufTy).Contents (Elt F)),
    binary main_v83 main_v92 main_v93 (Host.divf : (⟨S2x1024x64x128, .f32⟩ : BufTy).Contents (Elt F) → (⟨S2x1024x64x128, .f32⟩ : BufTy).Contents (Elt F) → (⟨S2x1024x64x128, .f32⟩ : BufTy).Contents (Elt F)),
    TRef.unary (TRef.of (T := ⟨S2x1024x64x128, .f32⟩) main_v93) (TRef.of (T := ⟨S2x1024x64x128, .f32⟩) main_v94) Host.roundeven,
    nullary main_cst_4 (constant S_ .f32 0xC0E00000#32),
    nullary main_cst_5 (constant S_ .f32 0x40E00000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S2x1024x64x128, .f32⟩) main_call2_v1) (broadcastInDim S2x1024x64x128 ![] bcast_S_S2x1024x64x128),
    TRef.binary (TRef.of (T := ⟨S2x1024x64x128, .f32⟩) main_call2_v1) (TRef.of (T := ⟨S2x1024x64x128, .f32⟩) main_v94) (TRef.of (T := ⟨S2x1024x64x128, .f32⟩) main_call2_v2) maximumf,
    TRef.unary (TRef.of (T := ⟨S_, .f32⟩) main_cst_5) (TRef.of (T := ⟨S_, .f32⟩) main_call2_v3) id,
    TRef.unary (TRef.of (T := ⟨S_, .f32⟩) main_call2_v3) (TRef.of (T := ⟨S2x1024x64x128, .f32⟩) main_call2_v4) (broadcastInDim S2x1024x64x128 ![] bcast_S_S2x1024x64x128),
    TRef.binary (TRef.of (T := ⟨S2x1024x64x128, .f32⟩) main_call2_v4) (TRef.of (T := ⟨S2x1024x64x128, .f32⟩) main_call2_v2) (TRef.of (T := ⟨S2x1024x64x128, .f32⟩) main_v95) minimumf,
    unary main_v95 main_v96 (fptosi 32 : (⟨S2x1024x64x128, .f32⟩ : BufTy).Contents (Elt F) → (⟨S2x1024x64x128, .i32⟩ : BufTy).Contents (Elt F)),
    unary main_v96 main_v97 ((trunci 8 · natLt_8_32) : (⟨S2x1024x64x128, .i32⟩ : BufTy).Contents (Elt F) → (⟨S2x1024x64x128, .i8⟩ : BufTy).Contents (Elt F)),
    reshape main_v97 main_v98 (rfl : (.i8 : EltTy) = .i8) shapeCasts_S2x1024x64x128_S2x1024x8192,
    unary main_v98 main_v99 ((extsi 32 · natLt_8_32) : (⟨S2x1024x8192, .i8⟩ : BufTy).Contents (Elt F) → (⟨S2x1024x8192, .i32⟩ : BufTy).Contents (Elt F)),
    nullary main_c (constantI S_ 32 15#32),
    unary main_c main_v100 (broadcastInDim S2x1024x8192 ![] bcast_S_S2x1024x8192 : (⟨S_, .i32⟩ : BufTy).Contents (Elt F) → (⟨S2x1024x8192, .i32⟩ : BufTy).Contents (Elt F)),
    binary main_v99 main_v100 main_v101 (andi : (⟨S2x1024x8192, .i32⟩ : BufTy).Contents (Elt F) → (⟨S2x1024x8192, .i32⟩ : BufTy).Contents (Elt F) → (⟨S2x1024x8192, .i32⟩ : BufTy).Contents (Elt F)),
    reshape main_v101 main_v102 (rfl : (.i32 : EltTy) = .i32) shapeCasts_S2x1024x8192_S2x1024x4096x2,
    unary main_v102 main_v103 ((extractStridedSlice S2x1024x4096x1 ![0, 0, 0, 0] · slices_S2x1024x4096x2_S2x1024x4096x1_0_0_0_0) : (⟨S2x1024x4096x2, .i32⟩ : BufTy).Contents (Elt F) → (⟨S2x1024x4096x1, .i32⟩ : BufTy).Contents (Elt F)),
    reshape main_v103 main_v104 (rfl : (.i32 : EltTy) = .i32) shapeCasts_S2x1024x4096x1_S2x1024x4096,
    unary main_v102 main_v105 ((extractStridedSlice S2x1024x4096x1 ![0, 0, 0, 1] · slices_S2x1024x4096x2_S2x1024x4096x1_0_0_0_1) : (⟨S2x1024x4096x2, .i32⟩ : BufTy).Contents (Elt F) → (⟨S2x1024x4096x1, .i32⟩ : BufTy).Contents (Elt F)) ]

/-- @main's operations 121 … 126 of 126 (window `main_part1`). -/
abbrev ops_part1_2 : List (HloOp τ sig (Elt F)) :=
  [ reshape main_v105 main_v106 (rfl : (.i32 : EltTy) = .i32) shapeCasts_S2x1024x4096x1_S2x1024x4096,
    nullary main_c_6 (constantI S_ 32 4#32),
    unary main_c_6 main_v107 (broadcastInDim S2x1024x4096 ![] bcast_S_S2x1024x4096 : (⟨S_, .i32⟩ : BufTy).Contents (Elt F) → (⟨S2x1024x4096, .i32⟩ : BufTy).Contents (Elt F)),
    binary main_v106 main_v107 main_v108 (Host.shli : (⟨S2x1024x4096, .i32⟩ : BufTy).Contents (Elt F) → (⟨S2x1024x4096, .i32⟩ : BufTy).Contents (Elt F) → (⟨S2x1024x4096, .i32⟩ : BufTy).Contents (Elt F)),
    binary main_v104 main_v108 main_v109 (ori : (⟨S2x1024x4096, .i32⟩ : BufTy).Contents (Elt F) → (⟨S2x1024x4096, .i32⟩ : BufTy).Contents (Elt F) → (⟨S2x1024x4096, .i32⟩ : BufTy).Contents (Elt F)),
    unary main_v109 main_v110 ((trunci 8 · natLt_8_32) : (⟨S2x1024x4096, .i32⟩ : BufTy).Contents (Elt F) → (⟨S2x1024x4096, .i8⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- No operation of @main: window `main_part2` only returns. -/
abbrev ops_part2 : List (HloOp τ sig (Elt F)) :=
  []

/-- @main's 126 operations, in order (a called function's operations stand in its call's place, spelt `TRef.…`). -/
abbrev ops : List (HloOp τ sig (Elt F)) :=
  ops_part0 ++ (ops_part1 ++ (ops_part2))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., unary_bufs_sub .., unary_bufs_sub .., binary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., nullary_bufs_sub .., unary_bufs_sub .., binary_bufs_sub .., reshape_bufs_sub .., unary_bufs_sub .., nullary_bufs_sub .., binary_bufs_sub .., nullary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., unary_bufs_sub .., nullary_bufs_sub .., unary_bufs_sub .., binary_bufs_sub .., reshape_bufs_sub .., unary_bufs_sub .., reshape_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨reshape_bufs_sub .., nullary_bufs_sub .., unary_bufs_sub .., binary_bufs_sub .., binary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl⟩
set_option maxRecDepth 8192 in
theorem ops_part2_sub : (ops_part2 : List (HloOp τ sig (Elt F))).Forall fun op => op.bufs ⊆ tcRefs τ sig :=
  trivial
set_option maxRecDepth 8192 in
theorem ops_part2_fresh : (ops_part2 : List (HloOp τ sig (Elt F))).Forall fun op => op.fresh = ∅ :=
  trivial
theorem ops_sub : (ops : List (HloOp τ sig (Elt F))).Forall fun op => op.bufs ⊆ tcRefs τ sig :=
  List.forall_iff_forall_mem.mpr fun op h => by
    simp only [ops, ops_part1, List.mem_append, or_assoc] at h
    rcases h with h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part1, List.mem_append, or_assoc] at h
    rcases h with h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v4`'s composed term of the arguments (named: it is used 2 times). -/
def res_main_v4 (V0 : Valuation τ sig (Elt F)) : (Proc.devRef .tc main_v4 : DevRef τ sig).ty.Contents (Elt F) :=
  shapeCast _ (mulf (extf .f32 (V0 (Proc.devRef .tc main_arg0)) bitsLt_bf16_f32) (broadcastInDim S2x1024x8192 ![0, 1, 2] bcast_S1x1x8192_S2x1024x8192_0_1_2 (broadcastInDim S1x1x8192 ![2] bcast_S8192_S1x1x8192_2 (V0 (Proc.devRef .tc main_arg1))))) shapeCasts_S2x1024x8192_S2x1024x4096x2x1

set_option maxRecDepth 8192 in
/-- `main_v6`'s composed term of the arguments (named: it is used 2 times). -/
def res_main_v6 (V0 : Valuation τ sig (Elt F)) : (Proc.devRef .tc main_v6 : DevRef τ sig).ty.Contents (Elt F) :=
  shapeCast _ (extractStridedSlice S2x1024x4096x1x1 ![0, 0, 0, 0, 0] (res_main_v4 V0) slices_S2x1024x4096x2x1_S2x1024x4096x1x1_0_0_0_0_0) shapeCasts_S2x1024x4096x1x1_S2x1024x4096x1

set_option maxRecDepth 8192 in
/-- `main_v8`'s composed term of the arguments (named: it is used 2 times). -/
def res_main_v8 (V0 : Valuation τ sig (Elt F)) : (Proc.devRef .tc main_v8 : DevRef τ sig).ty.Contents (Elt F) :=
  shapeCast _ (extractStridedSlice S2x1024x4096x1x1 ![0, 0, 0, 1, 0] (res_main_v4 V0) slices_S2x1024x4096x2x1_S2x1024x4096x1x1_0_0_0_1_0) shapeCasts_S2x1024x4096x1x1_S2x1024x4096x1

set_option maxRecDepth 8192 in
/-- `main_v15`'s composed term of the arguments (named: it is used 2 times). -/
def res_main_v15 (V0 : Valuation τ sig (Elt F)) : (Proc.devRef .tc main_v15 : DevRef τ sig).ty.Contents (Elt F) :=
  shapeCast _ (shapeCast _ (concatenate S2x1024x4096x2x1 3 [⟨S2x1024x4096x1x1, (broadcastInDim S2x1024x4096x1x1 ![0, 1, 2, 4] bcast_S2x1024x4096x1_S2x1024x4096x1x1_0_1_2_4 (addf (res_main_v6 V0) (res_main_v8 V0)))⟩, ⟨S2x1024x4096x1x1, (broadcastInDim S2x1024x4096x1x1 ![0, 1, 2, 4] bcast_S2x1024x4096x1_S2x1024x4096x1x1_0_1_2_4 (subf (res_main_v6 V0) (res_main_v8 V0)))⟩] concatenates_S2x1024x4096x1x1_S2x1024x4096x1x1_S2x1024x4096x2x1_d3) shapeCasts_S2x1024x4096x2x1_S2x1024x8192) shapeCasts_S2x1024x8192_S2x1024x2048x2x2

set_option maxRecDepth 8192 in
/-- `main_v17`'s composed term of the arguments (named: it is used 2 times). -/
def res_main_v17 (V0 : Valuation τ sig (Elt F)) : (Proc.devRef .tc main_v17 : DevRef τ sig).ty.Contents (Elt F) :=
  shapeCast _ (extractStridedSlice S2x1024x2048x1x2 ![0, 0, 0, 0, 0] (res_main_v15 V0) slices_S2x1024x2048x2x2_S2x1024x2048x1x2_0_0_0_0_0) shapeCasts_S2x1024x2048x1x2_S2x1024x2048x2

set_option maxRecDepth 8192 in
/-- `main_v19`'s composed term of the arguments (named: it is used 2 times). -/
def res_main_v19 (V0 : Valuation τ sig (Elt F)) : (Proc.devRef .tc main_v19 : DevRef τ sig).ty.Contents (Elt F) :=
  shapeCast _ (extractStridedSlice S2x1024x2048x1x2 ![0, 0, 0, 1, 0] (res_main_v15 V0) slices_S2x1024x2048x2x2_S2x1024x2048x1x2_0_0_0_1_0) shapeCasts_S2x1024x2048x1x2_S2x1024x2048x2

set_option maxRecDepth 8192 in
/-- `main_v26`'s composed term of the arguments (named: it is used 2 times). -/
def res_main_v26 (V0 : Valuation τ sig (Elt F)) : (Proc.devRef .tc main_v26 : DevRef τ sig).ty.Contents (Elt F) :=
  shapeCast _ (shapeCast _ (concatenate S2x1024x2048x2x2 3 [⟨S2x1024x2048x1x2, (broadcastInDim S2x1024x2048x1x2 ![0, 1, 2, 4] bcast_S2x1024x2048x2_S2x1024x2048x1x2_0_1_2_4 (addf (res_main_v17 V0) (res_main_v19 V0)))⟩, ⟨S2x1024x2048x1x2, (broadcastInDim S2x1024x2048x1x2 ![0, 1, 2, 4] bcast_S2x1024x2048x2_S2x1024x2048x1x2_0_1_2_4 (subf (res_main_v17 V0) (res_main_v19 V0)))⟩] concatenates_S2x1024x2048x1x2_S2x1024x2048x1x2_S2x1024x2048x2x2_d3) shapeCasts_S2x1024x2048x2x2_S2x1024x8192) shapeCasts_S2x1024x8192_S2x1024x1024x2x4

set_option maxRecDepth 8192 in
/-- `main_v28`'s composed term of the arguments (named: it is used 2 times). -/
def res_main_v28 (V0 : Valuation τ sig (Elt F)) : (Proc.devRef .tc main_v28 : DevRef τ sig).ty.Contents (Elt F) :=
  shapeCast _ (extractStridedSlice S2x1024x1024x1x4 ![0, 0, 0, 0, 0] (res_main_v26 V0) slices_S2x1024x1024x2x4_S2x1024x1024x1x4_0_0_0_0_0) shapeCasts_S2x1024x1024x1x4_S2x1024x1024x4

set_option maxRecDepth 8192 in
/-- `main_v30`'s composed term of the arguments (named: it is used 2 times). -/
def res_main_v30 (V0 : Valuation τ sig (Elt F)) : (Proc.devRef .tc main_v30 : DevRef τ sig).ty.Contents (Elt F) :=
  shapeCast _ (extractStridedSlice S2x1024x1024x1x4 ![0, 0, 0, 1, 0] (res_main_v26 V0) slices_S2x1024x1024x2x4_S2x1024x1024x1x4_0_0_0_1_0) shapeCasts_S2x1024x1024x1x4_S2x1024x1024x4

set_option maxRecDepth 8192 in
/-- `main_v37`'s composed term of the arguments (named: it is used 2 times). -/
def res_main_v37 (V0 : Valuation τ sig (Elt F)) : (Proc.devRef .tc main_v37 : DevRef τ sig).ty.Contents (Elt F) :=
  shapeCast _ (shapeCast _ (concatenate S2x1024x1024x2x4 3 [⟨S2x1024x1024x1x4, (broadcastInDim S2x1024x1024x1x4 ![0, 1, 2, 4] bcast_S2x1024x1024x4_S2x1024x1024x1x4_0_1_2_4 (addf (res_main_v28 V0) (res_main_v30 V0)))⟩, ⟨S2x1024x1024x1x4, (broadcastInDim S2x1024x1024x1x4 ![0, 1, 2, 4] bcast_S2x1024x1024x4_S2x1024x1024x1x4_0_1_2_4 (subf (res_main_v28 V0) (res_main_v30 V0)))⟩] concatenates_S2x1024x1024x1x4_S2x1024x1024x1x4_S2x1024x1024x2x4_d3) shapeCasts_S2x1024x1024x2x4_S2x1024x8192) shapeCasts_S2x1024x8192_S2x1024x512x2x8

set_option maxRecDepth 8192 in
/-- `main_v39`'s composed term of the arguments (named: it is used 2 times). -/
def res_main_v39 (V0 : Valuation τ sig (Elt F)) : (Proc.devRef .tc main_v39 : DevRef τ sig).ty.Contents (Elt F) :=
  shapeCast _ (extractStridedSlice S2x1024x512x1x8 ![0, 0, 0, 0, 0] (res_main_v37 V0) slices_S2x1024x512x2x8_S2x1024x512x1x8_0_0_0_0_0) shapeCasts_S2x1024x512x1x8_S2x1024x512x8

set_option maxRecDepth 8192 in
/-- `main_v41`'s composed term of the arguments (named: it is used 2 times). -/
def res_main_v41 (V0 : Valuation τ sig (Elt F)) : (Proc.devRef .tc main_v41 : DevRef τ sig).ty.Contents (Elt F) :=
  shapeCast _ (extractStridedSlice S2x1024x512x1x8 ![0, 0, 0, 1, 0] (res_main_v37 V0) slices_S2x1024x512x2x8_S2x1024x512x1x8_0_0_0_1_0) shapeCasts_S2x1024x512x1x8_S2x1024x512x8

set_option maxRecDepth 8192 in
/-- `main_v48`'s composed term of the arguments (named: it is used 2 times). -/
def res_main_v48 (V0 : Valuation τ sig (Elt F)) : (Proc.devRef .tc main_v48 : DevRef τ sig).ty.Contents (Elt F) :=
  shapeCast _ (shapeCast _ (concatenate S2x1024x512x2x8 3 [⟨S2x1024x512x1x8, (broadcastInDim S2x1024x512x1x8 ![0, 1, 2, 4] bcast_S2x1024x512x8_S2x1024x512x1x8_0_1_2_4 (addf (res_main_v39 V0) (res_main_v41 V0)))⟩, ⟨S2x1024x512x1x8, (broadcastInDim S2x1024x512x1x8 ![0, 1, 2, 4] bcast_S2x1024x512x8_S2x1024x512x1x8_0_1_2_4 (subf (res_main_v39 V0) (res_main_v41 V0)))⟩] concatenates_S2x1024x512x1x8_S2x1024x512x1x8_S2x1024x512x2x8_d3) shapeCasts_S2x1024x512x2x8_S2x1024x8192) shapeCasts_S2x1024x8192_S2x1024x256x2x16

set_option maxRecDepth 8192 in
/-- `main_v50`'s composed term of the arguments (named: it is used 2 times). -/
def res_main_v50 (V0 : Valuation τ sig (Elt F)) : (Proc.devRef .tc main_v50 : DevRef τ sig).ty.Contents (Elt F) :=
  shapeCast _ (extractStridedSlice S2x1024x256x1x16 ![0, 0, 0, 0, 0] (res_main_v48 V0) slices_S2x1024x256x2x16_S2x1024x256x1x16_0_0_0_0_0) shapeCasts_S2x1024x256x1x16_S2x1024x256x16

set_option maxRecDepth 8192 in
/-- `main_v52`'s composed term of the arguments (named: it is used 2 times). -/
def res_main_v52 (V0 : Valuation τ sig (Elt F)) : (Proc.devRef .tc main_v52 : DevRef τ sig).ty.Contents (Elt F) :=
  shapeCast _ (extractStridedSlice S2x1024x256x1x16 ![0, 0, 0, 1, 0] (res_main_v48 V0) slices_S2x1024x256x2x16_S2x1024x256x1x16_0_0_0_1_0) shapeCasts_S2x1024x256x1x16_S2x1024x256x16

set_option maxRecDepth 8192 in
/-- `main_v59`'s composed term of the arguments (named: it is used 2 times). -/
def res_main_v59 (V0 : Valuation τ sig (Elt F)) : (Proc.devRef .tc main_v59 : DevRef τ sig).ty.Contents (Elt F) :=
  shapeCast _ (shapeCast _ (concatenate S2x1024x256x2x16 3 [⟨S2x1024x256x1x16, (broadcastInDim S2x1024x256x1x16 ![0, 1, 2, 4] bcast_S2x1024x256x16_S2x1024x256x1x16_0_1_2_4 (addf (res_main_v50 V0) (res_main_v52 V0)))⟩, ⟨S2x1024x256x1x16, (broadcastInDim S2x1024x256x1x16 ![0, 1, 2, 4] bcast_S2x1024x256x16_S2x1024x256x1x16_0_1_2_4 (subf (res_main_v50 V0) (res_main_v52 V0)))⟩] concatenates_S2x1024x256x1x16_S2x1024x256x1x16_S2x1024x256x2x16_d3) shapeCasts_S2x1024x256x2x16_S2x1024x8192) shapeCasts_S2x1024x8192_S2x1024x128x2x32

set_option maxRecDepth 8192 in
/-- `main_v61`'s composed term of the arguments (named: it is used 2 times). -/
def res_main_v61 (V0 : Valuation τ sig (Elt F)) : (Proc.devRef .tc main_v61 : DevRef τ sig).ty.Contents (Elt F) :=
  shapeCast _ (extractStridedSlice S2x1024x128x1x32 ![0, 0, 0, 0, 0] (res_main_v59 V0) slices_S2x1024x128x2x32_S2x1024x128x1x32_0_0_0_0_0) shapeCasts_S2x1024x128x1x32_S2x1024x128x32

set_option maxRecDepth 8192 in
/-- `main_v63`'s composed term of the arguments (named: it is used 2 times). -/
def res_main_v63 (V0 : Valuation τ sig (Elt F)) : (Proc.devRef .tc main_v63 : DevRef τ sig).ty.Contents (Elt F) :=
  shapeCast _ (extractStridedSlice S2x1024x128x1x32 ![0, 0, 0, 1, 0] (res_main_v59 V0) slices_S2x1024x128x2x32_S2x1024x128x1x32_0_0_0_1_0) shapeCasts_S2x1024x128x1x32_S2x1024x128x32

set_option maxRecDepth 8192 in
/-- `main_v70`'s composed term of the arguments (named: it is used 2 times). -/
def res_main_v70 (V0 : Valuation τ sig (Elt F)) : (Proc.devRef .tc main_v70 : DevRef τ sig).ty.Contents (Elt F) :=
  shapeCast _ (shapeCast _ (concatenate S2x1024x128x2x32 3 [⟨S2x1024x128x1x32, (broadcastInDim S2x1024x128x1x32 ![0, 1, 2, 4] bcast_S2x1024x128x32_S2x1024x128x1x32_0_1_2_4 (addf (res_main_v61 V0) (res_main_v63 V0)))⟩, ⟨S2x1024x128x1x32, (broadcastInDim S2x1024x128x1x32 ![0, 1, 2, 4] bcast_S2x1024x128x32_S2x1024x128x1x32_0_1_2_4 (subf (res_main_v61 V0) (res_main_v63 V0)))⟩] concatenates_S2x1024x128x1x32_S2x1024x128x1x32_S2x1024x128x2x32_d3) shapeCasts_S2x1024x128x2x32_S2x1024x8192) shapeCasts_S2x1024x8192_S2x1024x64x2x64

set_option maxRecDepth 8192 in
/-- `main_v72`'s composed term of the arguments (named: it is used 2 times). -/
def res_main_v72 (V0 : Valuation τ sig (Elt F)) : (Proc.devRef .tc main_v72 : DevRef τ sig).ty.Contents (Elt F) :=
  shapeCast _ (extractStridedSlice S2x1024x64x1x64 ![0, 0, 0, 0, 0] (res_main_v70 V0) slices_S2x1024x64x2x64_S2x1024x64x1x64_0_0_0_0_0) shapeCasts_S2x1024x64x1x64_S2x1024x64x64

set_option maxRecDepth 8192 in
/-- `main_v74`'s composed term of the arguments (named: it is used 2 times). -/
def res_main_v74 (V0 : Valuation τ sig (Elt F)) : (Proc.devRef .tc main_v74 : DevRef τ sig).ty.Contents (Elt F) :=
  shapeCast _ (extractStridedSlice S2x1024x64x1x64 ![0, 0, 0, 1, 0] (res_main_v70 V0) slices_S2x1024x64x2x64_S2x1024x64x1x64_0_0_0_1_0) shapeCasts_S2x1024x64x1x64_S2x1024x64x64

set_option maxRecDepth 8192 in
/-- `main_v83`'s composed term of the arguments (named: it is used 2 times). -/
def res_main_v83 (V0 : Valuation τ sig (Elt F)) : (Proc.devRef .tc main_v83 : DevRef τ sig).ty.Contents (Elt F) :=
  shapeCast _ (mulf (shapeCast _ (concatenate S2x1024x64x2x64 3 [⟨S2x1024x64x1x64, (broadcastInDim S2x1024x64x1x64 ![0, 1, 2, 4] bcast_S2x1024x64x64_S2x1024x64x1x64_0_1_2_4 (addf (res_main_v72 V0) (res_main_v74 V0)))⟩, ⟨S2x1024x64x1x64, (broadcastInDim S2x1024x64x1x64 ![0, 1, 2, 4] bcast_S2x1024x64x64_S2x1024x64x1x64_0_1_2_4 (subf (res_main_v72 V0) (res_main_v74 V0)))⟩] concatenates_S2x1024x64x1x64_S2x1024x64x1x64_S2x1024x64x2x64_d3) shapeCasts_S2x1024x64x2x64_S2x1024x8192) (broadcastInDim S2x1024x8192 ![] bcast_S_S2x1024x8192 (constant S_ .f32 0x3DB504F3#32))) shapeCasts_S2x1024x8192_S2x1024x64x128

set_option maxRecDepth 8192 in
/-- `main_v85`'s composed term of the arguments (named: it is used 2 times). -/
def res_main_v85 (V0 : Valuation τ sig (Elt F)) : (Proc.devRef .tc main_v85 : DevRef τ sig).ty.Contents (Elt F) :=
  Host.reduce FloatOps.maximumf (Host.absf (res_main_v83 V0)) (constant S_ .f32 0xFF800000#32) reducesTo_S2x1024x64x128_S2x1024x64_d3 h_S_

set_option maxRecDepth 8192 in
/-- `main_v102`'s composed term of the arguments (named: it is used 2 times). -/
def res_main_v102 (V0 : Valuation τ sig (Elt F)) : (Proc.devRef .tc main_v102 : DevRef τ sig).ty.Contents (Elt F) :=
  shapeCast _ (andi (extsi 32 (shapeCast _ (trunci 8 (fptosi 32 (minimumf (broadcastInDim S2x1024x64x128 ![] bcast_S_S2x1024x64x128 (id (constant S_ .f32 0x40E00000#32))) (maximumf (broadcastInDim S2x1024x64x128 ![] bcast_S_S2x1024x64x128 (id (constant S_ .f32 0xC0E00000#32))) (Host.roundeven (Host.divf (res_main_v83 V0) (broadcastInDim S2x1024x64x128 ![0, 1, 2, 3] bcast_S2x1024x64x1_S2x1024x64x128_0_1_2_3 (broadcastInDim S2x1024x64x1 ![0, 1, 2] bcast_S2x1024x64_S2x1024x64x1_0_1_2 (select (cmpf .oeq (res_main_v85 V0) (broadcastInDim S2x1024x64 ![] bcast_S_S2x1024x64 (constant S_ .f32 0x00000000#32))) (broadcastInDim S2x1024x64 ![] bcast_S_S2x1024x64 (constant S_ .f32 0x3F800000#32)) (Host.divf (res_main_v85 V0) (broadcastInDim S2x1024x64 ![] bcast_S_S2x1024x64 (constant S_ .f32 0x40E00000#32))))))))))) natLt_8_32) shapeCasts_S2x1024x64x128_S2x1024x8192) natLt_8_32) (broadcastInDim S2x1024x8192 ![] bcast_S_S2x1024x8192 (constantI S_ 32 15#32))) shapeCasts_S2x1024x8192_S2x1024x4096x2

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxRecDepth 8192 in
set_option maxHeartbeats 2000000 in
theorem val1_main_v59 (V0 : Valuation τ sig (Elt F)) : val1 V0 (no_index (Proc.devRef .tc main_v59)) = res_main_v59 V0 := by
  unfold val1
  simp only [ops_part0]
  after_results_simp
  simp only [val0_main_arg1, val0_main_arg0] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v60, main_v61, main_v62, main_v63, main_v64, main_v65, main_v66, main_v67, main_v68, main_v69, main_v70, main_v71, main_v72, main_v73, main_v74, main_v75, main_v76, main_v77, main_v78, main_v79, main_v80, main_cst, main_v81, main_v82, main_v83, main_v84, main_cst_0, main_v85, main_cst_1, main_v86]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
set_option maxRecDepth 8192 in
set_option maxHeartbeats 2000000 in
theorem val1_1_main_v83 (V0 : Valuation τ sig (Elt F)) : val1_1 V0 (no_index (Proc.devRef .tc main_v83)) = res_main_v83 V0 := by
  unfold val1_1
  simp only [ops_part1_0]
  after_results_simp
  simp only [val1_main_v59] <;> rfl
set_option maxRecDepth 8192 in
set_option maxHeartbeats 2000000 in
theorem val1_1_main_v85 (V0 : Valuation τ sig (Elt F)) : val1_1 V0 (no_index (Proc.devRef .tc main_v85)) = res_main_v85 V0 := by
  unfold val1_1
  simp only [ops_part1_0]
  after_results_simp
  simp only [val1_main_v59] <;> rfl
set_option maxRecDepth 8192 in
set_option maxHeartbeats 2000000 in
theorem val1_1_main_v86 (V0 : Valuation τ sig (Elt F)) : val1_1 V0 (no_index (Proc.devRef .tc main_v86)) = broadcastInDim S2x1024x64 ![] bcast_S_S2x1024x64 (constant S_ .f32 0x00000000#32) := by
  unfold val1_1
  simp only [ops_part1_0]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v87, main_cst_2, main_v88, main_v89, main_cst_3, main_call0_v0, main_v90, main_v91, main_v92, main_v93, main_v94, main_cst_4, main_cst_5, main_call2_v0, main_call2_v1, main_call2_v2, main_call2_v3, main_call2_v4, main_v95, main_v96, main_v97, main_v98, main_v99, main_c, main_v100, main_v101, main_v102, main_v103, main_v104, main_v105]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
set_option maxRecDepth 8192 in
set_option maxHeartbeats 2000000 in
theorem val1_2_main_v90 (V0 : Valuation τ sig (Elt F)) : val1_2 V0 (no_index (Proc.devRef .tc main_v90)) = select (cmpf .oeq (res_main_v85 V0) (broadcastInDim S2x1024x64 ![] bcast_S_S2x1024x64 (constant S_ .f32 0x00000000#32))) (broadcastInDim S2x1024x64 ![] bcast_S_S2x1024x64 (constant S_ .f32 0x3F800000#32)) (Host.divf (res_main_v85 V0) (broadcastInDim S2x1024x64 ![] bcast_S_S2x1024x64 (constant S_ .f32 0x40E00000#32))) := by
  unfold val1_2
  simp only [ops_part1_1, TRef.binary, TRef.ternary, TRef.unary, TRef.toBuf, TRef.ofBuf, cast_eq]
  after_results_simp
  simp only [val1_1_main_v85, val1_1_main_v86] <;> rfl
set_option maxRecDepth 8192 in
set_option maxHeartbeats 2000000 in
theorem val1_2_main_v104 (V0 : Valuation τ sig (Elt F)) : val1_2 V0 (no_index (Proc.devRef .tc main_v104)) = shapeCast _ (extractStridedSlice S2x1024x4096x1 ![0, 0, 0, 0] (res_main_v102 V0) slices_S2x1024x4096x2_S2x1024x4096x1_0_0_0_0) shapeCasts_S2x1024x4096x1_S2x1024x4096 := by
  unfold val1_2
  simp only [ops_part1_1, TRef.binary, TRef.ternary, TRef.unary, TRef.toBuf, TRef.ofBuf, cast_eq]
  after_results_simp
  simp only [val1_1_main_v85, val1_1_main_v86, val1_1_main_v83] <;> rfl
set_option maxRecDepth 8192 in
set_option maxHeartbeats 2000000 in
theorem val1_2_main_v105 (V0 : Valuation τ sig (Elt F)) : val1_2 V0 (no_index (Proc.devRef .tc main_v105)) = extractStridedSlice S2x1024x4096x1 ![0, 0, 0, 1] (res_main_v102 V0) slices_S2x1024x4096x2_S2x1024x4096x1_0_0_0_1 := by
  unfold val1_2
  simp only [ops_part1_1, TRef.binary, TRef.ternary, TRef.unary, TRef.toBuf, TRef.ofBuf, cast_eq]
  after_results_simp
  simp only [val1_1_main_v85, val1_1_main_v86, val1_1_main_v83] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v106, main_c_6, main_v107, main_v108, main_v109, main_v110]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v90 (V0 : Valuation τ sig (Elt F)) : val2 V0 (no_index (Proc.devRef .tc main_v90)) = select (cmpf .oeq (res_main_v85 V0) (broadcastInDim S2x1024x64 ![] bcast_S_S2x1024x64 (constant S_ .f32 0x00000000#32))) (broadcastInDim S2x1024x64 ![] bcast_S_S2x1024x64 (constant S_ .f32 0x3F800000#32)) (Host.divf (res_main_v85 V0) (broadcastInDim S2x1024x64 ![] bcast_S_S2x1024x64 (constant S_ .f32 0x40E00000#32))) :=
  (val2_keep V0 main_v90 (by decide)).trans (val1_2_main_v90 V0)
set_option maxRecDepth 8192 in
theorem val2_main_v110 (V0 : Valuation τ sig (Elt F)) : val2 V0 (no_index (Proc.devRef .tc main_v110)) = trunci 8 (ori (shapeCast _ (extractStridedSlice S2x1024x4096x1 ![0, 0, 0, 0] (res_main_v102 V0) slices_S2x1024x4096x2_S2x1024x4096x1_0_0_0_0) shapeCasts_S2x1024x4096x1_S2x1024x4096) (Host.shli (shapeCast _ (extractStridedSlice S2x1024x4096x1 ![0, 0, 0, 1] (res_main_v102 V0) slices_S2x1024x4096x2_S2x1024x4096x1_0_0_0_1) shapeCasts_S2x1024x4096x1_S2x1024x4096) (broadcastInDim S2x1024x4096 ![] bcast_S_S2x1024x4096 (constantI S_ 32 4#32)))) natLt_8_32 := by
  unfold val2
  simp only [ops_part1_2]
  after_results_simp
  simp only [val1_2_main_v105, val1_2_main_v104] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := []
set_option maxRecDepth 8192 in
theorem ops_part2_writes : (ops_part2 : List (HloOp τ sig (Elt F))).Forall fun op => op.writes ⊆ (ops_part2_W.map (Proc.devRef (τ := τ) .tc)).toFinset := by
  simp only [List.Forall]
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_v90 (V0 : Valuation τ sig (Elt F)) : val3 V0 (no_index (Proc.devRef .tc main_v90)) = select (cmpf .oeq (res_main_v85 V0) (broadcastInDim S2x1024x64 ![] bcast_S_S2x1024x64 (constant S_ .f32 0x00000000#32))) (broadcastInDim S2x1024x64 ![] bcast_S_S2x1024x64 (constant S_ .f32 0x3F800000#32)) (Host.divf (res_main_v85 V0) (broadcastInDim S2x1024x64 ![] bcast_S_S2x1024x64 (constant S_ .f32 0x40E00000#32))) :=
  (val3_keep V0 main_v90 (by decide)).trans (val2_main_v90 V0)
theorem val3_main_v110 (V0 : Valuation τ sig (Elt F)) : val3 V0 (no_index (Proc.devRef .tc main_v110)) = trunci 8 (ori (shapeCast _ (extractStridedSlice S2x1024x4096x1 ![0, 0, 0, 0] (res_main_v102 V0) slices_S2x1024x4096x2_S2x1024x4096x1_0_0_0_0) shapeCasts_S2x1024x4096x1_S2x1024x4096) (Host.shli (shapeCast _ (extractStridedSlice S2x1024x4096x1 ![0, 0, 0, 1] (res_main_v102 V0) slices_S2x1024x4096x2_S2x1024x4096x1_0_0_0_1) shapeCasts_S2x1024x4096x1_S2x1024x4096) (broadcastInDim S2x1024x4096 ![] bcast_S_S2x1024x4096 (constantI S_ 32 4#32)))) natLt_8_32 :=
  (val3_keep V0 main_v110 (by decide)).trans (val2_main_v110 V0)

theorem after_ops (V0 : Valuation τ sig (Elt F)) : after ops V0 = val3 V0 := by
  simp only [ops, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = trunci 8 (ori (shapeCast _ (extractStridedSlice S2x1024x4096x1 ![0, 0, 0, 0] (res_main_v102 (launchContents m c)) slices_S2x1024x4096x2_S2x1024x4096x1_0_0_0_0) shapeCasts_S2x1024x4096x1_S2x1024x4096) (Host.shli (shapeCast _ (extractStridedSlice S2x1024x4096x1 ![0, 0, 0, 1] (res_main_v102 (launchContents m c)) slices_S2x1024x4096x2_S2x1024x4096x1_0_0_0_1) shapeCasts_S2x1024x4096x1_S2x1024x4096) (broadcastInDim S2x1024x4096 ![] bcast_S_S2x1024x4096 (constantI S_ 32 4#32)))) natLt_8_32
      ∧ r.2.mem ((c.tc : Thread nD τ).loc main_v90) = select (cmpf .oeq (res_main_v85 (launchContents m c)) (broadcastInDim S2x1024x64 ![] bcast_S_S2x1024x64 (constant S_ .f32 0x00000000#32))) (broadcastInDim S2x1024x64 ![] bcast_S_S2x1024x64 (constant S_ .f32 0x3F800000#32)) (Host.divf (res_main_v85 (launchContents m c)) (broadcastInDim S2x1024x64 ![] bcast_S_S2x1024x64 (constant S_ .f32 0x40E00000#32)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v110).trans ((congrFun (after_ops (launchContents m c)) (Proc.devRef .tc main_v110)).trans (val3_main_v110 (launchContents m c))),
      (h c main_v90).trans ((congrFun (after_ops (launchContents m c)) (Proc.devRef .tc main_v90)).trans (val3_main_v90 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c)))⟩)
    (run_seq scopedRefs_eq scopedSems_eq defs main (fun _ => ops) main_eq (fun _ => ops_sub) m ρ fun _ => ops_fresh)

end Cert.Reference.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Hand.Launch
public import proofs.«01_k».proof.Proof.HandK.Launch
public import proofs.«01_k».proof.Proof.Hand.Algebra
public import proofs.«01_k».proof.Proof.HandR.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem claim : Cert.Claim := ⟨Cert.Kernel.Gen.facts, Cert.KernelIdeal.Gen.facts, Cert.Reference.Gen.facts, Cert.ReferenceIdeal.Gen.facts,
  fun m ρ _ => Cert.Kernel.Hand.frame m ρ, fun m ρ _ => Cert.KernelIdeal.Hand.frame m ρ,
  fun m ρ _ => (θ_run _ _ _).mono (fun r h => ⟨fun c => (h c).2.2, sem_eq_zero_of_no_sems (by decide) r.2⟩) (Cert.Reference.Value.run m ρ),
  fun m ρ _ => (θ_run _ _ _).mono (fun r h => ⟨fun c => (h c).2.2, sem_eq_zero_of_no_sems (by decide) r.2⟩) (Cert.ReferenceIdeal.Value.run m ρ),
  trivial, trivial, Cert.KernelIdeal.Hand.algebraic⟩

end Cert.Proof

end
